-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_bounded [hPre_bounded : Cert.Pre_bounded.Facts] (m : (ℓ : Loc Cert.KernelIdeal.nD Cert.KernelIdeal.τ Cert.KernelIdeal.sig) → Buf (Elt Ideal) ℓ) : Prop :=
  ∀ c : Dev Cert.KernelIdeal.nD,
    (Cert.Pre_bounded.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_bounded.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_bounded.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_bounded [hPre_bounded : Cert.Pre_bounded.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_bounded.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_bounded.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_bounded.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_bounded [hKernelIdeal : Cert.KernelIdeal.Facts] [hPre_bounded : Cert.Pre_bounded.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_bounded m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_bounded [hReferenceIdeal : Cert.ReferenceIdeal.Facts] [hPre_bounded : Cert.Pre_bounded.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_bounded m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "scaled_log2e" .f32 0x3E38AA3B#32 (((1 / 8) * (Real.log 2)⁻¹ : ℝ) : EReal)

def algebraic_KernelIdeal_ReferenceIdeal_pre_bounded [hKernelIdeal : Cert.KernelIdeal.Facts] [hReferenceIdeal : Cert.ReferenceIdeal.Facts] [hPre_bounded : Cert.Pre_bounded.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_bounded m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v64)) (v1 : (c : Dev Cert.KernelIdeal.nD) → Buf (Elt Ideal) ((c.tc : Thread Cert.KernelIdeal.nD Cert.KernelIdeal.τ).loc Cert.KernelIdeal.main_v65)) (v2 : (c : Dev Cert.KernelIdeal.nD) → Buf (Elt Ideal) ((c.tc : Thread Cert.KernelIdeal.nD Cert.KernelIdeal.τ).loc Cert.KernelIdeal.main_v66)) (v3 : (c : Dev Cert.KernelIdeal.nD) → Buf (Elt Ideal) ((c.tc : Thread Cert.KernelIdeal.nD Cert.KernelIdeal.τ).loc Cert.KernelIdeal.main_v67)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_v65) = v1 c
          ∧ r.2.mem ((c.tc : Thread Cert.KernelIdeal.nD Cert.KernelIdeal.τ).loc Cert.KernelIdeal.main_v66) = v2 c
          ∧ r.2.mem ((c.tc : Thread Cert.KernelIdeal.nD Cert.KernelIdeal.τ).loc Cert.KernelIdeal.main_v67) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v170) = v0 c
          ∧ r.2.mem ((c.tc : Thread Cert.ReferenceIdeal.nD Cert.ReferenceIdeal.τ).loc Cert.ReferenceIdeal.main_v171) = v1 c
          ∧ r.2.mem ((c.tc : Thread Cert.ReferenceIdeal.nD Cert.ReferenceIdeal.τ).loc Cert.ReferenceIdeal.main_v47) = v2 c
          ∧ r.2.mem ((c.tc : Thread Cert.ReferenceIdeal.nD Cert.ReferenceIdeal.τ).loc Cert.ReferenceIdeal.main_v73) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_bounded : Cert.Pre_bounded.Facts),
    quiescent_Kernel (hKernel := hKernel)
    ∧ quiescent_KernelIdeal (hKernelIdeal := hKernelIdeal)
    ∧ quiescent_KernelIdeal_pre_bounded (hKernelIdeal := hKernelIdeal) (hPre_bounded := hPre_bounded)
    ∧ quiescent_ReferenceIdeal (hReferenceIdeal := hReferenceIdeal)
    ∧ quiescent_ReferenceIdeal_pre_bounded (hReferenceIdeal := hReferenceIdeal) (hPre_bounded := hPre_bounded)
    ∧ preserves_Kernel_KernelIdeal
    ∧ algebraic_KernelIdeal_ReferenceIdeal_pre_bounded (hKernelIdeal := hKernelIdeal) (hReferenceIdeal := hReferenceIdeal) (hPre_bounded := hPre_bounded)
-- ==== Pre_bounded.lean ====
abbrev S4x8192x2048 : Shape := ⟨3, ![4, 8192, 2048]⟩
abbrev S4x8192x256 : Shape := ⟨3, ![4, 8192, 256]⟩
abbrev S_ : Shape := ⟨0, ![]⟩

class Facts : Prop where
  bitsLt_bf16_f32 : FTy.bits .bf16 < FTy.bits .f32
  bcast_S_S4x8192x2048 : S_.BroadcastsInDim S4x8192x2048 (![] : Fin 0 → Fin S4x8192x2048.rank)
  bcast_S_S4x8192x256 : S_.BroadcastsInDim S4x8192x256 (![] : Fin 0 → Fin S4x8192x256.rank)

variable [Facts]

def fn {F : FTy → Type} [FloatOps F] (main_arg0 : FVec F S4x8192x2048 .bf16) (main_arg1 : FVec F S4x8192x256 .bf16) (main_arg2 : FVec F S4x8192x256 .bf16) : IVec S4x8192x2048 1 × IVec S4x8192x256 1 × IVec S4x8192x256 1 :=
  let main_v0 : FVec F S4x8192x2048 .f32 := (extf .f32 · bitsLt_bf16_f32) main_arg0
  let main_v1 : FVec F S4x8192x2048 .f32 := Host.absf main_v0
  let main_cst : FVec F S_ .f32 := constant S_ .f32 0x7F7F0000#32
  let main_v2 : FVec F S4x8192x2048 .f32 := broadcastInDim S4x8192x2048 ![] bcast_S_S4x8192x2048 main_cst
  let main_v3 : IVec S4x8192x2048 1 := cmpf .ole main_v1 main_v2
  let main_v4 : FVec F S4x8192x256 .f32 := (extf .f32 · bitsLt_bf16_f32) main_arg1
  let main_v5 : FVec F S4x8192x256 .f32 := Host.absf main_v4
  let main_cst_0 : FVec F S_ .f32 := constant S_ .f32 0x7F7F0000#32
  let main_v6 : FVec F S4x8192x256 .f32 := broadcastInDim S4x8192x256 ![] bcast_S_S4x8192x256 main_cst_0
  let main_v7 : IVec S4x8192x256 1 := cmpf .ole main_v5 main_v6
  let main_v8 : FVec F S4x8192x256 .f32 := (extf .f32 · bitsLt_bf16_f32) main_arg2
  let main_v9 : FVec F S4x8192x256 .f32 := Host.absf main_v8
  let main_cst_1 : FVec F S_ .f32 := constant S_ .f32 0x7F7F0000#32
  let main_v10 : FVec F S4x8192x256 .f32 := broadcastInDim S4x8192x256 ![] bcast_S_S4x8192x256 main_cst_1
  let main_v11 : IVec S4x8192x256 1 := cmpf .ole main_v9 main_v10
  (main_v3, main_v7, main_v11)
-- ==== Kernel.lean ====
abbrev S4x8192x2048 : Shape := ⟨3, ![4, 8192, 2048]⟩
abbrev S4x8192x256 : Shape := ⟨3, ![4, 8192, 256]⟩
abbrev S32768x32x64 : Shape := ⟨3, ![32768, 32, 64]⟩
abbrev S32768x32 : Shape := ⟨2, ![32768, 32]⟩
abbrev S256x32x64 : Shape := ⟨3, ![256, 32, 64]⟩
abbrev S256x32 : Shape := ⟨2, ![256, 32]⟩
abbrev S256x32x1 : Shape := ⟨3, ![256, 32, 1]⟩
abbrev S32768x4x64 : Shape := ⟨3, ![32768, 4, 64]⟩
abbrev S32768x4 : Shape := ⟨2, ![32768, 4]⟩
abbrev S256x4x64 : Shape := ⟨3, ![256, 4, 64]⟩
abbrev S256x4 : Shape := ⟨2, ![256, 4]⟩
abbrev S256x4x1 : Shape := ⟨3, ![256, 4, 1]⟩
abbrev S4x8192x4x8x64 : Shape := ⟨5, ![4, 8192, 4, 8, 64]⟩
abbrev S4x4x8192x8x64 : Shape := ⟨5, ![4, 4, 8192, 8, 64]⟩
abbrev S4x4x65536x64 : Shape := ⟨4, ![4, 4, 65536, 64]⟩
abbrev S4x256x32x4x8 : Shape := ⟨5, ![4, 256, 32, 4, 8]⟩
abbrev S4x4x256x32x8 : Shape := ⟨5, ![4, 4, 256, 32, 8]⟩
abbrev S4x4x256x1x256 : Shape := ⟨5, ![4, 4, 256, 1, 256]⟩
abbrev S4x4x1024x64 : Shape := ⟨4, ![4, 4, 1024, 64]⟩
abbrev S4x8192x4x64 : Shape := ⟨4, ![4, 8192, 4, 64]⟩
abbrev S4x4x8192x64 : Shape := ⟨4, ![4, 4, 8192, 64]⟩
abbrev S4x4x9216x64 : Shape := ⟨4, ![4, 4, 9216, 64]⟩
abbrev S4x8192x4x1 : Shape := ⟨4, ![4, 8192, 4, 1]⟩
abbrev S4x4x8192x1 : Shape := ⟨4, ![4, 4, 8192, 1]⟩
abbrev S4x4x8192x128 : Shape := ⟨4, ![4, 4, 8192, 128]⟩
abbrev S_ : Shape := ⟨0, ![]⟩
abbrev S4x4x9216x128 : Shape := ⟨4, ![4, 4, 9216, 128]⟩
abbrev S32 : Shape := ⟨1, ![32]⟩
abbrev S4x1x1x8 : Shape := ⟨4, ![4, 1, 1, 8]⟩
abbrev S1x32 : Shape := ⟨2, ![1, 32]⟩
abbrev S1056 : Shape := ⟨1, ![1056]⟩
abbrev S1056x1 : Shape := ⟨2, ![1056, 1]⟩
abbrev S1056x32 : Shape := ⟨2, ![1056, 32]⟩
abbrev S1x1056x32x1 : Shape := ⟨4, ![1, 1056, 32, 1]⟩
abbrev S4x1056x32x8 : Shape := ⟨4, ![4, 1056, 32, 8]⟩
abbrev S4x1056x256 : Shape := ⟨3, ![4, 1056, 256]⟩
abbrev S1x1x256x64 : Shape := ⟨4, ![1, 1, 256, 64]⟩
abbrev S1x1x1x1x256 : Shape := ⟨5, ![1, 1, 1, 1, 256]⟩
abbrev S1x1x9216x64 : Shape := ⟨4, ![1, 1, 9216, 64]⟩
abbrev S1x1x9216x128 : Shape := ⟨4, ![1, 1, 9216, 128]⟩
abbrev S1x1056x256 : Shape := ⟨3, ![1, 1056, 256]⟩
abbrev S1056x256 : Shape := ⟨2, ![1056, 256]⟩
abbrev S1x32x256 : Shape := ⟨3, ![1, 32, 256]⟩
abbrev S32x256 : Shape := ⟨2, ![32, 256]⟩
abbrev S1x1x1056x64 : Shape := ⟨4, ![1, 1, 1056, 64]⟩
abbrev S1056x64 : Shape := ⟨2, ![1056, 64]⟩
abbrev S256x64 : Shape := ⟨2, ![256, 64]⟩
abbrev S1x256 : Shape := ⟨2, ![1, 256]⟩
abbrev S1x1x1056x1 : Shape := ⟨4, ![1, 1, 1056, 1]⟩
abbrev S256 : Shape := ⟨1, ![256]⟩
abbrev S64x256 : Shape := ⟨2, ![64, 256]⟩
abbrev S4x4x8192x512 : Shape := ⟨4, ![4, 4, 8192, 512]⟩
abbrev S4x8192x4x512 : Shape := ⟨4, ![4, 8192, 4, 512]⟩
abbrev S4x8192x32 : Shape := ⟨3, ![4, 8192, 32]⟩
abbrev S4x8192x4 : Shape := ⟨3, ![4, 8192, 4]⟩

abbrev nBuf : Space → Nat
  | .hbm => 89
  | .vmem => 36
  | .smem => 0
  | _ => 0

abbrev bufTy : (tb : Table) → Fin (tcTables nBuf tb) → BufTy
  | .hbm, ⟨0, _⟩ => ⟨S4x8192x2048, .bf16⟩
  | .hbm, ⟨1, _⟩ => ⟨S4x8192x256, .bf16⟩
  | .hbm, ⟨2, _⟩ => ⟨S4x8192x256, .bf16⟩
  | .hbm, ⟨3, _⟩ => ⟨S32768x32x64, .bf16⟩
  | .hbm, ⟨4, _⟩ => ⟨S32768x32x64, .fp8e4m3⟩
  | .hbm, ⟨5, _⟩ => ⟨S32768x32, .f32⟩
  | .hbm, ⟨6, _⟩ => ⟨S32768x4x64, .bf16⟩
  | .hbm, ⟨7, _⟩ => ⟨S32768x4x64, .fp8e4m3⟩
  | .hbm, ⟨8, _⟩ => ⟨S32768x4, .f32⟩
  | .hbm, ⟨9, _⟩ => ⟨S32768x4x64, .bf16⟩
  | .hbm, ⟨10, _⟩ => ⟨S32768x4x64, .fp8e4m3⟩
  | .hbm, ⟨11, _⟩ => ⟨S32768x4, .f32⟩
  | .hbm, ⟨12, _⟩ => ⟨S4x8192x4x8x64, .fp8e4m3⟩
  | .hbm, ⟨13, _⟩ => ⟨S4x4x8192x8x64, .fp8e4m3⟩
  | .hbm, ⟨14, _⟩ => ⟨S4x4x65536x64, .fp8e4m3⟩
  | .hbm, ⟨15, _⟩ => ⟨S4x256x32x4x8, .f32⟩
  | .hbm, ⟨16, _⟩ => ⟨S4x4x256x32x8, .f32⟩
  | .hbm, ⟨17, _⟩ => ⟨S4x4x256x1x256, .f32⟩
  | .hbm, ⟨18, _⟩ => ⟨S4x4x1024x64, .fp8e4m3⟩
  | .hbm, ⟨19, _⟩ => ⟨S4x8192x4x64, .fp8e4m3⟩
  | .hbm, ⟨20, _⟩ => ⟨S4x4x8192x64, .fp8e4m3⟩
  | .hbm, ⟨21, _⟩ => ⟨S4x4x9216x64, .fp8e4m3⟩
  | .hbm, ⟨22, _⟩ => ⟨S4x8192x4x64, .fp8e4m3⟩
  | .hbm, ⟨23, _⟩ => ⟨S4x4x8192x64, .fp8e4m3⟩
  | .hbm, ⟨24, _⟩ => ⟨S4x4x9216x64, .fp8e4m3⟩
  | .hbm, ⟨25, _⟩ => ⟨S4x8192x4x1, .f32⟩
  | .hbm, ⟨26, _⟩ => ⟨S4x4x8192x1, .f32⟩
  | .hbm, ⟨27, _⟩ => ⟨S4x4x8192x128, .f32⟩
  | .hbm, ⟨28, _⟩ => ⟨S_, .f32⟩
  | .hbm, ⟨29, _⟩ => ⟨S_, .f32⟩
  | .hbm, ⟨30, _⟩ => ⟨S4x4x9216x128, .f32⟩
  | .hbm, ⟨31, _⟩ => ⟨S4x8192x4x1, .f32⟩
  | .hbm, ⟨32, _⟩ => ⟨S4x4x8192x1, .f32⟩
  | .hbm, ⟨33, _⟩ => ⟨S4x4x8192x128, .f32⟩
  | .hbm, ⟨34, _⟩ => ⟨S_, .f32⟩
  | .hbm, ⟨35, _⟩ => ⟨S_, .f32⟩
  | .hbm, ⟨36, _⟩ => ⟨S4x4x9216x128, .f32⟩
  | .hbm, ⟨37, _⟩ => ⟨S32, .f32⟩
  | .hbm, ⟨38, _⟩ => ⟨S_, .f32⟩
  | .hbm, ⟨39, _⟩ => ⟨S32, .f32⟩
  | .hbm, ⟨40, _⟩ => ⟨S32, .f32⟩
  | .hbm, ⟨41, _⟩ => ⟨S_, .f32⟩
  | .hbm, ⟨42, _⟩ => ⟨S32, .f32⟩
  | .hbm, ⟨43, _⟩ => ⟨S32, .f32⟩
  | .hbm, ⟨44, _⟩ => ⟨S_, .f32⟩
  | .hbm, ⟨45, _⟩ => ⟨S32, .f32⟩
  | .hbm, ⟨46, _⟩ => ⟨S32, .f32⟩
  | .hbm, ⟨47, _⟩ => ⟨S_, .f32⟩
  | .hbm, ⟨48, _⟩ => ⟨S32, .f32⟩
  | .hbm, ⟨49, _⟩ => ⟨S32, .f32⟩
  | .hbm, ⟨50, _⟩ => ⟨S32, .f32⟩
  | .hbm, ⟨51, _⟩ => ⟨S4x1x1x8, .f32⟩
  | .hbm, ⟨52, _⟩ => ⟨S32, .i32⟩
  | .hbm, ⟨53, _⟩ => ⟨S1x32, .i32⟩
  | .hbm, ⟨54, _⟩ => ⟨S_, .i32⟩
  | .hbm, ⟨55, _⟩ => ⟨S1x32, .i32⟩
  | .hbm, ⟨56, _⟩ => ⟨S1x32, .i32⟩
  | .hbm, ⟨57, _⟩ => ⟨S1056, .i32⟩
  | .hbm, ⟨58, _⟩ => ⟨S1056x1, .i32⟩
  | .hbm, ⟨59, _⟩ => ⟨S1056x32, .i32⟩
  | .hbm, ⟨60, _⟩ => ⟨S1056x32, .i32⟩
  | .hbm, ⟨61, _⟩ => ⟨S1056x32, .i32⟩
  | .hbm, ⟨62, _⟩ => ⟨S_, .i32⟩
  | .hbm, ⟨63, _⟩ => ⟨S1056x32, .i32⟩
  | .hbm, ⟨64, _⟩ => ⟨S1056x32, .i1⟩
  | .hbm, ⟨65, _⟩ => ⟨S_, .i32⟩
  | .hbm, ⟨66, _⟩ => ⟨S1056x32, .i32⟩
  | .hbm, ⟨67, _⟩ => ⟨S1056x32, .i1⟩
  | .hbm, ⟨68, _⟩ => ⟨S1056x32, .i1⟩
  | .hbm, ⟨69, _⟩ => ⟨S4x1x1x8, .f32⟩
  | .hbm, ⟨70, _⟩ => ⟨S1056x32, .f32⟩
  | .hbm, ⟨71, _⟩ => ⟨S1x1056x32x1, .f32⟩
  | .hbm, ⟨72, _⟩ => ⟨S4x1056x32x8, .f32⟩
  | .hbm, ⟨73, _⟩ => ⟨S4x1056x32x8, .f32⟩
  | .hbm, ⟨74, _⟩ => ⟨S4x1056x32x8, .f32⟩
  | .hbm, ⟨75, _⟩ => ⟨S1x1056x32x1, .i1⟩
  | .hbm, ⟨76, _⟩ => ⟨S_, .f32⟩
  | .hbm, ⟨77, _⟩ => ⟨S_, .f32⟩
  | .hbm, ⟨78, _⟩ => ⟨S4x1056x32x8, .i1⟩
  | .hbm, ⟨79, _⟩ => ⟨S4x1056x32x8, .f32⟩
  | .hbm, ⟨80, _⟩ => ⟨S4x1056x32x8, .f32⟩
  | .hbm, ⟨81, _⟩ => ⟨S4x1056x256, .f32⟩
  | .hbm, ⟨82, _⟩ => ⟨S4x4x65536x64, .bf16⟩
  | .hbm, ⟨83, _⟩ => ⟨S4x4x8192x512, .bf16⟩
  | .hbm, ⟨84, _⟩ => ⟨S4x8192x4x512, .bf16⟩
  | .hbm, ⟨85, _⟩ => ⟨S4x8192x2048, .bf16⟩
  | .hbm, ⟨86, _⟩ => ⟨S4x8192x32, .f32⟩
  | .hbm, ⟨87, _⟩ => ⟨S4x8192x4, .f32⟩
  | .hbm, ⟨88, _⟩ => ⟨S4x8192x4, .f32⟩
  | .local _ .vmem, ⟨0, _⟩ => ⟨S256x32x64, .bf16⟩
  | .local _ .vmem, ⟨1, _⟩ => ⟨S256x32x64, .bf16⟩
  | .local _ .vmem, ⟨2, _⟩ => ⟨S256x32x64, .fp8e4m3⟩
  | .local _ .vmem, ⟨3, _⟩ => ⟨S256x32x64, .fp8e4m3⟩
  | .local _ .vmem, ⟨4, _⟩ => ⟨S256x32, .f32⟩
  | .local _ .vmem, ⟨5, _⟩ => ⟨S256x32, .f32⟩
  | .local _ .vmem, ⟨6, _⟩ => ⟨S256x4x64, .bf16⟩
  | .local _ .vmem, ⟨7, _⟩ => ⟨S256x4x64, .bf16⟩
  | .local _ .vmem, ⟨8, _⟩ => ⟨S256x4x64, .fp8e4m3⟩
  | .local _ .vmem, ⟨9, _⟩ => ⟨S256x4x64, .fp8e4m3⟩
  | .local _ .vmem, ⟨10, _⟩ => ⟨S256x4, .f32⟩
  | .local _ .vmem, ⟨11, _⟩ => ⟨S256x4, .f32⟩
  | .local _ .vmem, ⟨12, _⟩ => ⟨S256x4x64, .bf16⟩
  | .local _ .vmem, ⟨13, _⟩ => ⟨S256x4x64, .bf16⟩
  | .local _ .vmem, ⟨14, _⟩ => ⟨S256x4x64, .fp8e4m3⟩
  | .local _ .vmem, ⟨15, _⟩ => ⟨S256x4x64, .fp8e4m3⟩
  | .local _ .vmem, ⟨16, _⟩ => ⟨S256x4, .f32⟩
  | .local _ .vmem, ⟨17, _⟩ => ⟨S256x4, .f32⟩
  | .local _ .vmem, ⟨18, _⟩ => ⟨S4x4x1024x64, .fp8e4m3⟩
  | .local _ .vmem, ⟨19, _⟩ => ⟨S1x1x256x64, .fp8e4m3⟩
  | .local _ .vmem, ⟨20, _⟩ => ⟨S1x1x256x64, .fp8e4m3⟩
  | .local _ .vmem, ⟨21, _⟩ => ⟨S1x1x1x1x256, .f32⟩
  | .local _ .vmem, ⟨22, _⟩ => ⟨S1x1x1x1x256, .f32⟩
  | .local _ .vmem, ⟨23, _⟩ => ⟨S1x1x9216x64, .fp8e4m3⟩
  | .local _ .vmem, ⟨24, _⟩ => ⟨S1x1x9216x64, .fp8e4m3⟩
  | .local _ .vmem, ⟨25, _⟩ => ⟨S1x1x9216x128, .f32⟩
  | .local _ .vmem, ⟨26, _⟩ => ⟨S1x1x9216x128, .f32⟩
  | .local _ .vmem, ⟨27, _⟩ => ⟨S1x1x9216x64, .fp8e4m3⟩
  | .local _ .vmem, ⟨28, _⟩ => ⟨S1x1x9216x64, .fp8e4m3⟩
  | .local _ .vmem, ⟨29, _⟩ => ⟨S1x1x9216x128, .f32⟩
  | .local _ .vmem, ⟨30, _⟩ => ⟨S1x1x9216x128, .f32⟩
  | .local _ .vmem, ⟨31, _⟩ => ⟨S1x1056x256, .f32⟩
  | .local _ .vmem, ⟨32, _⟩ => ⟨S1x1056x256, .f32⟩
  | .local _ .vmem, ⟨33, _⟩ => ⟨S1x1x256x64, .bf16⟩
  | .local _ .vmem, ⟨34, _⟩ => ⟨S1x1x256x64, .bf16⟩
  | .local _ .vmem, ⟨35, _⟩ => ⟨S1056x256, .f32⟩
  | _, _ => ⟨S4x8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst : Ref sig .tc := ⟨.hbm, 28, rfl⟩
abbrev main_call0_v0 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_0 : Ref sig .tc := ⟨.hbm, 34, rfl⟩
abbrev main_call1_v0 : Ref sig .tc := ⟨.hbm, 35, rfl⟩
abbrev main_v26 : Ref sig .tc := ⟨.hbm, 36, rfl⟩
abbrev main_v27 : Ref sig .tc := ⟨.hbm, 37, rfl⟩
abbrev main_cst_1 : Ref sig .tc := ⟨.hbm, 38, rfl⟩
abbrev main_v28 : Ref sig .tc := ⟨.hbm, 39, rfl⟩
abbrev main_v29 : Ref sig .tc := ⟨.hbm, 40, rfl⟩
abbrev main_cst_2 : Ref sig .tc := ⟨.hbm, 41, rfl⟩
abbrev main_v30 : Ref sig .tc := ⟨.hbm, 42, rfl⟩
abbrev main_v31 : Ref sig .tc := ⟨.hbm, 43, rfl⟩
abbrev main_cst_3 : Ref sig .tc := ⟨.hbm, 44, rfl⟩
abbrev main_v32 : Ref sig .tc := ⟨.hbm, 45, rfl⟩
abbrev main_v33 : Ref sig .tc := ⟨.hbm, 46, rfl⟩
abbrev main_cst_4 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_c : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_c_5 : Ref sig .tc := ⟨.hbm, 62, rfl⟩
abbrev main_v47 : Ref sig .tc := ⟨.hbm, 63, rfl⟩
abbrev main_v48 : Ref sig .tc := ⟨.hbm, 64, rfl⟩
abbrev main_c_6 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_cst_7 : Ref sig .tc := ⟨.hbm, 76, rfl⟩
abbrev main_call2_v0 : Ref sig .tc := ⟨.hbm, 77, rfl⟩
abbrev main_call2_v1 : Ref sig .tc := ⟨.hbm, 78, rfl⟩
abbrev main_call2_v2 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc4_stg0_0 : Ref sig .tc := ⟨.vmem, 19, rfl⟩
abbrev cc4_stg0_1 : Ref sig .tc := ⟨.vmem, 20, rfl⟩
abbrev cc4_stg1_0 : Ref sig .tc := ⟨.vmem, 21, rfl⟩
abbrev cc4_stg1_1 : Ref sig .tc := ⟨.vmem, 22, rfl⟩
abbrev cc4_stg2_0 : Ref sig .tc := ⟨.vmem, 23, rfl⟩
abbrev cc4_stg2_1 : Ref sig .tc := ⟨.vmem, 24, rfl⟩
abbrev cc4_stg3_0 : Ref sig .tc := ⟨.vmem, 25, rfl⟩
abbrev cc4_stg3_1 : Ref sig .tc := ⟨.vmem, 26, rfl⟩
abbrev cc4_stg4_0 : Ref sig .tc := ⟨.vmem, 27, rfl⟩
abbrev cc4_stg4_1 : Ref sig .tc := ⟨.vmem, 28, rfl⟩
abbrev cc4_stg5_0 : Ref sig .tc := ⟨.vmem, 29, rfl⟩
abbrev cc4_stg5_1 : Ref sig .tc := ⟨.vmem, 30, rfl⟩
abbrev cc4_stg6_0 : Ref sig .tc := ⟨.vmem, 31, rfl⟩
abbrev cc4_stg6_1 : Ref sig .tc := ⟨.vmem, 32, rfl⟩
abbrev cc4_stg7_0 : Ref sig .tc := ⟨.vmem, 33, rfl⟩
abbrev cc4_stg7_1 : Ref sig .tc := ⟨.vmem, 34, rfl⟩
abbrev cc4_scratch0 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc4_sem0_0 : DmaSem sig := 19
abbrev cc4_sem0_1 : DmaSem sig := 20
abbrev cc4_sem1_0 : DmaSem sig := 21
abbrev cc4_sem1_1 : DmaSem sig := 22
abbrev cc4_sem2_0 : DmaSem sig := 23
abbrev cc4_sem2_1 : DmaSem sig := 24
abbrev cc4_sem3_0 : DmaSem sig := 25
abbrev cc4_sem3_1 : DmaSem sig := 26
abbrev cc4_sem4_0 : DmaSem sig := 27
abbrev cc4_sem4_1 : DmaSem sig := 28
abbrev cc4_sem5_0 : DmaSem sig := 29
abbrev cc4_sem5_1 : DmaSem sig := 30
abbrev cc4_sem6_0 : DmaSem sig := 31
abbrev cc4_sem6_1 : DmaSem sig := 32
abbrev cc4_sem7_0 : DmaSem sig := 33
abbrev cc4_sem7_1 : DmaSem sig := 34

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x32x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x32x64 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![128], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x4x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x4x64 .fp8e4m3 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x4 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![128], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x4x64 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S256x4x64 .fp8e4m3 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S256x4 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := .none

abbrev stage3_0 : Fin 1 → Memref sig .tc .vmem S4x4x1024x64 .fp8e4m3 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))

abbrev grid4 : Pipeline.Grid := ⟨3, ![4, 4, 256], ![false, false, false]⟩

def k4_mult1 (i : grid4.Coords) : BitVec 32 :=
  let arg2 : BitVec 32 := BitVec.ofNat 32 (i 2).val
  let c32_i32 : BitVec 32 := 32#32
  let v3 : BitVec 32 := Scalar.muli arg2 c32_i32
  v3
def k4_off1 (i : grid4.Coords) : Fin 4 → Nat :=
  let c0 : Index := 0#32
  let c0_1 : Index := 0#32
  let arg2 : BitVec 32 := BitVec.ofNat 32 (i 2).val
  let c32_i32 : BitVec 32 := 32#32
  let v3 : BitVec 32 := Scalar.muli arg2 c32_i32
  let v4 : BitVec 32 := v3
  let v5 : Index := Scalar.indexCast v4
  let c0_2 : Index := 0#32
  ![0, 0, v5.toNat, 0]
def k4_off2 (i : grid4.Coords) : Fin 4 → Nat :=
  let c0_13 : Index := 0#32
  let c0_14 : Index := 0#32
  let arg2 : BitVec 32 := BitVec.ofNat 32 (i 2).val
  let c32_i32 : BitVec 32 := 32#32
  let v3 : BitVec 32 := Scalar.muli arg2 c32_i32
  let v4 : BitVec 32 := v3
  let v15 : Index := Scalar.indexCast v4
  let c0_15 : Index := 0#32
  ![0, 0, v15.toNat, 0]
def k4_cond2 (i : grid4.Coords) : BitVec 1 :=
  let arg2 : BitVec 32 := BitVec.ofNat 32 (i 2).val
  let c32_i32_58 : BitVec 32 := 32#32
  let v151 : BitVec 1 := Scalar.cmpi .slt arg2 c32_i32_58
  let v152 : BitVec 32 := Scalar.extui v151
  let c0_i32_59 : BitVec 32 := 0#32
  let v153 : BitVec 1 := Scalar.cmpi .ne v152 c0_i32_59
  v153

def k4_mult2 (i : grid4.Coords) : BitVec 32 :=
  let c1024_i32 : BitVec 32 := 1024#32
  let arg2 : BitVec 32 := BitVec.ofNat 32 (i 2).val
  let c1_i32_60 : BitVec 32 := 1#32
  let v154 : BitVec 32 := Scalar.addi arg2 c1_i32_60
  let c32_i32_61 : BitVec 32 := 32#32
  let v155 : BitVec 32 := Scalar.muli v154 c32_i32_61
  let v156 : BitVec 32 := Scalar.subi c1024_i32 v155
  v156
def k4_off3 (i : grid4.Coords) : Fin 3 → Nat :=
  let c0_62 : Index := 0#32
  let c1024_i32 : BitVec 32 := 1024#32
  let arg2 : BitVec 32 := BitVec.ofNat 32 (i 2).val
  let c1_i32_60 : BitVec 32 := 1#32
  let v154 : BitVec 32 := Scalar.addi arg2 c1_i32_60
  let c32_i32_61 : BitVec 32 := 32#32
  let v155 : BitVec 32 := Scalar.muli v154 c32_i32_61
  let v156 : BitVec 32 := Scalar.subi c1024_i32 v155
  let v157 : BitVec 32 := v156
  let v158 : Index := Scalar.indexCast v157
  let c0_63 : Index := 0#32
  ![0, v158.toNat, 0]
def k4_off4 (i : grid4.Coords) : Fin 2 → Nat :=
  let c1024_i32 : BitVec 32 := 1024#32
  let arg2 : BitVec 32 := BitVec.ofNat 32 (i 2).val
  let c1_i32_60 : BitVec 32 := 1#32
  let v154 : BitVec 32 := Scalar.addi arg2 c1_i32_60
  let c32_i32_61 : BitVec 32 := 32#32
  let v155 : BitVec 32 := Scalar.muli v154 c32_i32_61
  let v156 : BitVec 32 := Scalar.subi c1024_i32 v155
  let v157 : BitVec 32 := v156
  let v163 : Index := Scalar.indexCast v157
  let c0_65 : Index := 0#32
  ![v163.toNat, 0]
def cc4_transform_0 (i : grid4.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc4_transform_1 (i : grid4.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, arg2.toNat, c0_i32.toNat, c0_i32_0.toNat]

def cc4_transform_2 (i : grid4.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc4_transform_3 (i : grid4.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc4_transform_4 (i : grid4.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc4_transform_5 (i : grid4.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc4_transform_6 (i : grid4.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc4_transform_7 (i : grid4.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage4_0 : Fin 2 → Memref sig .tc .vmem S1x1x256x64 .fp8e4m3 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true, true]

abbrev stage4_1 : Fin 2 → Memref sig .tc .vmem S1x1x1x1x256 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, true, true]

abbrev stage4_2 : Fin 2 → Memref sig .tc .vmem S1x1x9216x64 .fp8e4m3 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]

abbrev stage4_3 : Fin 2 → Memref sig .tc .vmem S1x1x9216x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, true, false]

abbrev stage4_4 : Fin 2 → Memref sig .tc .vmem S1x1x9216x64 .fp8e4m3 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true, true, false]

abbrev stage4_5 : Fin 2 → Memref sig .tc .vmem S1x1x9216x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true, true, false]

abbrev stage4_6 : Fin 2 → Memref sig .tc .vmem S1x1056x256 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![false, true, false]

abbrev stage4_7 : Fin 2 → Memref sig .tc .vmem S1x1x256x64 .bf16 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true, true, true]
-- ==== KernelIdeal.lean ====
variable {F : FTy → Type} [FloatOps F] [Named F]
def κ : String → Option EReal := fun
  | "log2e" => some (((Real.log 2)⁻¹ : ℝ) : EReal)
  | "scaled_log2e" => some (((1 / 8) * (Real.log 2)⁻¹ : ℝ) : EReal)
  | _ => none
-- ==== ReferenceIdeal.lean ====
abbrev S4x8192x2048 : Shape := ⟨3, ![4, 8192, 2048]⟩
abbrev S4x8192x256 : Shape := ⟨3, ![4, 8192, 256]⟩
abbrev S4x8192x4x8x64 : Shape := ⟨5, ![4, 8192, 4, 8, 64]⟩
abbrev S_ : Shape := ⟨0, ![]⟩
abbrev S4x8192x4x8 : Shape := ⟨4, ![4, 8192, 4, 8]⟩
abbrev S253 : Shape := ⟨1, ![253]⟩
abbrev S4x8192x4x8x1 : Shape := ⟨5, ![4, 8192, 4, 8, 1]⟩
abbrev S1x1x1x1x253 : Shape := ⟨5, ![1, 1, 1, 1, 253]⟩
abbrev S4x8192x4x8x253 : Shape := ⟨5, ![4, 8192, 4, 8, 253]⟩
abbrev S4x8192x4x64 : Shape := ⟨4, ![4, 8192, 4, 64]⟩
abbrev S4x8192x4 : Shape := ⟨3, ![4, 8192, 4]⟩
abbrev S4x8192x4x1 : Shape := ⟨4, ![4, 8192, 4, 1]⟩
abbrev S1x1x1x253 : Shape := ⟨4, ![1, 1, 1, 253]⟩
abbrev S4x8192x4x253 : Shape := ⟨4, ![4, 8192, 4, 253]⟩
abbrev S32 : Shape := ⟨1, ![32]⟩
abbrev S4x8 : Shape := ⟨2, ![4, 8]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S4x8x1x1 : Shape := ⟨4, ![4, 8, 1, 1]⟩
abbrev S1x1x8192x8192 : Shape := ⟨4, ![1, 1, 8192, 8192]⟩
abbrev S4x8x8192x8192 : Shape := ⟨4, ![4, 8, 8192, 8192]⟩
abbrev S4x4x8192x8192x8 : Shape := ⟨5, ![4, 4, 8192, 8192, 8]⟩
abbrev S4x4x8x8192x8192 : Shape := ⟨5, ![4, 4, 8, 8192, 8192]⟩
abbrev S4x4x8x8192 : Shape := ⟨4, ![4, 4, 8, 8192]⟩
abbrev S4x4x8x8192x1 : Shape := ⟨5, ![4, 4, 8, 8192, 1]⟩
abbrev S4x4x8192 : Shape := ⟨3, ![4, 4, 8192]⟩
abbrev S4x4x1x1x8192 : Shape := ⟨5, ![4, 4, 1, 1, 8192]⟩
abbrev S1x4x8x8192x8192 : Shape := ⟨5, ![1, 4, 8, 8192, 8192]⟩
abbrev S4x4x8x8192x253 : Shape := ⟨5, ![4, 4, 8, 8192, 253]⟩
abbrev S4x4x64x8x8192 : Shape := ⟨5, ![4, 4, 64, 8, 8192]⟩
abbrev S4x8192x32 : Shape := ⟨3, ![4, 8192, 32]⟩

abbrev nBuf : Space → Nat
  | .hbm => 269
  | .vmem => 0
  | .smem => 0
  | _ => 0

abbrev hbmTy0_0 (i : Nat) : BufTy := match i % 128 with
  | 0 => ⟨S4x8192x2048, .bf16⟩
  | 1 => ⟨S4x8192x256, .bf16⟩
  | 2 => ⟨S4x8192x256, .bf16⟩
  | 3 => ⟨S4x8192x4x8x64, .bf16⟩
  | 4 => ⟨S4x8192x4x8x64, .f32⟩
  | 5 => ⟨S4x8192x4x8x64, .f32⟩
  | 6 => ⟨S_, .f32⟩
  | 7 => ⟨S4x8192x4x8, .f32⟩
  | 8 => ⟨S_, .f32⟩
  | 9 => ⟨S4x8192x4x8, .f32⟩
  | 10 => ⟨S4x8192x4x8, .f32⟩
  | 11 => ⟨S253, .i32⟩
  | 12 => ⟨S_, .i32⟩
  | 13 => ⟨S253, .i32⟩
  | 14 => ⟨S253, .i32⟩
  | 15 => ⟨S_, .i32⟩
  | 16 => ⟨S253, .i32⟩
  | 17 => ⟨S253, .i32⟩
  | 18 => ⟨S253, .f32⟩
  | 19 => ⟨S4x8192x4x8x1, .f32⟩
  | 20 => ⟨S1x1x1x1x253, .f32⟩
  | 21 => ⟨S4x8192x4x8x253, .f32⟩
  | 22 => ⟨S4x8192x4x8x253, .f32⟩
  | 23 => ⟨S4x8192x4x8x253, .i1⟩
  | 24 => ⟨S_, .f32⟩
  | 25 => ⟨S_, .f32⟩
  | 26 => ⟨S4x8192x4x8x253, .f32⟩
  | 27 => ⟨S4x8192x4x8x253, .f32⟩
  | 28 => ⟨S4x8192x4x8x253, .f32⟩
  | 29 => ⟨S_, .f32⟩
  | 30 => ⟨S4x8192x4x8, .f32⟩
  | 31 => ⟨S_, .f32⟩
  | 32 => ⟨S4x8192x4x8, .f32⟩
  | 33 => ⟨S4x8192x4x8, .i1⟩
  | 34 => ⟨S_, .f32⟩
  | 35 => ⟨S_, .f32⟩
  | 36 => ⟨S4x8192x4x8, .f32⟩
  | 37 => ⟨S4x8192x4x8, .f32⟩
  | 38 => ⟨S4x8192x4x8x1, .f32⟩
  | 39 => ⟨S4x8192x4x8x64, .f32⟩
  | 40 => ⟨S4x8192x4x8x64, .f32⟩
  | 41 => ⟨S_, .f32⟩
  | 42 => ⟨S_, .f32⟩
  | 43 => ⟨S_, .f32⟩
  | 44 => ⟨S4x8192x4x8x64, .f32⟩
  | 45 => ⟨S4x8192x4x8x64, .f32⟩
  | 46 => ⟨S_, .f32⟩
  | 47 => ⟨S4x8192x4x8x64, .f32⟩
  | 48 => ⟨S4x8192x4x8x64, .f32⟩
  | 49 => ⟨S4x8192x4x64, .bf16⟩
  | 50 => ⟨S4x8192x4x64, .f32⟩
  | 51 => ⟨S4x8192x4x64, .f32⟩
  | 52 => ⟨S_, .f32⟩
  | 53 => ⟨S4x8192x4, .f32⟩
  | 54 => ⟨S_, .f32⟩
  | 55 => ⟨S4x8192x4, .f32⟩
  | 56 => ⟨S4x8192x4, .f32⟩
  | 57 => ⟨S253, .i32⟩
  | 58 => ⟨S_, .i32⟩
  | 59 => ⟨S253, .i32⟩
  | 60 => ⟨S253, .i32⟩
  | 61 => ⟨S_, .i32⟩
  | 62 => ⟨S253, .i32⟩
  | 63 => ⟨S253, .i32⟩
  | 64 => ⟨S253, .f32⟩
  | 65 => ⟨S4x8192x4x1, .f32⟩
  | 66 => ⟨S1x1x1x253, .f32⟩
  | 67 => ⟨S4x8192x4x253, .f32⟩
  | 68 => ⟨S4x8192x4x253, .f32⟩
  | 69 => ⟨S4x8192x4x253, .i1⟩
  | 70 => ⟨S_, .f32⟩
  | 71 => ⟨S_, .f32⟩
  | 72 => ⟨S4x8192x4x253, .f32⟩
  | 73 => ⟨S4x8192x4x253, .f32⟩
  | 74 => ⟨S4x8192x4x253, .f32⟩
  | 75 => ⟨S_, .f32⟩
  | 76 => ⟨S4x8192x4, .f32⟩
  | 77 => ⟨S_, .f32⟩
  | 78 => ⟨S4x8192x4, .f32⟩
  | 79 => ⟨S4x8192x4, .i1⟩
  | 80 => ⟨S_, .f32⟩
  | 81 => ⟨S_, .f32⟩
  | 82 => ⟨S4x8192x4, .f32⟩
  | 83 => ⟨S4x8192x4, .f32⟩
  | 84 => ⟨S4x8192x4x1, .f32⟩
  | 85 => ⟨S4x8192x4x64, .f32⟩
  | 86 => ⟨S4x8192x4x64, .f32⟩
  | 87 => ⟨S_, .f32⟩
  | 88 => ⟨S_, .f32⟩
  | 89 => ⟨S_, .f32⟩
  | 90 => ⟨S4x8192x4x64, .f32⟩
  | 91 => ⟨S4x8192x4x64, .f32⟩
  | 92 => ⟨S_, .f32⟩
  | 93 => ⟨S4x8192x4x64, .f32⟩
  | 94 => ⟨S4x8192x4x64, .f32⟩
  | 95 => ⟨S4x8192x4x64, .bf16⟩
  | 96 => ⟨S4x8192x4x64, .f32⟩
  | 97 => ⟨S4x8192x4x64, .f32⟩
  | 98 => ⟨S_, .f32⟩
  | 99 => ⟨S4x8192x4, .f32⟩
  | 100 => ⟨S_, .f32⟩
  | 101 => ⟨S4x8192x4, .f32⟩
  | 102 => ⟨S4x8192x4, .f32⟩
  | 103 => ⟨S253, .i32⟩
  | 104 => ⟨S_, .i32⟩
  | 105 => ⟨S253, .i32⟩
  | 106 => ⟨S253, .i32⟩
  | 107 => ⟨S_, .i32⟩
  | 108 => ⟨S253, .i32⟩
  | 109 => ⟨S253, .i32⟩
  | 110 => ⟨S253, .f32⟩
  | 111 => ⟨S4x8192x4x1, .f32⟩
  | 112 => ⟨S1x1x1x253, .f32⟩
  | 113 => ⟨S4x8192x4x253, .f32⟩
  | 114 => ⟨S4x8192x4x253, .f32⟩
  | 115 => ⟨S4x8192x4x253, .i1⟩
  | 116 => ⟨S_, .f32⟩
  | 117 => ⟨S_, .f32⟩
  | 118 => ⟨S4x8192x4x253, .f32⟩
  | 119 => ⟨S4x8192x4x253, .f32⟩
  | 120 => ⟨S4x8192x4x253, .f32⟩
  | 121 => ⟨S_, .f32⟩
  | 122 => ⟨S4x8192x4, .f32⟩
  | 123 => ⟨S_, .f32⟩
  | 124 => ⟨S4x8192x4, .f32⟩
  | 125 => ⟨S4x8192x4, .i1⟩
  | 126 => ⟨S_, .f32⟩
  | 127 => ⟨S_, .f32⟩
  | _ => ⟨S4x8192x2048, .bf16⟩

abbrev hbmTy0_1 (i : Nat) : BufTy := match i % 128 with
  | 0 => ⟨S4x8192x4, .f32⟩
  | 1 => ⟨S4x8192x4, .f32⟩
  | 2 => ⟨S4x8192x4x1, .f32⟩
  | 3 => ⟨S4x8192x4x64, .f32⟩
  | 4 => ⟨S4x8192x4x64, .f32⟩
  | 5 => ⟨S_, .f32⟩
  | 6 => ⟨S_, .f32⟩
  | 7 => ⟨S_, .f32⟩
  | 8 => ⟨S4x8192x4x64, .f32⟩
  | 9 => ⟨S4x8192x4x64, .f32⟩
  | 10 => ⟨S_, .f32⟩
  | 11 => ⟨S4x8192x4x64, .f32⟩
  | 12 => ⟨S4x8192x4x64, .f32⟩
  | 13 => ⟨S32, .f32⟩
  | 14 => ⟨S_, .f32⟩
  | 15 => ⟨S32, .f32⟩
  | 16 => ⟨S32, .f32⟩
  | 17 => ⟨S_, .f32⟩
  | 18 => ⟨S32, .f32⟩
  | 19 => ⟨S32, .f32⟩
  | 20 => ⟨S_, .f32⟩
  | 21 => ⟨S32, .f32⟩
  | 22 => ⟨S32, .f32⟩
  | 23 => ⟨S_, .f32⟩
  | 24 => ⟨S32, .f32⟩
  | 25 => ⟨S32, .f32⟩
  | 26 => ⟨S32, .f32⟩
  | 27 => ⟨S4x8, .f32⟩
  | 28 => ⟨S8192, .i32⟩
  | 29 => ⟨S8192x1, .i32⟩
  | 30 => ⟨S8192, .i32⟩
  | 31 => ⟨S1x8192, .i32⟩
  | 32 => ⟨S8192x8192, .i32⟩
  | 33 => ⟨S8192x8192, .i32⟩
  | 34 => ⟨S8192x8192, .i32⟩
  | 35 => ⟨S4x8x1x1, .f32⟩
  | 36 => ⟨S4x8x1x1, .f32⟩
  | 37 => ⟨S8192x8192, .f32⟩
  | 38 => ⟨S1x1x8192x8192, .f32⟩
  | 39 => ⟨S4x8x8192x8192, .f32⟩
  | 40 => ⟨S4x8x8192x8192, .f32⟩
  | 41 => ⟨S4x8x8192x8192, .f32⟩
  | 42 => ⟨S4x4x8192x8192x8, .f32⟩
  | 43 => ⟨S4x4x8x8192x8192, .f32⟩
  | 44 => ⟨S4x4x8x8192, .f32⟩
  | 45 => ⟨S4x4x8x8192x1, .f32⟩
  | 46 => ⟨S4x4x8192, .f32⟩
  | 47 => ⟨S4x4x1x1x8192, .f32⟩
  | 48 => ⟨S4x4x8x8192x8192, .f32⟩
  | 49 => ⟨S4x4x8x8192x8192, .f32⟩
  | 50 => ⟨S4x4x8x8192x8192, .f32⟩
  | 51 => ⟨S4x4x8x8192x8192, .f32⟩
  | 52 => ⟨S_, .f32⟩
  | 53 => ⟨S4x4x8x8192x8192, .f32⟩
  | 54 => ⟨S4x4x8x8192x8192, .f32⟩
  | 55 => ⟨S1x4x8x8192x8192, .f32⟩
  | 56 => ⟨S4x4x8x8192x8192, .f32⟩
  | 57 => ⟨S4x4x8x8192x8192, .f32⟩
  | 58 => ⟨S_, .i32⟩
  | 59 => ⟨S8192x8192, .i32⟩
  | 60 => ⟨S8192x8192, .i1⟩
  | 61 => ⟨S_, .i32⟩
  | 62 => ⟨S8192x8192, .i32⟩
  | 63 => ⟨S8192x8192, .i1⟩
  | 64 => ⟨S8192x8192, .i1⟩
  | 65 => ⟨S_, .f32⟩
  | 66 => ⟨S_, .f32⟩
  | 67 => ⟨S4x4x8x8192x8192, .i1⟩
  | 68 => ⟨S4x4x8x8192x8192, .f32⟩
  | 69 => ⟨S4x4x8x8192x8192, .f32⟩
  | 70 => ⟨S_, .f32⟩
  | 71 => ⟨S4x4x8x8192, .f32⟩
  | 72 => ⟨S_, .f32⟩
  | 73 => ⟨S4x4x8x8192, .f32⟩
  | 74 => ⟨S4x4x8x8192, .f32⟩
  | 75 => ⟨S4x4x8x8192x1, .f32⟩
  | 76 => ⟨S4x4x8x8192x8192, .f32⟩
  | 77 => ⟨S4x4x8x8192x8192, .f32⟩
  | 78 => ⟨S4x4x8x8192x8192, .f32⟩
  | 79 => ⟨S_, .f32⟩
  | 80 => ⟨S4x4x8x8192, .f32⟩
  | 81 => ⟨S4x4x8x8192x1, .f32⟩
  | 82 => ⟨S4x4x8x8192x8192, .f32⟩
  | 83 => ⟨S4x4x8x8192x8192, .f32⟩
  | 84 => ⟨S4x4x8192, .f32⟩
  | 85 => ⟨S4x4x1x1x8192, .f32⟩
  | 86 => ⟨S4x4x8x8192x8192, .f32⟩
  | 87 => ⟨S4x4x8x8192x8192, .f32⟩
  | 88 => ⟨S4x4x8x8192x8192, .f32⟩
  | 89 => ⟨S_, .f32⟩
  | 90 => ⟨S4x4x8x8192, .f32⟩
  | 91 => ⟨S_, .f32⟩
  | 92 => ⟨S4x4x8x8192, .f32⟩
  | 93 => ⟨S4x4x8x8192, .f32⟩
  | 94 => ⟨S253, .i32⟩
  | 95 => ⟨S_, .i32⟩
  | 96 => ⟨S253, .i32⟩
  | 97 => ⟨S253, .i32⟩
  | 98 => ⟨S_, .i32⟩
  | 99 => ⟨S253, .i32⟩
  | 100 => ⟨S253, .i32⟩
  | 101 => ⟨S253, .f32⟩
  | 102 => ⟨S4x4x8x8192x1, .f32⟩
  | 103 => ⟨S1x1x1x1x253, .f32⟩
  | 104 => ⟨S4x4x8x8192x253, .f32⟩
  | 105 => ⟨S4x4x8x8192x253, .f32⟩
  | 106 => ⟨S4x4x8x8192x253, .i1⟩
  | 107 => ⟨S_, .f32⟩
  | 108 => ⟨S_, .f32⟩
  | 109 => ⟨S4x4x8x8192x253, .f32⟩
  | 110 => ⟨S4x4x8x8192x253, .f32⟩
  | 111 => ⟨S4x4x8x8192x253, .f32⟩
  | 112 => ⟨S_, .f32⟩
  | 113 => ⟨S4x4x8x8192, .f32⟩
  | 114 => ⟨S_, .f32⟩
  | 115 => ⟨S4x4x8x8192, .f32⟩
  | 116 => ⟨S4x4x8x8192, .i1⟩
  | 117 => ⟨S_, .f32⟩
  | 118 => ⟨S_, .f32⟩
  | 119 => ⟨S4x4x8x8192, .f32⟩
  | 120 => ⟨S4x4x8x8192, .f32⟩
  | 121 => ⟨S4x4x8x8192x1, .f32⟩
  | 122 => ⟨S4x4x8x8192x8192, .f32⟩
  | 123 => ⟨S4x4x8x8192x8192, .f32⟩
  | 124 => ⟨S_, .f32⟩
  | 125 => ⟨S_, .f32⟩
  | 126 => ⟨S_, .f32⟩
  | 127 => ⟨S4x4x8x8192x8192, .f32⟩
  | _ => ⟨S4x8192x2048, .bf16⟩

abbrev hbmTy0_2 (i : Nat) : BufTy := match i % 128 with
  | 0 => ⟨S4x4x8x8192x8192, .f32⟩
  | 1 => ⟨S_, .f32⟩
  | 2 => ⟨S4x4x8x8192x8192, .f32⟩
  | 3 => ⟨S4x4x8x8192x8192, .f32⟩
  | 4 => ⟨S4x4x64x8x8192, .f32⟩
  | 5 => ⟨S4x8192x4x8x64, .f32⟩
  | 6 => ⟨S4x8192x4x8, .f32⟩
  | 7 => ⟨S4x8192x4x8x1, .f32⟩
  | 8 => ⟨S4x8192x4x8x64, .f32⟩
  | 9 => ⟨S4x8192x4x8x64, .f32⟩
  | 10 => ⟨S4x8192x2048, .f32⟩
  | 11 => ⟨S4x8192x2048, .bf16⟩
  | 12 => ⟨S4x8192x32, .f32⟩
  | _ => ⟨S4x8192x2048, .bf16⟩

abbrev hbmTy (i : Nat) : BufTy := match i / 128 with
  | 0 => hbmTy0_0 i
  | 1 => hbmTy0_1 i
  | 2 => hbmTy0_2 i
  | _ => ⟨S4x8192x2048, .bf16⟩

abbrev bufTy : (tb : Table) → Fin (tcTables nBuf tb) → BufTy
  | .hbm, ⟨i, _⟩ => hbmTy i
  | _, _ => ⟨S4x8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_v7 : Ref sig .tc := ⟨.hbm, 13, rfl⟩
abbrev main_v8 : Ref sig .tc := ⟨.hbm, 14, rfl⟩
abbrev main_c_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_call1_v0 : Ref sig .tc := ⟨.hbm, 35, rfl⟩
abbrev main_call1_v1 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_6 : Ref sig .tc := ⟨.hbm, 41, rfl⟩
abbrev main_cst_7 : Ref sig .tc := ⟨.hbm, 42, rfl⟩
abbrev main_call2_v0 : Ref sig .tc := ⟨.hbm, 43, rfl⟩
abbrev main_call2_v1 : Ref sig .tc := ⟨.hbm, 44, rfl⟩
abbrev main_call2_v2 : Ref sig .tc := ⟨.hbm, 45, rfl⟩
abbrev main_call2_v3 : Ref sig .tc := ⟨.hbm, 46, rfl⟩
abbrev main_call2_v4 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_cst_8 : Ref sig .tc := ⟨.hbm, 52, rfl⟩
abbrev main_v29 : Ref sig .tc := ⟨.hbm, 53, rfl⟩
abbrev main_cst_9 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_c_10 : Ref sig .tc := ⟨.hbm, 58, rfl⟩
abbrev main_v33 : Ref sig .tc := ⟨.hbm, 59, rfl⟩
abbrev main_v34 : Ref sig .tc := ⟨.hbm, 60, rfl⟩
abbrev main_c_11 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_cst_12 : Ref sig .tc := ⟨.hbm, 70, rfl⟩
abbrev main_call3_v0 : Ref sig .tc := ⟨.hbm, 71, rfl⟩
abbrev main_call3_v1 : Ref sig .tc := ⟨.hbm, 72, rfl⟩
abbrev main_call3_v2 : Ref sig .tc := ⟨.hbm, 73, rfl⟩
abbrev main_v43 : Ref sig .tc := ⟨.hbm, 74, rfl⟩
abbrev main_cst_13 : Ref sig .tc := ⟨.hbm, 75, rfl⟩
abbrev main_v44 : Ref sig .tc := ⟨.hbm, 76, rfl⟩
abbrev main_cst_14 : Ref sig .tc := ⟨.hbm, 77, rfl⟩
abbrev main_v45 : Ref sig .tc := ⟨.hbm, 78, rfl⟩
abbrev main_v46 : Ref sig .tc := ⟨.hbm, 79, rfl⟩
abbrev main_cst_15 : Ref sig .tc := ⟨.hbm, 80, rfl⟩
abbrev main_call4_v0 : Ref sig .tc := ⟨.hbm, 81, rfl⟩
abbrev main_call4_v1 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_cst_16 : Ref sig .tc := ⟨.hbm, 87, rfl⟩
abbrev main_cst_17 : Ref sig .tc := ⟨.hbm, 88, rfl⟩
abbrev main_call5_v0 : Ref sig .tc := ⟨.hbm, 89, rfl⟩
abbrev main_call5_v1 : Ref sig .tc := ⟨.hbm, 90, rfl⟩
abbrev main_call5_v2 : Ref sig .tc := ⟨.hbm, 91, rfl⟩
abbrev main_call5_v3 : Ref sig .tc := ⟨.hbm, 92, rfl⟩
abbrev main_call5_v4 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_v54 : Ref sig .tc := ⟨.hbm, 97, rfl⟩
abbrev main_cst_18 : Ref sig .tc := ⟨.hbm, 98, rfl⟩
abbrev main_v55 : Ref sig .tc := ⟨.hbm, 99, rfl⟩
abbrev main_cst_19 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩
abbrev main_c_20 : Ref sig .tc := ⟨.hbm, 104, rfl⟩
abbrev main_v59 : Ref sig .tc := ⟨.hbm, 105, rfl⟩
abbrev main_v60 : Ref sig .tc := ⟨.hbm, 106, rfl⟩
abbrev main_c_21 : Ref sig .tc := ⟨.hbm, 107, rfl⟩
abbrev main_v61 : Ref sig .tc := ⟨.hbm, 108, rfl⟩
abbrev main_v62 : Ref sig .tc := ⟨.hbm, 109, rfl⟩
abbrev main_v63 : Ref sig .tc := ⟨.hbm, 110, rfl⟩
abbrev main_v64 : Ref sig .tc := ⟨.hbm, 111, rfl⟩
abbrev main_v65 : Ref sig .tc := ⟨.hbm, 112, rfl⟩
abbrev main_v66 : Ref sig .tc := ⟨.hbm, 113, rfl⟩
abbrev main_v67 : Ref sig .tc := ⟨.hbm, 114, rfl⟩
abbrev main_v68 : Ref sig .tc := ⟨.hbm, 115, rfl⟩
abbrev main_cst_22 : Ref sig .tc := ⟨.hbm, 116, rfl⟩
abbrev main_call6_v0 : Ref sig .tc := ⟨.hbm, 117, rfl⟩
abbrev main_call6_v1 : Ref sig .tc := ⟨.hbm, 118, rfl⟩
abbrev main_call6_v2 : Ref sig .tc := ⟨.hbm, 119, rfl⟩
abbrev main_v69 : Ref sig .tc := ⟨.hbm, 120, rfl⟩
abbrev main_cst_23 : Ref sig .tc := ⟨.hbm, 121, rfl⟩
abbrev main_v70 : Ref sig .tc := ⟨.hbm, 122, rfl⟩
abbrev main_cst_24 : Ref sig .tc := ⟨.hbm, 123, rfl⟩
abbrev main_v71 : Ref sig .tc := ⟨.hbm, 124, rfl⟩
abbrev main_v72 : Ref sig .tc := ⟨.hbm, 125, rfl⟩
abbrev main_cst_25 : Ref sig .tc := ⟨.hbm, 126, rfl⟩
abbrev main_call7_v0 : Ref sig .tc := ⟨.hbm, 127, rfl⟩
abbrev main_call7_v1 : Ref sig .tc := ⟨.hbm, 128, rfl⟩
abbrev main_v73 : Ref sig .tc := ⟨.hbm, 129, rfl⟩
abbrev main_v74 : Ref sig .tc := ⟨.hbm, 130, rfl⟩
abbrev main_v75 : Ref sig .tc := ⟨.hbm, 131, rfl⟩
abbrev main_v76 : Ref sig .tc := ⟨.hbm, 132, rfl⟩
abbrev main_cst_26 : Ref sig .tc := ⟨.hbm, 133, rfl⟩
abbrev main_cst_27 : Ref sig .tc := ⟨.hbm, 134, rfl⟩
abbrev main_call8_v0 : Ref sig .tc := ⟨.hbm, 135, rfl⟩
abbrev main_call8_v1 : Ref sig .tc := ⟨.hbm, 136, rfl⟩
abbrev main_call8_v2 : Ref sig .tc := ⟨.hbm, 137, rfl⟩
abbrev main_call8_v3 : Ref sig .tc := ⟨.hbm, 138, rfl⟩
abbrev main_call8_v4 : Ref sig .tc := ⟨.hbm, 139, rfl⟩
abbrev main_v77 : Ref sig .tc := ⟨.hbm, 140, rfl⟩
abbrev main_v78 : Ref sig .tc := ⟨.hbm, 141, rfl⟩
abbrev main_cst_28 : Ref sig .tc := ⟨.hbm, 142, rfl⟩
abbrev main_v79 : Ref sig .tc := ⟨.hbm, 143, rfl⟩
abbrev main_v80 : Ref sig .tc := ⟨.hbm, 144, rfl⟩
abbrev main_cst_29 : Ref sig .tc := ⟨.hbm, 145, rfl⟩
abbrev main_v81 : Ref sig .tc := ⟨.hbm, 146, rfl⟩
abbrev main_v82 : Ref sig .tc := ⟨.hbm, 147, rfl⟩
abbrev main_cst_30 : Ref sig .tc := ⟨.hbm, 148, rfl⟩
abbrev main_v83 : Ref sig .tc := ⟨.hbm, 149, rfl⟩
abbrev main_v84 : Ref sig .tc := ⟨.hbm, 150, rfl⟩
abbrev main_cst_31 : Ref sig .tc := ⟨.hbm, 151, rfl⟩
abbrev main_v85 : Ref sig .tc := ⟨.hbm, 152, rfl⟩
abbrev main_v86 : Ref sig .tc := ⟨.hbm, 153, rfl⟩
abbrev main_v87 : Ref sig .tc := ⟨.hbm, 154, rfl⟩
abbrev main_v88 : Ref sig .tc := ⟨.hbm, 155, rfl⟩
abbrev main_v89 : Ref sig .tc := ⟨.hbm, 156, rfl⟩
abbrev main_v90 : Ref sig .tc := ⟨.hbm, 157, rfl⟩
abbrev main_v91 : Ref sig .tc := ⟨.hbm, 158, rfl⟩
abbrev main_v92 : Ref sig .tc := ⟨.hbm, 159, rfl⟩
abbrev main_v93 : Ref sig .tc := ⟨.hbm, 160, rfl⟩
abbrev main_v94 : Ref sig .tc := ⟨.hbm, 161, rfl⟩
abbrev main_v95 : Ref sig .tc := ⟨.hbm, 162, rfl⟩
abbrev main_v96 : Ref sig .tc := ⟨.hbm, 163, rfl⟩
abbrev main_v97 : Ref sig .tc := ⟨.hbm, 164, rfl⟩
abbrev main_v98 : Ref sig .tc := ⟨.hbm, 165, rfl⟩
abbrev main_v99 : Ref sig .tc := ⟨.hbm, 166, rfl⟩
abbrev main_v100 : Ref sig .tc := ⟨.hbm, 167, rfl⟩
abbrev main_v101 : Ref sig .tc := ⟨.hbm, 168, rfl⟩
abbrev main_v102 : Ref sig .tc := ⟨.hbm, 169, rfl⟩
abbrev main_v103 : Ref sig .tc := ⟨.hbm, 170, rfl⟩
abbrev main_v104 : Ref sig .tc := ⟨.hbm, 171, rfl⟩
abbrev main_v105 : Ref sig .tc := ⟨.hbm, 172, rfl⟩
abbrev main_v106 : Ref sig .tc := ⟨.hbm, 173, rfl⟩
abbrev main_v107 : Ref sig .tc := ⟨.hbm, 174, rfl⟩
abbrev main_v108 : Ref sig .tc := ⟨.hbm, 175, rfl⟩
abbrev main_v109 : Ref sig .tc := ⟨.hbm, 176, rfl⟩
abbrev main_v110 : Ref sig .tc := ⟨.hbm, 177, rfl⟩
abbrev main_v111 : Ref sig .tc := ⟨.hbm, 178, rfl⟩
abbrev main_v112 : Ref sig .tc := ⟨.hbm, 179, rfl⟩
abbrev main_cst_32 : Ref sig .tc := ⟨.hbm, 180, rfl⟩
abbrev main_v113 : Ref sig .tc := ⟨.hbm, 181, rfl⟩
abbrev main_v114 : Ref sig .tc := ⟨.hbm, 182, rfl⟩
abbrev main_v115 : Ref sig .tc := ⟨.hbm, 183, rfl⟩
abbrev main_v116 : Ref sig .tc := ⟨.hbm, 184, rfl⟩
abbrev main_v117 : Ref sig .tc := ⟨.hbm, 185, rfl⟩
abbrev main_c_33 : Ref sig .tc := ⟨.hbm, 186, rfl⟩
abbrev main_v118 : Ref sig .tc := ⟨.hbm, 187, rfl⟩
abbrev main_v119 : Ref sig .tc := ⟨.hbm, 188, rfl⟩
abbrev main_c_34 : Ref sig .tc := ⟨.hbm, 189, rfl⟩
abbrev main_v120 : Ref sig .tc := ⟨.hbm, 190, rfl⟩
abbrev main_v121 : Ref sig .tc := ⟨.hbm, 191, rfl⟩
abbrev main_v122 : Ref sig .tc := ⟨.hbm, 192, rfl⟩
abbrev main_cst_35 : Ref sig .tc := ⟨.hbm, 193, rfl⟩
abbrev main_call9_v0 : Ref sig .tc := ⟨.hbm, 194, rfl⟩
abbrev main_call9_v1 : Ref sig .tc := ⟨.hbm, 195, rfl⟩
abbrev main_call9_v2 : Ref sig .tc := ⟨.hbm, 196, rfl⟩
abbrev main_v123 : Ref sig .tc := ⟨.hbm, 197, rfl⟩
abbrev main_cst_36 : Ref sig .tc := ⟨.hbm, 198, rfl⟩
abbrev main_v124 : Ref sig .tc := ⟨.hbm, 199, rfl⟩
abbrev main_cst_37 : Ref sig .tc := ⟨.hbm, 200, rfl⟩
abbrev main_v125 : Ref sig .tc := ⟨.hbm, 201, rfl⟩
abbrev main_v126 : Ref sig .tc := ⟨.hbm, 202, rfl⟩
abbrev main_v127 : Ref sig .tc := ⟨.hbm, 203, rfl⟩
abbrev main_v128 : Ref sig .tc := ⟨.hbm, 204, rfl⟩
abbrev main_v129 : Ref sig .tc := ⟨.hbm, 205, rfl⟩
abbrev main_v130 : Ref sig .tc := ⟨.hbm, 206, rfl⟩
abbrev main_cst_38 : Ref sig .tc := ⟨.hbm, 207, rfl⟩
abbrev main_v131 : Ref sig .tc := ⟨.hbm, 208, rfl⟩
abbrev main_v132 : Ref sig .tc := ⟨.hbm, 209, rfl⟩
abbrev main_v133 : Ref sig .tc := ⟨.hbm, 210, rfl⟩
abbrev main_v134 : Ref sig .tc := ⟨.hbm, 211, rfl⟩
abbrev main_v135 : Ref sig .tc := ⟨.hbm, 212, rfl⟩
abbrev main_v136 : Ref sig .tc := ⟨.hbm, 213, rfl⟩
abbrev main_v137 : Ref sig .tc := ⟨.hbm, 214, rfl⟩
abbrev main_v138 : Ref sig .tc := ⟨.hbm, 215, rfl⟩
abbrev main_v139 : Ref sig .tc := ⟨.hbm, 216, rfl⟩
abbrev main_cst_39 : Ref sig .tc := ⟨.hbm, 217, rfl⟩
abbrev main_v140 : Ref sig .tc := ⟨.hbm, 218, rfl⟩
abbrev main_cst_40 : Ref sig .tc := ⟨.hbm, 219, rfl⟩
abbrev main_v141 : Ref sig .tc := ⟨.hbm, 220, rfl⟩
abbrev main_v142 : Ref sig .tc := ⟨.hbm, 221, rfl⟩
abbrev main_v143 : Ref sig .tc := ⟨.hbm, 222, rfl⟩
abbrev main_c_41 : Ref sig .tc := ⟨.hbm, 223, rfl⟩
abbrev main_v144 : Ref sig .tc := ⟨.hbm, 224, rfl⟩
abbrev main_v145 : Ref sig .tc := ⟨.hbm, 225, rfl⟩
abbrev main_c_42 : Ref sig .tc := ⟨.hbm, 226, rfl⟩
abbrev main_v146 : Ref sig .tc := ⟨.hbm, 227, rfl⟩
abbrev main_v147 : Ref sig .tc := ⟨.hbm, 228, rfl⟩
abbrev main_v148 : Ref sig .tc := ⟨.hbm, 229, rfl⟩
abbrev main_v149 : Ref sig .tc := ⟨.hbm, 230, rfl⟩
abbrev main_v150 : Ref sig .tc := ⟨.hbm, 231, rfl⟩
abbrev main_v151 : Ref sig .tc := ⟨.hbm, 232, rfl⟩
abbrev main_v152 : Ref sig .tc := ⟨.hbm, 233, rfl⟩
abbrev main_v153 : Ref sig .tc := ⟨.hbm, 234, rfl⟩
abbrev main_cst_43 : Ref sig .tc := ⟨.hbm, 235, rfl⟩
abbrev main_call10_v0 : Ref sig .tc := ⟨.hbm, 236, rfl⟩
abbrev main_call10_v1 : Ref sig .tc := ⟨.hbm, 237, rfl⟩
abbrev main_call10_v2 : Ref sig .tc := ⟨.hbm, 238, rfl⟩
abbrev main_v154 : Ref sig .tc := ⟨.hbm, 239, rfl⟩
abbrev main_cst_44 : Ref sig .tc := ⟨.hbm, 240, rfl⟩
abbrev main_v155 : Ref sig .tc := ⟨.hbm, 241, rfl⟩
abbrev main_cst_45 : Ref sig .tc := ⟨.hbm, 242, rfl⟩
abbrev main_v156 : Ref sig .tc := ⟨.hbm, 243, rfl⟩
abbrev main_v157 : Ref sig .tc := ⟨.hbm, 244, rfl⟩
abbrev main_cst_46 : Ref sig .tc := ⟨.hbm, 245, rfl⟩
abbrev main_call11_v0 : Ref sig .tc := ⟨.hbm, 246, rfl⟩
abbrev main_call11_v1 : Ref sig .tc := ⟨.hbm, 247, rfl⟩
abbrev main_v158 : Ref sig .tc := ⟨.hbm, 248, rfl⟩
abbrev main_v159 : Ref sig .tc := ⟨.hbm, 249, rfl⟩
abbrev main_v160 : Ref sig .tc := ⟨.hbm, 250, rfl⟩
abbrev main_v161 : Ref sig .tc := ⟨.hbm, 251, rfl⟩
abbrev main_cst_47 : Ref sig .tc := ⟨.hbm, 252, rfl⟩
abbrev main_cst_48 : Ref sig .tc := ⟨.hbm, 253, rfl⟩
abbrev main_call12_v0 : Ref sig .tc := ⟨.hbm, 254, rfl⟩
abbrev main_call12_v1 : Ref sig .tc := ⟨.hbm, 255, rfl⟩
abbrev main_call12_v2 : Ref sig .tc := ⟨.hbm, 256, rfl⟩
abbrev main_call12_v3 : Ref sig .tc := ⟨.hbm, 257, rfl⟩
abbrev main_call12_v4 : Ref sig .tc := ⟨.hbm, 258, rfl⟩
abbrev main_v162 : Ref sig .tc := ⟨.hbm, 259, rfl⟩
abbrev main_v163 : Ref sig .tc := ⟨.hbm, 260, rfl⟩
abbrev main_v164 : Ref sig .tc := ⟨.hbm, 261, rfl⟩
abbrev main_v165 : Ref sig .tc := ⟨.hbm, 262, rfl⟩
abbrev main_v166 : Ref sig .tc := ⟨.hbm, 263, rfl⟩
abbrev main_v167 : Ref sig .tc := ⟨.hbm, 264, rfl⟩
abbrev main_v168 : Ref sig .tc := ⟨.hbm, 265, rfl⟩
abbrev main_v169 : Ref sig .tc := ⟨.hbm, 266, rfl⟩
abbrev main_v170 : Ref sig .tc := ⟨.hbm, 267, rfl⟩
abbrev main_v171 : Ref sig .tc := ⟨.hbm, 268, rfl⟩

abbrev nD : Nat := 1
abbrev τ : Topo := Topo.v7x

variable {F : FTy → Type} [FloatOps F]
-- ==== Proof.Kernel.Body.lean ====
/- The attention kernel's body on whole staging memrefs: what one grid point writes to its output block and what it
   leaves in the bias scratch, for any earlier contents of the scratch. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.Exec
public import Idealize.ShloMosaic.Lib.Pipeline.Kit
public import Idealize.ShloMosaic.Lib.VecWindow
public import Idealize.ShloMosaic.Lib.Pipeline.Value

@[expose] public section

noncomputable section

namespace Cert.Kernel.Attend

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {U : Type} [URA U] {Lvl : Type} [Preorder Lvl]

local notation "𝕄" => MT nD τ sig Ix (Elt F) ℕ U Lvl

open VecWindow (put)

/-- The first branch's condition: the point is the first of its batch and head. -/
abbrev cond1 (i : grid4.Coords) : BitVec 1 :=
  Scalar.cmpi .ne (Scalar.extui (Scalar.cmpi .eq (BitVec.ofNat 32 (i 2).val) 0#32) : BitVec 32) 0#32

/-- The scratch as the first branch leaves it: no bias above the diagonal tile, the diagonal tile's bias below. -/
def scrInit (x9 : Vec F S1x1056x256 .f32) : Vec F S1056x256 .f32 :=
  put (s := S1056x256) (k4_pay3 (F := F)) ![1024, 0] S32x256.size
    (k4_pay4 (View.ld (Val := Elt F) x9 (Rect.unit (s := S1x1056x256) ![0, 1024, 0] S1x32x256.size inb_S1x1056x256_S1x32x256_0_1024_0)))

/-- The scratch the tile reads. -/
def scrRead (i : grid4.Coords) (x9 : Vec F S1x1056x256 .f32) (w : Vec F S1056x256 .f32) : Vec F S1056x256 .f32 :=
  if cond1 i = 1#1 then scrInit x9 else w

/-- The scratch the tile leaves: one more row block of the bias in the first steps. -/
def scrNext (i : grid4.Coords) (x9 : Vec F S1x1056x256 .f32) (w : Vec F S1056x256 .f32) : Vec F S1056x256 .f32 :=
  if h : k4_cond2 i = 1#1 then
    put (s := S1056x256) w (k4_off4 i) S32x256.size
      (k4_pay2 (View.ld (Val := Elt F) x9 (Rect.unit (s := S1x1056x256) (k4_off3 i) S1x32x256.size (k4_off3_inb i h))))
  else w

/-- The tile's keys and values: the rows its step looks at. -/
abbrev rows1 (i : grid4.Coords) : Rect S1x1x9216x64 := Rect.unit (s := S1x1x9216x64) (k4_off1 i) S1x1x1056x64.size (k4_off1_inb i)
/-- The scales of those rows. -/
abbrev rows2 (i : grid4.Coords) : Rect S1x1x9216x128 := Rect.unit (s := S1x1x9216x128) (k4_off2 i) S1x1x1056x1.size (k4_off2_inb i)

/-- The denominators and the exponentials, from which the tile's output follows. -/
def tileOut (v28 : FVec F S1056x256 .f32) (v30 : FVec F S1x256 .f32) (v34 : Vec F S1x1x1056x1 .f32) (v141 : Vec F S1x1x1056x64 .fp8e4m3) : Vec F S1x1x256x64 .bf16 :=
  let cst : F .f32 := Scalar.ofBits .f32 0x3F800000#32
  let v42 := k4_pay9 v28 v30 cst v34
  let v70 := k4_pay10 v28 v30 cst v34
  let v72 := k4_pay11 v28 v30 cst v34
  k4_pay1 (k4_pay7 v30 cst) (k4_pay8 v28 v34) (k4_pay13 v42 v70 v72 k4_pay12) (k4_pay14 v42 v70 v72 k4_pay12) k4_pay15 v141

/-- The block one grid point writes, from its input blocks and the scratch it reads. -/
def outBlk (i : grid4.Coords) (x3 : Vec F S1x1x256x64 .fp8e4m3) (x4 : Vec F S1x1x1x1x256 .f32) (x5 : Vec F S1x1x9216x64 .fp8e4m3) (x6 : Vec F S1x1x9216x128 .f32) (x7 : Vec F S1x1x9216x64 .fp8e4m3) (x8 : Vec F S1x1x9216x128 .f32)
    (w : Vec F S1056x256 .f32) : Vec F S1x1x256x64 .bf16 :=
  let v6 := View.ld (Val := Elt F) x5 (rows1 i)
  let v16 := View.ld (Val := Elt F) x6 (rows2 i)
  let v8 := View.ld (Val := Elt F) x3 (Rect.unit (s := S1x1x256x64) ![0, 0, 0, 0] S1x1x256x64.size inb_S1x1x256x64_S1x1x256x64_0_0_0_0)
  let v11 := View.ld (Val := Elt F) x4 (Rect.unit (s := S1x1x1x1x256) ![0, 0, 0, 0, 0] S1x1x1x1x256.size inb_S1x1x1x1x256_S1x1x1x1x256_0_0_0_0_0)
  let v22 := View.ld (Val := Elt F) w (Rect.unit (s := S1056x256) ![0, 0] S1056x256.size inb_S1056x256_S1056x256_0_0)
  tileOut (k4_pay5 v6 v8 v11 v16 v22) (k4_pay6 v6 v8 v11 v16 v22) (View.ld (Val := Elt F) x8 (rows2 i)) (View.ld (Val := Elt F) x7 (rows1 i))

variable (𝒱₀ : Variants)

/-- The first branch's two stores, read back over anything. -/
theorem read_init (arg9 : Memref sig .tc .vmem S1x1056x256 .f32) (f9 : arg9.view.ty.Contents (Elt F)) (arg11 : Memref sig .tc .vmem S1056x256 .f32) (f : arg11.view.ty.Contents (Elt F)) :
    arg11.view.read (Elt F) (arg11.view.writes (Elt F) f
      [⟨Rect.unit (s := S1056x256) ![1024, 0] S32x256.size inb_S1056x256_S32x256_1024_0,
          k4_pay4 (arg9.view.readAt (Elt F) (Rect.unit (s := S1x1056x256) ![0, 1024, 0] S1x32x256.size inb_S1x1056x256_S1x32x256_0_1024_0).toLoadRect f9)⟩,
        ⟨Rect.unit (s := S1056x256) ![0, 0] S1056x256.size inb_S1056x256_S1056x256_0_0, k4_pay3 (F := F)⟩])
      = scrInit (arg9.view.read (Elt F) f9) := by
  rw [View.read_writes_cons_put _ _ _ _ _ rfl, View.read_writes_full]
  rfl

set_option maxHeartbeats 4000000 in
/-- The body at the first point of a batch and head: the scratch is filled anew. -/
theorem bodyFirst (c : Dev nD) (i : grid4.Coords) (arg3 : Memref sig .tc .vmem S1x1x256x64 .fp8e4m3) (harg3 : arg3.IsWhole) (arg4 : Memref sig .tc .vmem S1x1x1x1x256 .f32) (harg4 : arg4.IsWhole) (arg5 : Memref sig .tc .vmem S1x1x9216x64 .fp8e4m3) (harg5 : arg5.IsWhole) (arg6 : Memref sig .tc .vmem S1x1x9216x128 .f32) (harg6 : arg6.IsWhole)
    (arg7 : Memref sig .tc .vmem S1x1x9216x64 .fp8e4m3) (harg7 : arg7.IsWhole) (arg8 : Memref sig .tc .vmem S1x1x9216x128 .f32) (harg8 : arg8.IsWhole) (arg9 : Memref sig .tc .vmem S1x1056x256 .f32) (harg9 : arg9.IsWhole) (arg10 : Memref sig .tc .vmem S1x1x256x64 .bf16) (harg10 : arg10.IsWhole) (arg11 : Memref sig .tc .vmem S1056x256 .f32) (harg11 : arg11.IsWhole)
    (x3 : Vec F S1x1x256x64 .fp8e4m3) (x4 : Vec F S1x1x1x1x256 .f32) (x5 : Vec F S1x1x9216x64 .fp8e4m3) (x6 : Vec F S1x1x9216x128 .f32) (x7 : Vec F S1x1x9216x64 .fp8e4m3) (x8 : Vec F S1x1x9216x128 .f32)
    (x9 : Vec F S1x1056x256 .f32) (w : Vec F S1056x256 .f32)
    (h1 : cond1 i = 1#1) (h2 : k4_cond2 i = 1#1) (E : Set ℕ) (K : PUnit → sProp 𝕄) :
        iprop(owns (c : Thread nD τ) arg3 fullShare x3
            ∗ owns (c : Thread nD τ) arg4 fullShare x4
            ∗ owns (c : Thread nD τ) arg5 fullShare x5
            ∗ owns (c : Thread nD τ) arg6 fullShare x6
            ∗ owns (c : Thread nD τ) arg7 fullShare x7
            ∗ owns (c : Thread nD τ) arg8 fullShare x8
            ∗ owns (c : Thread nD τ) arg9 fullShare x9
            ∗ (∃ d, owns (c : Thread nD τ) arg10 fullShare d) ∗ owns (c : Thread nD τ) arg11 fullShare w
            ∗ (iprop(owns (c : Thread nD τ) arg3 fullShare x3
            ∗ owns (c : Thread nD τ) arg4 fullShare x4
            ∗ owns (c : Thread nD τ) arg5 fullShare x5
            ∗ owns (c : Thread nD τ) arg6 fullShare x6
            ∗ owns (c : Thread nD τ) arg7 fullShare x7
            ∗ owns (c : Thread nD τ) arg8 fullShare x8
            ∗ owns (c : Thread nD τ) arg9 fullShare x9
            ∗ owns (c : Thread nD τ) arg10 fullShare (outBlk i x3 x4 x5 x6 x7 x8 (scrRead i x9 w))
            ∗ owns (c : Thread nD τ) arg11 fullShare (scrNext i x9 (scrRead i x9 w))) -∗ K ⟨⟩))
          ⊢ wp frame (wpE (defs₀ (F := F)) 𝒱₀ c none) E (cc4_attend i arg3 harg3 arg4 harg4 arg5 harg5 arg6 harg6 arg7 harg7 arg8 harg8 arg9 harg9 arg10 harg10 arg11 harg11) K := by
    simp only [cc4_attend_eq_skeleton]; unfold cc4_attend_skel
    simp only [k4_part1_eq_skeleton, k4_part2_eq_skeleton, k4_part3_eq_skeleton]
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%f11, %hf11, H11⟩, Hk⟩
    sl_exec
    sl_step
    iapply Hk
    isplitl [H3]; · iexists _; isplitr; · ipureintro; exact hf3
                    iexact H3
    isplitl [H4]; · iexists _; isplitr; · ipureintro; exact hf4
                    iexact H4
    isplitl [H5]; · iexists _; isplitr; · ipureintro; exact hf5
                    iexact H5
    isplitl [H6]; · iexists _; isplitr; · ipureintro; exact hf6
                    iexact H6
    isplitl [H7]; · iexists _; isplitr; · ipureintro; exact hf7
                    iexact H7
    isplitl [H8]; · iexists _; isplitr; · ipureintro; exact hf8
                    iexact H8
    isplitl [H9]; · iexists _; isplitr; · ipureintro; exact hf9
                    iexact H9
    isplitl [H10]
    · iexists _; isplitr
      swap; · iexact H10
      ipureintro
      subst hf3 hf4 hf5 hf6 hf7 hf8 hf9 hf11
      rw [show scrRead i (View.read (Elt F) arg9.view f9) (View.read (Elt F) arg11.view f11) = scrInit (View.read (Elt F) arg9.view f9) from if_pos h1]
      refine (View.read_writes_full _ _ _ _ _).trans ?_
      exact congrArg (fun z => outBlk i (View.read (Elt F) arg3.view f3) (View.read (Elt F) arg4.view f4) (View.read (Elt F) arg5.view f5)
        (View.read (Elt F) arg6.view f6) (View.read (Elt F) arg7.view f7) (View.read (Elt F) arg8.view f8) z) (read_init arg9 f9 arg11 arg11.view.junk)
    · iexists _; isplitr
      swap; · iexact H11
      ipureintro
      subst hf3 hf4 hf5 hf6 hf7 hf8 hf9 hf11
      rw [show scrRead i (View.read (Elt F) arg9.view f9) (View.read (Elt F) arg11.view f11) = scrInit (View.read (Elt F) arg9.view f9) from if_pos h1]
      unfold scrNext; rw [dif_pos h2]
      refine (View.read_writes_cons_put _ _ _ _ _ rfl).trans ?_
      exact congrArg (fun z : Vec F S1056x256 .f32 => put (s := S1056x256) z (k4_off4 i) S32x256.size (k4_pay2 (View.ld (Val := Elt F) (View.read (Elt F) arg9.view f9) (Rect.unit (s := S1x1056x256) (k4_off3 i) S1x32x256.size (k4_off3_inb i h2))))) (read_init arg9 f9 arg11 f11)

set_option maxHeartbeats 4000000 in
/-- The body at a point of the first steps after it: one more row block of the bias goes into the scratch. -/
theorem bodyMid (c : Dev nD) (i : grid4.Coords) (arg3 : Memref sig .tc .vmem S1x1x256x64 .fp8e4m3) (harg3 : arg3.IsWhole) (arg4 : Memref sig .tc .vmem S1x1x1x1x256 .f32) (harg4 : arg4.IsWhole) (arg5 : Memref sig .tc .vmem S1x1x9216x64 .fp8e4m3) (harg5 : arg5.IsWhole) (arg6 : Memref sig .tc .vmem S1x1x9216x128 .f32) (harg6 : arg6.IsWhole)
    (arg7 : Memref sig .tc .vmem S1x1x9216x64 .fp8e4m3) (harg7 : arg7.IsWhole) (arg8 : Memref sig .tc .vmem S1x1x9216x128 .f32) (harg8 : arg8.IsWhole) (arg9 : Memref sig .tc .vmem S1x1056x256 .f32) (harg9 : arg9.IsWhole) (arg10 : Memref sig .tc .vmem S1x1x256x64 .bf16) (harg10 : arg10.IsWhole) (arg11 : Memref sig .tc .vmem S1056x256 .f32) (harg11 : arg11.IsWhole)
    (x3 : Vec F S1x1x256x64 .fp8e4m3) (x4 : Vec F S1x1x1x1x256 .f32) (x5 : Vec F S1x1x9216x64 .fp8e4m3) (x6 : Vec F S1x1x9216x128 .f32) (x7 : Vec F S1x1x9216x64 .fp8e4m3) (x8 : Vec F S1x1x9216x128 .f32)
    (x9 : Vec F S1x1056x256 .f32) (w : Vec F S1056x256 .f32)
    (h1 : ¬ cond1 i = 1#1) (h2 : k4_cond2 i = 1#1) (E : Set ℕ) (K : PUnit → sProp 𝕄) :
        iprop(owns (c : Thread nD τ) arg3 fullShare x3
            ∗ owns (c : Thread nD τ) arg4 fullShare x4
            ∗ owns (c : Thread nD τ) arg5 fullShare x5
            ∗ owns (c : Thread nD τ) arg6 fullShare x6
            ∗ owns (c : Thread nD τ) arg7 fullShare x7
            ∗ owns (c : Thread nD τ) arg8 fullShare x8
            ∗ owns (c : Thread nD τ) arg9 fullShare x9
            ∗ (∃ d, owns (c : Thread nD τ) arg10 fullShare d) ∗ owns (c : Thread nD τ) arg11 fullShare w
            ∗ (iprop(owns (c : Thread nD τ) arg3 fullShare x3
            ∗ owns (c : Thread nD τ) arg4 fullShare x4
            ∗ owns (c : Thread nD τ) arg5 fullShare x5
            ∗ owns (c : Thread nD τ) arg6 fullShare x6
            ∗ owns (c : Thread nD τ) arg7 fullShare x7
            ∗ owns (c : Thread nD τ) arg8 fullShare x8
            ∗ owns (c : Thread nD τ) arg9 fullShare x9
            ∗ owns (c : Thread nD τ) arg10 fullShare (outBlk i x3 x4 x5 x6 x7 x8 (scrRead i x9 w))
            ∗ owns (c : Thread nD τ) arg11 fullShare (scrNext i x9 (scrRead i x9 w))) -∗ K ⟨⟩))
          ⊢ wp frame (wpE (defs₀ (F := F)) 𝒱₀ c none) E (cc4_attend i arg3 harg3 arg4 harg4 arg5 harg5 arg6 harg6 arg7 harg7 arg8 harg8 arg9 harg9 arg10 harg10 arg11 harg11) K := by
    simp only [cc4_attend_eq_skeleton]; unfold cc4_attend_skel
    simp only [k4_part1_eq_skeleton, k4_part2_eq_skeleton, k4_part3_eq_skeleton]
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%f11, %hf11, H11⟩, Hk⟩
    sl_exec
    sl_step
    iapply Hk
    isplitl [H3]; · iexists _; isplitr; · ipureintro; exact hf3
                    iexact H3
    isplitl [H4]; · iexists _; isplitr; · ipureintro; exact hf4
                    iexact H4
    isplitl [H5]; · iexists _; isplitr; · ipureintro; exact hf5
                    iexact H5
    isplitl [H6]; · iexists _; isplitr; · ipureintro; exact hf6
                    iexact H6
    isplitl [H7]; · iexists _; isplitr; · ipureintro; exact hf7
                    iexact H7
    isplitl [H8]; · iexists _; isplitr; · ipureintro; exact hf8
                    iexact H8
    isplitl [H9]; · iexists _; isplitr; · ipureintro; exact hf9
                    iexact H9
    isplitl [H10]
    · iexists _; isplitr
      swap; · iexact H10
      ipureintro
      subst hf3 hf4 hf5 hf6 hf7 hf8 hf9 hf11
      refine (View.read_writes_full _ _ _ _ _).trans ?_
      rw [show scrRead i (View.read (Elt F) arg9.view f9) (View.read (Elt F) arg11.view f11) = View.read (Elt F) arg11.view f11 from if_neg h1]
      rfl
    · iexists _; isplitr
      swap; · iexact H11
      ipureintro
      subst hf3 hf4 hf5 hf6 hf7 hf8 hf9 hf11
      rw [show scrRead i (View.read (Elt F) arg9.view f9) (View.read (Elt F) arg11.view f11) = View.read (Elt F) arg11.view f11 from if_neg h1]
      unfold scrNext; rw [dif_pos h2]
      exact View.read_writes_cons_put _ _ _ _ _ rfl

set_option maxHeartbeats 4000000 in
/-- The body at a later point: the scratch is left alone. -/
theorem bodyLast (c : Dev nD) (i : grid4.Coords) (arg3 : Memref sig .tc .vmem S1x1x256x64 .fp8e4m3) (harg3 : arg3.IsWhole) (arg4 : Memref sig .tc .vmem S1x1x1x1x256 .f32) (harg4 : arg4.IsWhole) (arg5 : Memref sig .tc .vmem S1x1x9216x64 .fp8e4m3) (harg5 : arg5.IsWhole) (arg6 : Memref sig .tc .vmem S1x1x9216x128 .f32) (harg6 : arg6.IsWhole)
    (arg7 : Memref sig .tc .vmem S1x1x9216x64 .fp8e4m3) (harg7 : arg7.IsWhole) (arg8 : Memref sig .tc .vmem S1x1x9216x128 .f32) (harg8 : arg8.IsWhole) (arg9 : Memref sig .tc .vmem S1x1056x256 .f32) (harg9 : arg9.IsWhole) (arg10 : Memref sig .tc .vmem S1x1x256x64 .bf16) (harg10 : arg10.IsWhole) (arg11 : Memref sig .tc .vmem S1056x256 .f32) (harg11 : arg11.IsWhole)
    (x3 : Vec F S1x1x256x64 .fp8e4m3) (x4 : Vec F S1x1x1x1x256 .f32) (x5 : Vec F S1x1x9216x64 .fp8e4m3) (x6 : Vec F S1x1x9216x128 .f32) (x7 : Vec F S1x1x9216x64 .fp8e4m3) (x8 : Vec F S1x1x9216x128 .f32)
    (x9 : Vec F S1x1056x256 .f32) (w : Vec F S1056x256 .f32)
    (h1 : ¬ cond1 i = 1#1) (h2 : ¬ k4_cond2 i = 1#1) (E : Set ℕ) (K : PUnit → sProp 𝕄) :
        iprop(owns (c : Thread nD τ) arg3 fullShare x3
            ∗ owns (c : Thread nD τ) arg4 fullShare x4
            ∗ owns (c : Thread nD τ) arg5 fullShare x5
            ∗ owns (c : Thread nD τ) arg6 fullShare x6
            ∗ owns (c : Thread nD τ) arg7 fullShare x7
            ∗ owns (c : Thread nD τ) arg8 fullShare x8
            ∗ owns (c : Thread nD τ) arg9 fullShare x9
            ∗ (∃ d, owns (c : Thread nD τ) arg10 fullShare d) ∗ owns (c : Thread nD τ) arg11 fullShare w
            ∗ (iprop(owns (c : Thread nD τ) arg3 fullShare x3
            ∗ owns (c : Thread nD τ) arg4 fullShare x4
            ∗ owns (c : Thread nD τ) arg5 fullShare x5
            ∗ owns (c : Thread nD τ) arg6 fullShare x6
            ∗ owns (c : Thread nD τ) arg7 fullShare x7
            ∗ owns (c : Thread nD τ) arg8 fullShare x8
            ∗ owns (c : Thread nD τ) arg9 fullShare x9
            ∗ owns (c : Thread nD τ) arg10 fullShare (outBlk i x3 x4 x5 x6 x7 x8 (scrRead i x9 w))
            ∗ owns (c : Thread nD τ) arg11 fullShare (scrNext i x9 (scrRead i x9 w))) -∗ K ⟨⟩))
          ⊢ wp frame (wpE (defs₀ (F := F)) 𝒱₀ c none) E (cc4_attend i arg3 harg3 arg4 harg4 arg5 harg5 arg6 harg6 arg7 harg7 arg8 harg8 arg9 harg9 arg10 harg10 arg11 harg11) K := by
    simp only [cc4_attend_eq_skeleton]; unfold cc4_attend_skel
    simp only [k4_part1_eq_skeleton, k4_part2_eq_skeleton, k4_part3_eq_skeleton]
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%f11, %hf11, H11⟩, Hk⟩
    sl_exec
    sl_step
    iapply Hk
    isplitl [H3]; · iexists _; isplitr; · ipureintro; exact hf3
                    iexact H3
    isplitl [H4]; · iexists _; isplitr; · ipureintro; exact hf4
                    iexact H4
    isplitl [H5]; · iexists _; isplitr; · ipureintro; exact hf5
                    iexact H5
    isplitl [H6]; · iexists _; isplitr; · ipureintro; exact hf6
                    iexact H6
    isplitl [H7]; · iexists _; isplitr; · ipureintro; exact hf7
                    iexact H7
    isplitl [H8]; · iexists _; isplitr; · ipureintro; exact hf8
                    iexact H8
    isplitl [H9]; · iexists _; isplitr; · ipureintro; exact hf9
                    iexact H9
    isplitl [H10]
    · iexists _; isplitr
      swap; · iexact H10
      ipureintro
      subst hf3 hf4 hf5 hf6 hf7 hf8 hf9 hf11
      refine (View.read_writes_full _ _ _ _ _).trans ?_
      rw [show scrRead i (View.read (Elt F) arg9.view f9) (View.read (Elt F) arg11.view f11) = View.read (Elt F) arg11.view f11 from if_neg h1]
      rfl
    · iexists _; isplitr
      swap; · iexact H11
      ipureintro
      subst hf3 hf4 hf5 hf6 hf7 hf8 hf9 hf11
      rw [show scrRead i (View.read (Elt F) arg9.view f9) (View.read (Elt F) arg11.view f11) = View.read (Elt F) arg11.view f11 from if_neg h1]
      unfold scrNext; rw [dif_neg h2]

/-- The body at any point. -/
theorem body (c : Dev nD) (i : grid4.Coords) (arg3 : Memref sig .tc .vmem S1x1x256x64 .fp8e4m3) (harg3 : arg3.IsWhole) (arg4 : Memref sig .tc .vmem S1x1x1x1x256 .f32) (harg4 : arg4.IsWhole) (arg5 : Memref sig .tc .vmem S1x1x9216x64 .fp8e4m3) (harg5 : arg5.IsWhole) (arg6 : Memref sig .tc .vmem S1x1x9216x128 .f32) (harg6 : arg6.IsWhole)
    (arg7 : Memref sig .tc .vmem S1x1x9216x64 .fp8e4m3) (harg7 : arg7.IsWhole) (arg8 : Memref sig .tc .vmem S1x1x9216x128 .f32) (harg8 : arg8.IsWhole) (arg9 : Memref sig .tc .vmem S1x1056x256 .f32) (harg9 : arg9.IsWhole) (arg10 : Memref sig .tc .vmem S1x1x256x64 .bf16) (harg10 : arg10.IsWhole) (arg11 : Memref sig .tc .vmem S1056x256 .f32) (harg11 : arg11.IsWhole)
    (x3 : Vec F S1x1x256x64 .fp8e4m3) (x4 : Vec F S1x1x1x1x256 .f32) (x5 : Vec F S1x1x9216x64 .fp8e4m3) (x6 : Vec F S1x1x9216x128 .f32) (x7 : Vec F S1x1x9216x64 .fp8e4m3) (x8 : Vec F S1x1x9216x128 .f32)
    (x9 : Vec F S1x1056x256 .f32) (w : Vec F S1056x256 .f32)
     (E : Set ℕ) (K : PUnit → sProp 𝕄) :
        iprop(owns (c : Thread nD τ) arg3 fullShare x3
            ∗ owns (c : Thread nD τ) arg4 fullShare x4
            ∗ owns (c : Thread nD τ) arg5 fullShare x5
            ∗ owns (c : Thread nD τ) arg6 fullShare x6
            ∗ owns (c : Thread nD τ) arg7 fullShare x7
            ∗ owns (c : Thread nD τ) arg8 fullShare x8
            ∗ owns (c : Thread nD τ) arg9 fullShare x9
            ∗ (∃ d, owns (c : Thread nD τ) arg10 fullShare d) ∗ owns (c : Thread nD τ) arg11 fullShare w
            ∗ (iprop(owns (c : Thread nD τ) arg3 fullShare x3
            ∗ owns (c : Thread nD τ) arg4 fullShare x4
            ∗ owns (c : Thread nD τ) arg5 fullShare x5
            ∗ owns (c : Thread nD τ) arg6 fullShare x6
            ∗ owns (c : Thread nD τ) arg7 fullShare x7
            ∗ owns (c : Thread nD τ) arg8 fullShare x8
            ∗ owns (c : Thread nD τ) arg9 fullShare x9
            ∗ owns (c : Thread nD τ) arg10 fullShare (outBlk i x3 x4 x5 x6 x7 x8 (scrRead i x9 w))
            ∗ owns (c : Thread nD τ) arg11 fullShare (scrNext i x9 (scrRead i x9 w))) -∗ K ⟨⟩))
          ⊢ wp frame (wpE (defs₀ (F := F)) 𝒱₀ c none) E (cc4_attend i arg3 harg3 arg4 harg4 arg5 harg5 arg6 harg6 arg7 harg7 arg8 harg8 arg9 harg9 arg10 harg10 arg11 harg11) K := by
  by_cases h1 : cond1 i = 1#1
  · have h2 : k4_cond2 i = 1#1 := by
      unfold cond1 at h1; unfold k4_cond2
      revert h1
      have hi := (i 2).isLt
      generalize (i 2).val = n at hi ⊢
      revert n
      decide
    exact bodyFirst 𝒱₀ c i arg3 harg3 arg4 harg4 arg5 harg5 arg6 harg6 arg7 harg7 arg8 harg8 arg9 harg9 arg10 harg10 arg11 harg11 x3 x4 x5 x6 x7 x8 x9 w h1 h2 E K
  · by_cases h2 : k4_cond2 i = 1#1
    · exact bodyMid 𝒱₀ c i arg3 harg3 arg4 harg4 arg5 harg5 arg6 harg6 arg7 harg7 arg8 harg8 arg9 harg9 arg10 harg10 arg11 harg11 x3 x4 x5 x6 x7 x8 x9 w h1 h2 E K
    · exact bodyLast 𝒱₀ c i arg3 harg3 arg4 harg4 arg5 harg5 arg6 harg6 arg7 harg7 arg8 harg8 arg9 harg9 arg10 harg10 arg11 harg11 x3 x4 x5 x6 x7 x8 x9 w h1 h2 E K

end Cert.Kernel.Attend

end
-- ==== Proof.Kernel.Bias.lean ====
/- What the bias scratch holds at the start of each step: the bias rows of the offsets the steps so far have uncovered, and -inf above them. -/
module

public import proofs.«01_k».proof.Proof.Kernel.Body
public import Idealize.ShloMosaic.Lib.ValueIdx

@[expose] public section

noncomputable section

namespace Cert.Kernel.Attend

open Cert.Kernel Cert.Kernel.Gen
open Idealize.ShloMosaic Idealize.ShloMosaic.ValueIdx
open VecWindow (put)

variable {F : FTy → Type} [FloatOps F]

/-- The step of a point among the points of its batch and head. -/
abbrev step (i : grid4.Coords) : ℕ := (i 2).val

theorem step_lt (i : grid4.Coords) : step i < 256 := (i 2).isLt

theorem cond1_iff (i : grid4.Coords) : cond1 i = 1#1 ↔ step i = 0 := by
  unfold cond1 step
  have hi := (i 2).isLt
  generalize (i 2).val = n at hi ⊢
  revert n
  decide

theorem cond2_iff (i : grid4.Coords) : k4_cond2 i = 1#1 ↔ step i < 32 := by
  unfold k4_cond2 step
  have hi := (i 2).isLt
  generalize (i 2).val = n at hi ⊢
  revert n
  decide

theorem off1_eq (i : grid4.Coords) : k4_off1 i = ![0, 0, 32 * step i, 0] := by
  unfold k4_off1 step
  have hi := (i 2).isLt
  generalize (i 2).val = n at hi ⊢
  have : (Scalar.indexCast (Scalar.muli (BitVec.ofNat 32 n) 32#32) : Index).toNat = 32 * n := by
    revert n
    decide
  show ![0, 0, (Scalar.indexCast (Scalar.muli (BitVec.ofNat 32 n) 32#32) : Index).toNat, 0] = _
  rw [this]

theorem off2_eq (i : grid4.Coords) : k4_off2 i = ![0, 0, 32 * step i, 0] := off1_eq i

theorem row_eq (n : ℕ) (hi : n < 256) : n < 32 →
    (Scalar.indexCast (Scalar.subi 1024#32 (Scalar.muli (Scalar.addi (BitVec.ofNat 32 n) 1#32) 32#32)) : Index).toNat = 1024 - 32 * (n + 1) := by
  revert n
  decide

theorem off4_eq (i : grid4.Coords) (h : step i < 32) : k4_off4 i = ![1024 - 32 * (step i + 1), 0] := by
  show ![(Scalar.indexCast (Scalar.subi 1024#32 (Scalar.muli (Scalar.addi (BitVec.ofNat 32 (step i)) 1#32) 32#32)) : Index).toNat, 0] = _
  rw [row_eq _ (step_lt i) h]

theorem off3_eq (i : grid4.Coords) (h : step i < 32) : k4_off3 i = ![0, 1024 - 32 * (step i + 1), 0] := by
  show ![0, (Scalar.indexCast (Scalar.subi 1024#32 (Scalar.muli (Scalar.addi (BitVec.ofNat 32 (step i)) 1#32) 32#32)) : Index).toNat, 0] = _
  rw [row_eq _ (step_lt i) h]

/-- The bias table of one head, times the constant the kernel scales it by. -/
def biasRows (x9 : Vec F S1x1056x256 .f32) : Vec F S1056x256 .f32 :=
  mulf (fun y : S1056x256.Idx => x9 (ix3 (0 : Fin 1) (y 0 : Fin 1056) (y 1 : Fin 256))) (broadcast S1056x256 (Scalar.ofBits .f32 0x3FB8AA3B#32 : F .f32))

/-- The scratch before step `s`: bias rows from row `1024 - 32 s` on, -inf above. -/
def scrAt (x9 : Vec F S1x1056x256 .f32) (s : ℕ) : Vec F S1056x256 .f32 :=
  fun y => if 1024 - 32 * s ≤ (y 0).val then biasRows x9 y else k4_pay3 (F := F) y

/-- A row block loaded from the bias table and scaled, at an index. -/
theorem pay4_apply (x9 : Vec F S1x1056x256 .f32) (off : Fin 3 → ℕ) (inb : ∀ a, off a + S1x32x256.size a ≤ S1x1056x256.size a)
    (o : ℕ) (ho : off = ![0, o, 0]) (x : S32x256.Idx) (y : S1056x256.Idx) (h0 : (y 0).val = o + (x 0).val) (h1 : (y 1).val = (x 1).val) :
    k4_pay4 (View.ld (Val := Elt F) x9 (Rect.unit (s := S1x1056x256) off S1x32x256.size inb)) x = biasRows x9 y := by
  subst ho
  have e : (shapeCast S32x256 (View.ld (Val := Elt F) x9 (Rect.unit (s := S1x1056x256) ![0, o, 0] S1x32x256.size inb)) shapeCasts_S1x32x256_S32x256) x
      = x9 (ix3 (0 : Fin 1) (y 0 : Fin 1056) (y 1 : Fin 256)) := by
    refine (shapeCast_dropUnit_apply ![32, 256] _ _ x).trans (congrArg x9 (funext fun a => Fin.ext ?_))
    match a with
    | ⟨0, _⟩ => rfl
    | ⟨1, _⟩ => show o + 1 * (x 0).val = (y 0).val; omega
    | ⟨2, _⟩ => show 0 + 1 * (x 1).val = (y 1).val; omega
  unfold k4_pay4
  dsimp only
  rw [shapeCast_self]
  unfold biasRows mulf
  dsimp only
  rw [e]
  rfl

theorem put_rows (x9 : Vec F S1x1056x256 .f32) (w : Vec F S1056x256 .f32) (off : Fin 3 → ℕ) (inb : ∀ a, off a + S1x32x256.size a ≤ S1x1056x256.size a)
    (o : ℕ) (ho : off = ![0, o, 0]) (off' : Fin 2 → ℕ) (ho' : off' = ![o, 0]) (y : S1056x256.Idx) :
    put (s := S1056x256) w off' S32x256.size (k4_pay4 (View.ld (Val := Elt F) x9 (Rect.unit (s := S1x1056x256) off S1x32x256.size inb))) y
      = if o ≤ (y 0).val ∧ (y 0).val < o + 32 then biasRows x9 y else w y := by
  subst ho'
  unfold VecWindow.put
  by_cases h : o ≤ (y 0).val ∧ (y 0).val < o + 32
  · have hall : ∀ a : Fin 2, (![o, 0] : Fin 2 → ℕ) a ≤ (y a).val ∧ (y a).val < (![o, 0] : Fin 2 → ℕ) a + S32x256.size a := fun a => by
      match a with
      | ⟨0, _⟩ => exact h
      | ⟨1, _⟩ => exact ⟨Nat.zero_le _, by have := (y 1).isLt; show (y 1).val < 0 + 256; have e : S1056x256.size 1 = 256 := rfl; omega⟩
    rw [dif_pos hall, if_pos h]
    refine pay4_apply x9 off inb o ho _ y ?_ ?_
    · show (y 0).val = o + ((y 0).val - o); omega
    · show (y 1).val = (y 1).val - 0; omega
  · rw [dif_neg fun hall => h (hall 0), if_neg h]

theorem scrInit_eq (x9 : Vec F S1x1056x256 .f32) : scrInit x9 = scrAt x9 0 := by
  funext y
  unfold scrInit scrAt
  rw [put_rows x9 _ _ _ 1024 rfl _ rfl y]
  have hy : (y 0).val < 1056 := (y 0).isLt
  by_cases h : 1024 ≤ (y 0).val
  · rw [if_pos ⟨h, by omega⟩, if_pos (by omega)]
  · rw [if_neg (by omega), if_neg (by omega)]

/-- Before the tile reads it the scratch is the step's, if the steps before left it so. -/
theorem scrRead_eq (i : grid4.Coords) (x9 : Vec F S1x1056x256 .f32) (w : Vec F S1056x256 .f32) (hw : step i ≠ 0 → w = scrAt x9 (step i)) :
    scrRead i x9 w = scrAt x9 (step i) := by
  unfold scrRead
  by_cases h : step i = 0
  · rw [if_pos ((cond1_iff i).mpr h), h, scrInit_eq]
  · rw [if_neg (fun h' => h ((cond1_iff i).mp h')), hw h]

/-- After the tile the scratch is the next step's. -/
theorem scrNext_eq (i : grid4.Coords) (x9 : Vec F S1x1056x256 .f32) : scrNext i x9 (scrAt x9 (step i)) = scrAt x9 (step i + 1) := by
  unfold scrNext
  by_cases h : step i < 32
  · rw [dif_pos ((cond2_iff i).mpr h)]
    funext y
    refine (put_rows x9 _ _ _ _ (off3_eq i h) _ (off4_eq i h) y).trans ?_
    unfold scrAt
    by_cases h1 : 1024 - 32 * (step i + 1) ≤ (y 0).val
    · by_cases h2 : (y 0).val < 1024 - 32 * (step i + 1) + 32
      · rw [if_pos ⟨h1, h2⟩, if_pos h1]
      · rw [if_neg (by omega), if_pos (by omega), if_pos h1]
    · rw [if_neg (by omega), if_neg (by omega), if_neg h1]
  · rw [dif_neg (fun h' => h ((cond2_iff i).mp h'))]
    funext y
    unfold scrAt
    rw [if_pos (by omega), if_pos (by omega)]

end Cert.Kernel.Attend

end
-- ==== Proof.Kernel.K4.lean ====
/- The attention call's proof data and body obligation: every input window holds its block, the output window what the body
   writes from those blocks and the bias scratch, and the scratch, carried in the invariant, the rows uncovered so far. -/
module

public import proofs.«01_k».proof.Proof.Kernel.Bias

@[expose] public section

noncomputable section

namespace Cert.Kernel.Attend

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {U : Type} [URA U] {Lvl : Type} [Preorder Lvl]

local notation "𝕄" => MT nD τ sig Ix (Elt F) ℕ U Lvl

variable (𝒱₀ : Variants) (V : (c : Dev nD) → (b : Ref sig .tc) → Buf (Elt F) ((c : Thread nD τ).loc b)) (D : Dev nD → CellTallies nD τ sig Ix)

/-- Window `w`'s block at point `t`, read off its array as the region finds it (`V`). -/
def iblk (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's staging buffer holds its block at every point. -/
theorem before_of {c : Dev nD} (w : Fin cfg4.W) (hw : (cfg4.win w).isOut = false) (hidle : ∀ i, cfg4.idle w i = false)
    (hclip : ∀ t t' : Fin cfg4.N, (cfg4.win w).index t = (cfg4.win w).index t' →
      (cfg4.win w).clip (cfg4.grid.coords t) = (cfg4.win w).clip (cfg4.grid.coords t'))
    (dat : Dat τ (Elt F) Ix ℕ U Lvl cfg4 c) (hA : dat.A w = V c (Pipeline.arrRef spec4 w))
    (hafter : ∀ t, (cfg4.win w).cut (cfg4.grid.coords t) (dat.after w t) = iblk V c w t) (t : Fin cfg4.N) (d) :
    dat.before w t d = dat.fetched w t d :=
  dat.before_in_eq_fetched w hw hidle hclip (fun t => by rw [hafter]; unfold Dat.blockOf iblk; rw [hA]) t d

theorem before_0_of {c : Dev nD} (dat : Dat τ (Elt F) Ix ℕ U Lvl cfg4 c) (hA : dat.A 0 = V c (Pipeline.arrRef spec4 0))
    (hafter : ∀ t, dat.after 0 t = iblk V c 0 t) (t : Fin cfg4.N) (d) : dat.before 0 t d = iblk V c 0 t :=
  (before_of V 0 rfl (fun _ => rfl) (fun _ _ _ => rfl) dat hA (fun t => by rw [hafter]) t d).trans
    (by unfold Dat.fetched Dat.blockOf iblk; rw [hA]; rfl)
theorem before_1_of {c : Dev nD} (dat : Dat τ (Elt F) Ix ℕ U Lvl cfg4 c) (hA : dat.A 1 = V c (Pipeline.arrRef spec4 1))
    (hafter : ∀ t, dat.after 1 t = iblk V c 1 t) (t : Fin cfg4.N) (d) : dat.before 1 t d = iblk V c 1 t :=
  (before_of V 1 rfl (fun _ => rfl) (fun _ _ _ => rfl) dat hA (fun t => by rw [hafter]) t d).trans
    (by unfold Dat.fetched Dat.blockOf iblk; rw [hA]; rfl)
theorem before_2_of {c : Dev nD} (dat : Dat τ (Elt F) Ix ℕ U Lvl cfg4 c) (hA : dat.A 2 = V c (Pipeline.arrRef spec4 2))
    (hafter : ∀ t, dat.after 2 t = iblk V c 2 t) (t : Fin cfg4.N) (d) : dat.before 2 t d = iblk V c 2 t :=
  (before_of V 2 rfl (fun _ => rfl) (fun _ _ _ => rfl) dat hA (fun t => by rw [hafter]) t d).trans
    (by unfold Dat.fetched Dat.blockOf iblk; rw [hA]; rfl)
theorem before_3_of {c : Dev nD} (dat : Dat τ (Elt F) Ix ℕ U Lvl cfg4 c) (hA : dat.A 3 = V c (Pipeline.arrRef spec4 3))
    (hafter : ∀ t, dat.after 3 t = iblk V c 3 t) (t : Fin cfg4.N) (d) : dat.before 3 t d = iblk V c 3 t :=
  (before_of V 3 rfl (fun _ => rfl) (fun _ _ _ => rfl) dat hA (fun t => by rw [hafter]) t d).trans
    (by unfold Dat.fetched Dat.blockOf iblk; rw [hA]; rfl)
theorem before_4_of {c : Dev nD} (dat : Dat τ (Elt F) Ix ℕ U Lvl cfg4 c) (hA : dat.A 4 = V c (Pipeline.arrRef spec4 4))
    (hafter : ∀ t, dat.after 4 t = iblk V c 4 t) (t : Fin cfg4.N) (d) : dat.before 4 t d = iblk V c 4 t :=
  (before_of V 4 rfl (fun _ => rfl) (fun _ _ _ => rfl) dat hA (fun t => by rw [hafter]) t d).trans
    (by unfold Dat.fetched Dat.blockOf iblk; rw [hA]; rfl)
theorem before_5_of {c : Dev nD} (dat : Dat τ (Elt F) Ix ℕ U Lvl cfg4 c) (hA : dat.A 5 = V c (Pipeline.arrRef spec4 5))
    (hafter : ∀ t, dat.after 5 t = iblk V c 5 t) (t : Fin cfg4.N) (d) : dat.before 5 t d = iblk V c 5 t :=
  (before_of V 5 rfl (fun _ => rfl) (fun _ _ _ => rfl) dat hA (fun t => by rw [hafter]) t d).trans
    (by unfold Dat.fetched Dat.blockOf iblk; rw [hA]; rfl)
theorem before_6_of {c : Dev nD} (dat : Dat τ (Elt F) Ix ℕ U Lvl cfg4 c) (hA : dat.A 6 = V c (Pipeline.arrRef spec4 6))
    (hafter : ∀ t, dat.after 6 t = iblk V c 6 t) (t : Fin cfg4.N) (d) : dat.before 6 t d = iblk V c 6 t :=
  (before_of V 6 rfl (fun _ => rfl) (fun _ _ _ => rfl) dat hA (fun t => by rw [hafter]) t d).trans
    (by unfold Dat.fetched Dat.blockOf iblk; rw [hA]; rfl)

/-- The block the body writes at point `t`. -/
def outAt (c : Dev nD) (t : Fin cfg4.N) : Vec F S1x1x256x64 .bf16 :=
  outBlk (grid4.coords t) (iblk V c 0 t) (iblk V c 1 t) (iblk V c 2 t) (iblk V c 3 t) (iblk V c 4 t) (iblk V c 5 t)
    (scrAt (iblk V c 6 t) (step (grid4.coords t)))

/-- The scratch as a memref. -/
abbrev scr : Memref sig .tc .vmem S1056x256 .f32 := Memref.whole cc4_scratch0

/-- What the scratch is known to hold when point `n` starts. -/
def Known (c : Dev nD) (n : ℕ) (w : Vec F S1056x256 .f32) : Prop :=
  ∀ u : Fin cfg4.N, u.val = n → step (grid4.coords u) ≠ 0 → w = scrAt (iblk V c 6 u) (step (grid4.coords u))

/-- The region's invariant before point `n`: the other scoped buffers, the random-number register, and the scratch at known contents. -/
def ΦK (c : Dev nD) (n : ℕ) : sProp 𝕄 :=
  iprop(Pipeline.scopedRestBut (Ix := Ix) (Name := ℕ) (U := U) (Lvl := Lvl) (Val := Elt F) spec4 c [cc4_scratch0]
    ∗ (∃ r, prngReg c r) ∗ ∃ w : Vec F S1056x256 .f32, ⌜Known V c n w⌝ ∗ owns (c : Thread nD τ) scr fullShare w)

/-- The proof data of the attention call on core `c`. -/
def dat (c : Dev nD) : Dat τ (Elt F) Ix ℕ U Lvl cfg4 c where
  A w := V c (Pipeline.arrRef spec4 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => outAt V c t
  Φ t := ΦK (Ix := Ix) (U := U) (Lvl := Lvl) V c t.val
  q _ := fullShare
  owed _ := D c

variable (ι : Ix)

local notation "𝕕" => dat (Ix := Ix) (U := U) (Lvl := Lvl) V D

theorem A_eq (c : Dev nD) (w : Fin cfg4.W) : (𝕕 c).A w = V c (Pipeline.arrRef spec4 w) := by
  dsimp only [dat]

theorem after_0 (c : Dev nD) (t : Fin cfg4.N) : (𝕕 c).after 0 t = iblk V c 0 t := by dsimp only [dat]
theorem after_1 (c : Dev nD) (t : Fin cfg4.N) : (𝕕 c).after 1 t = iblk V c 1 t := by dsimp only [dat]
theorem after_2 (c : Dev nD) (t : Fin cfg4.N) : (𝕕 c).after 2 t = iblk V c 2 t := by dsimp only [dat]
theorem after_3 (c : Dev nD) (t : Fin cfg4.N) : (𝕕 c).after 3 t = iblk V c 3 t := by dsimp only [dat]
theorem after_4 (c : Dev nD) (t : Fin cfg4.N) : (𝕕 c).after 4 t = iblk V c 4 t := by dsimp only [dat]
theorem after_5 (c : Dev nD) (t : Fin cfg4.N) : (𝕕 c).after 5 t = iblk V c 5 t := by dsimp only [dat]
theorem after_6 (c : Dev nD) (t : Fin cfg4.N) : (𝕕 c).after 6 t = iblk V c 6 t := by dsimp only [dat]

theorem after_7 (c : Dev nD) (t : Fin cfg4.N) : (𝕕 c).after 7 t = outAt V c t := by dsimp only [dat]

theorem before_0 (c : Dev nD) (t : Fin cfg4.N) (d) : (𝕕 c).before 0 t d = iblk V c 0 t :=
  before_0_of V (𝕕 c) (A_eq V D c 0) (after_0 V D c) t d
theorem before_1 (c : Dev nD) (t : Fin cfg4.N) (d) : (𝕕 c).before 1 t d = iblk V c 1 t :=
  before_1_of V (𝕕 c) (A_eq V D c 1) (after_1 V D c) t d
theorem before_2 (c : Dev nD) (t : Fin cfg4.N) (d) : (𝕕 c).before 2 t d = iblk V c 2 t :=
  before_2_of V (𝕕 c) (A_eq V D c 2) (after_2 V D c) t d
theorem before_3 (c : Dev nD) (t : Fin cfg4.N) (d) : (𝕕 c).before 3 t d = iblk V c 3 t :=
  before_3_of V (𝕕 c) (A_eq V D c 3) (after_3 V D c) t d
theorem before_4 (c : Dev nD) (t : Fin cfg4.N) (d) : (𝕕 c).before 4 t d = iblk V c 4 t :=
  before_4_of V (𝕕 c) (A_eq V D c 4) (after_4 V D c) t d
theorem before_5 (c : Dev nD) (t : Fin cfg4.N) (d) : (𝕕 c).before 5 t d = iblk V c 5 t :=
  before_5_of V (𝕕 c) (A_eq V D c 5) (after_5 V D c) t d
theorem before_6 (c : Dev nD) (t : Fin cfg4.N) (d) : (𝕕 c).before 6 t d = iblk V c 6 t :=
  before_6_of V (𝕕 c) (A_eq V D c 6) (after_6 V D c) t d

/-! ## The step of a point, and the bias table's block -/

theorem step_eq (t : Fin cfg4.N) : step (grid4.coords t) = t.val % 256 := by
  have := Pipeline.Grid.coords_val (G := grid4) t 2 (S := 1) (B := 256) (by decide) rfl
  rw [Nat.div_one] at this
  exact this

theorem iblk_keep (c : Dev nD) (t u : Fin cfg4.N) (h : u.val = t.val + 1) (hs : step (grid4.coords u) ≠ 0) : iblk V c 6 u = iblk V c 6 t := by
  have hf : (cfg4.win 6).fetch u = false := by
    rw [Bool.eq_false_iff]
    intro hc
    rw [step_eq] at hs
    exact hs ((fetch4_6 u).mp hc)
  obtain ⟨hu, hix⟩ := (cfg4.win 6).index_eq_of_fetch rfl u hf
  have ht : (⟨u.val - 1, Nat.lt_of_le_of_lt (Nat.sub_le _ _) u.isLt⟩ : Fin cfg4.N) = t := Fin.ext (by show u.val - 1 = t.val; omega)
  have hix' : (cfg4.win 6).index u = (cfg4.win 6).index t := hix.trans (congrArg (cfg4.win 6).index ht)
  exact by
    have h0 := (dat (Ix := Unit) (U := UR sig nD τ) (Lvl := ℕ) V (fun _ => 0) c).fetched_congr 6 hix' rfl (iblk V c 6 t)
    unfold Dat.fetched Dat.blockOf at h0
    exact h0

/-- The scratch the body leaves is what the next point is known to find. -/
theorem known_next (c : Dev nD) (t : Fin cfg4.N) :
    Known V c (t.val + 1) (scrNext (grid4.coords t) (iblk V c 6 t) (scrAt (iblk V c 6 t) (step (grid4.coords t)))) := by
  intro u hu hs
  have h1 : step (grid4.coords u) = step (grid4.coords t) + 1 := by
    rw [step_eq, step_eq] at *; omega
  rw [iblk_keep V c t u hu hs, h1]
  exact scrNext_eq (grid4.coords t) (iblk V c 6 t)

/-! ## The body obligation -/

abbrev ms_0 (t : Fin cfg4.N) : Memref sig .tc .vmem S1x1x256x64 .fp8e4m3 := win4_0.stage (cfg4.slots t 0)
abbrev hs_0 (t : Fin cfg4.N) : (ms_0 t).IsWhole := hstage4_0 ((cfg4.slots t 0).cast nbuf4_0)
abbrev ms_1 (t : Fin cfg4.N) : Memref sig .tc .vmem S1x1x1x1x256 .f32 := win4_1.stage (cfg4.slots t 1)
abbrev hs_1 (t : Fin cfg4.N) : (ms_1 t).IsWhole := hstage4_1 ((cfg4.slots t 1).cast nbuf4_1)
abbrev ms_2 (t : Fin cfg4.N) : Memref sig .tc .vmem S1x1x9216x64 .fp8e4m3 := win4_2.stage (cfg4.slots t 2)
abbrev hs_2 (t : Fin cfg4.N) : (ms_2 t).IsWhole := hstage4_2 ((cfg4.slots t 2).cast nbuf4_2)
abbrev ms_3 (t : Fin cfg4.N) : Memref sig .tc .vmem S1x1x9216x128 .f32 := win4_3.stage (cfg4.slots t 3)
abbrev hs_3 (t : Fin cfg4.N) : (ms_3 t).IsWhole := hstage4_3 ((cfg4.slots t 3).cast nbuf4_3)
abbrev ms_4 (t : Fin cfg4.N) : Memref sig .tc .vmem S1x1x9216x64 .fp8e4m3 := win4_4.stage (cfg4.slots t 4)
abbrev hs_4 (t : Fin cfg4.N) : (ms_4 t).IsWhole := hstage4_4 ((cfg4.slots t 4).cast nbuf4_4)
abbrev ms_5 (t : Fin cfg4.N) : Memref sig .tc .vmem S1x1x9216x128 .f32 := win4_5.stage (cfg4.slots t 5)
abbrev hs_5 (t : Fin cfg4.N) : (ms_5 t).IsWhole := hstage4_5 ((cfg4.slots t 5).cast nbuf4_5)
abbrev ms_6 (t : Fin cfg4.N) : Memref sig .tc .vmem S1x1056x256 .f32 := win4_6.stage (cfg4.slots t 6)
abbrev hs_6 (t : Fin cfg4.N) : (ms_6 t).IsWhole := hstage4_6 ((cfg4.slots t 6).cast nbuf4_6)
abbrev ms_7 (t : Fin cfg4.N) : Memref sig .tc .vmem S1x1x256x64 .bf16 := win4_7.stage (cfg4.slots t 7)
abbrev hs_7 (t : Fin cfg4.N) : (ms_7 t).IsWhole := hstage4_7 ((cfg4.slots t 7).cast nbuf4_7)

def bodyPre (c : Dev nD) (t : Fin cfg4.N) : sProp 𝕄 :=
  iprop((𝕕 c).Φ t.castSucc ∗ (𝕕 c).owesAt ι t.castSucc
    ∗ (∃ d, owns (c : Thread nD τ) (ms_0 t) fullShare ((𝕕 c).before 0 t d))
    ∗ (∃ d, owns (c : Thread nD τ) (ms_1 t) fullShare ((𝕕 c).before 1 t d))
    ∗ (∃ d, owns (c : Thread nD τ) (ms_2 t) fullShare ((𝕕 c).before 2 t d))
    ∗ (∃ d, owns (c : Thread nD τ) (ms_3 t) fullShare ((𝕕 c).before 3 t d))
    ∗ (∃ d, owns (c : Thread nD τ) (ms_4 t) fullShare ((𝕕 c).before 4 t d))
    ∗ (∃ d, owns (c : Thread nD τ) (ms_5 t) fullShare ((𝕕 c).before 5 t d))
    ∗ (∃ d, owns (c : Thread nD τ) (ms_6 t) fullShare ((𝕕 c).before 6 t d))
    ∗ (∃ d, owns (c : Thread nD τ) (ms_7 t) fullShare ((𝕕 c).before 7 t d)))

def bodyPost (c : Dev nD) (t : Fin cfg4.N) : sProp 𝕄 :=
  iprop((𝕕 c).Φ t.succ ∗ (𝕕 c).owesAt ι t.succ
    ∗ owns (c : Thread nD τ) (ms_0 t) fullShare ((𝕕 c).after 0 t)
    ∗ owns (c : Thread nD τ) (ms_1 t) fullShare ((𝕕 c).after 1 t)
    ∗ owns (c : Thread nD τ) (ms_2 t) fullShare ((𝕕 c).after 2 t)
    ∗ owns (c : Thread nD τ) (ms_3 t) fullShare ((𝕕 c).after 3 t)
    ∗ owns (c : Thread nD τ) (ms_4 t) fullShare ((𝕕 c).after 4 t)
    ∗ owns (c : Thread nD τ) (ms_5 t) fullShare ((𝕕 c).after 5 t)
    ∗ owns (c : Thread nD τ) (ms_6 t) fullShare ((𝕕 c).after 6 t)
    ∗ owns (c : Thread nD τ) (ms_7 t) fullShare ((𝕕 c).after 7 t))

theorem sound_body (c : Dev nD) (t : Fin cfg4.N) :
    bodyPre (U := U) (Lvl := Lvl) V D ι c t ⊢ wp frame (wpE (defs₀ (F := F)) 𝒱₀ c none) Set.univ (bodyAt4 t) (fun _ => bodyPost (U := U) (Lvl := Lvl) V D ι c t) := by
  unfold bodyPre bodyPost bodyAt4
  simp only [before_0, before_1, before_2, before_3, before_4, before_5, before_6]
  rw [show (𝕕 c).Φ t.castSucc = ΦK (Ix := Ix) (U := U) (Lvl := Lvl) V c t.val from rfl,
    show (𝕕 c).Φ t.succ = ΦK (Ix := Ix) (U := U) (Lvl := Lvl) V c (t.val + 1) from rfl,
    show (𝕕 c).owesAt ι t.succ = (𝕕 c).owesAt ι t.castSucc from rfl,
    after_0, after_1, after_2, after_3, after_4, after_5, after_6, after_7]
  unfold ΦK outAt
  iintro ⟨⟨HR, Hp, ⟨%w, %hw, Hs⟩⟩, Ho, ⟨%d0, H0⟩, ⟨%d1, H1⟩, ⟨%d2, H2⟩, ⟨%d3, H3⟩, ⟨%d4, H4⟩, ⟨%d5, H5⟩, ⟨%d6, H6⟩, ⟨%d7, H7⟩⟩
  have hrd : scrRead (grid4.coords t) (iblk V c 6 t) w = scrAt (iblk V c 6 t) (step (grid4.coords t)) :=
    scrRead_eq (grid4.coords t) (iblk V c 6 t) w (hw t rfl)
  have hb := body (Ix := Ix) (U := U) (Lvl := Lvl) 𝒱₀ c (grid4.coords t) (ms_0 t) (hs_0 t) (ms_1 t) (hs_1 t) (ms_2 t) (hs_2 t) (ms_3 t) (hs_3 t)
    (ms_4 t) (hs_4 t) (ms_5 t) (hs_5 t) (ms_6 t) (hs_6 t) (ms_7 t) (hs_7 t) scr (Memref.isWhole_whole _)
    (iblk V c 0 t) (iblk V c 1 t) (iblk V c 2 t) (iblk V c 3 t) (iblk V c 4 t) (iblk V c 5 t) (iblk V c 6 t) w Set.univ
  rw [hrd] at hb
  iapply (hb _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [Hs]; · iexact Hs
  iintro ⟨H0, H1, H2, H3, H4, H5, H6, H7, Hs⟩
  isplitl [HR Hp Hs]
  · isplitl [HR]; · iexact HR
    isplitl [Hp]; · iexact Hp
    iexists _; isplitr
    swap; · iexact Hs
    ipureintro; exact known_next V c t
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body table's row at point `t`'s slots is the body as `bodyAt4` spells it. -/
theorem defs₀_row (t : Fin cfg4.N) :
    defs₀ (F := F) .tc cfg4.body (cfg4.bodyArgs t (cfg4.slots t)) = bodyAt4 t := by
  unfold defs₀; rw [Defs.onTc_tc]

/-- The library's body obligation, at every point. -/
theorem body_obligation (c : Dev nD) : BodyObligation (𝕕 c) (defs₀ (F := F)) 𝒱₀ ι Set.univ := fun t => by
  rw [bigSep_W4, bigSep_W4, defs₀_row]
  exact triple_restated (sound_body (U := U) (Lvl := Lvl) 𝒱₀ V D ι c t) rfl .rfl fun _ => .rfl

/-! ## The invariant at the region's ends -/

theorem scoped_split (c : Dev nD) :
    (Pipeline.scopedRest (Ix := Ix) (Name := ℕ) (U := U) (Lvl := Lvl) (Val := Elt F) spec4 c : sProp 𝕄)
      = iprop((∃ f : Buf (Elt F) ((c : Thread nD τ).loc cc4_scratch0), ((c : Thread nD τ).loc cc4_scratch0) ↦{fullShare} f)
          ∗ Pipeline.scopedRestBut (Ix := Ix) (Name := ℕ) (U := U) (Lvl := Lvl) (Val := Elt F) spec4 c [cc4_scratch0]) :=
  Pipeline.scopedRest_split_of_list spec4 c [cc4_scratch0] (by decide) (by decide)

theorem Φ_in (c : Dev nD) : iprop(Pipeline.scopedRest spec4 c ∗ ∃ r, prngReg c r) ⊢ (𝕕 c).Φ 0 := by
  rw [show (𝕕 c).Φ 0 = ΦK (Ix := Ix) (U := U) (Lvl := Lvl) V c 0 from rfl, scoped_split]
  unfold ΦK
  iintro ⟨⟨⟨%f, Hf⟩, HR⟩, Hp⟩
  isplitl [HR]; · iexact HR
  isplitl [Hp]; · iexact Hp
  iexists f
  isplitr
  · ipureintro
    intro u hu hs
    rw [step_eq, hu] at hs
    exact absurd rfl hs
  rw [owns_whole]
  iexact Hf

theorem Φ_out (c : Dev nD) : (𝕕 c).Φ (Fin.last cfg4.N) ⊢ iprop(Pipeline.scopedRest spec4 c ∗ ∃ r, prngReg c r) := by
  rw [show (𝕕 c).Φ (Fin.last cfg4.N) = ΦK (Ix := Ix) (U := U) (Lvl := Lvl) V c cfg4.N from rfl, scoped_split]
  unfold ΦK
  iintro ⟨HR, Hp, ⟨%w, -, Hs⟩⟩
  isplitl [HR Hs]
  · isplitl [Hs]
    · iexists w
      iapply (show owns (c : Thread nD τ) scr fullShare w ⊢ (((c : Thread nD τ).loc cc4_scratch0) ↦{fullShare} w : sProp 𝕄) from by rw [owns_whole])
      iexact Hs
    iexact HR
  iexact Hp

end Cert.Kernel.Attend

end
-- ==== Proof.Kernel.Outs.lean ====
/- What each region leaves in its output arrays, region by region. -/
module

public import proofs.«01_k».proof.Proof.Kernel.K4
public import proofs.«01_k».proof.Proof.Gen.Own.Kernel.RegionsD
public import Idealize.ShloMosaic.Lib.Pipeline.FrameTail

@[expose] public section

noncomputable section

namespace Cert.Kernel.Run

open Cert.Kernel Cert.Kernel.Gen Cert.Kernel.Own
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

/-- What core `c` owes while a region runs: nothing. -/
abbrev D0 : Dev nD → CellTallies nD τ sig Unit := fun _ => 0

variable (m : (ℓ : Loc nD τ sig) → Buf (Elt F) ℓ)

/-! ## What the regions leave, region by region -/

/-- Region 0's proof data, from the contents the earlier regions leave. -/
abbrev d0 (c : Dev nD) : Dat τ (Elt F) Unit ℕ (UR sig nD τ) ℕ cfg0 c := Own.K0.dat Variants.none (Ve0 m) D0 c

@[irreducible] def outs2 : Outs (F := F) := fun _ r c => Pipeline.afterRegion (d0 m c) (V1 m c) (Proc.devRef .tc r)

/-- Region 1's proof data, from the contents the earlier regions leave. -/
abbrev d1 (o : Outs (F := F)) (c : Dev nD) : Dat τ (Elt F) Unit ℕ (UR sig nD τ) ℕ cfg1 c := Own.K1.dat Variants.none (Ve1 m o) D0 c

@[irreducible] def outs4 : Outs (F := F) := fun J r c =>
  if J = 4 then Pipeline.afterRegion (d1 m (outs2 m) c) (V3 m (outs2 m) c) (Proc.devRef .tc r) else outs2 m J r c

/-- Region 2's proof data, from the contents the earlier regions leave. -/
abbrev d2 (o : Outs (F := F)) (c : Dev nD) : Dat τ (Elt F) Unit ℕ (UR sig nD τ) ℕ cfg2 c := Own.K2.dat Variants.none (Ve2 m o) D0 c

@[irreducible] def outs6 : Outs (F := F) := fun J r c =>
  if J = 6 then Pipeline.afterRegion (d2 m (outs4 m) c) (V5 m (outs4 m) c) (Proc.devRef .tc r) else outs4 m J r c

/-- Region 3's proof data, from the contents the earlier regions leave. -/
abbrev d3 (o : Outs (F := F)) (c : Dev nD) : Dat τ (Elt F) Unit ℕ (UR sig nD τ) ℕ cfg3 c := Own.K3.dat Variants.none (Ve3 m o) D0 c

@[irreducible] def outs8 : Outs (F := F) := fun J r c =>
  if J = 8 then Pipeline.afterRegion (d3 m (outs6 m) c) (V7 m (outs6 m) c) (Proc.devRef .tc r) else outs6 m J r c

/-- Region 4's entry contents. -/
abbrev Ve4 (outs : Outs (F := F)) (c : Dev nD) (b : Ref sig .tc) : Buf (Elt F) ((c : Thread nD τ).loc b) := V15 m outs c (Proc.devRef .tc b)

/-- The attention call's proof data, from the contents the earlier regions leave. -/
abbrev d4 (outs : Outs (F := F)) (c : Dev nD) : Dat τ (Elt F) Unit ℕ (UR sig nD τ) ℕ cfg4 c := Attend.dat (Ve4 m outs) D0 c

/-- What the regions leave. -/
@[irreducible] def outs : Outs (F := F) := fun J r c =>
  if J = 16 then Pipeline.afterRegion (d4 m (outs8 m) c) (V15 m (outs8 m) c) (Proc.devRef .tc r) else outs8 m J r c

/-! ## The contents before each region only read what the earlier regions leave -/

theorem V2_congr {o o' : Outs (F := F)} (h2 : ∀ r c, o 2 r c = o' 2 r c) (c : Dev nD) : V2 m o c = V2 m o' c := by
  unfold V2; rw [h2, h2]
theorem V3_congr {o o' : Outs (F := F)} (h2 : ∀ r c, o 2 r c = o' 2 r c) (c : Dev nD) : V3 m o c = V3 m o' c := by
  unfold V3; rw [V2_congr m h2 c]
theorem V4_congr {o o' : Outs (F := F)} (h2 : ∀ r c, o 2 r c = o' 2 r c) (h4 : ∀ r c, o 4 r c = o' 4 r c) (c : Dev nD) : V4 m o c = V4 m o' c := by
  unfold V4; rw [V3_congr m h2 c, h4, h4]
theorem V5_congr {o o' : Outs (F := F)} (h2 : ∀ r c, o 2 r c = o' 2 r c) (h4 : ∀ r c, o 4 r c = o' 4 r c) (c : Dev nD) : V5 m o c = V5 m o' c := by
  unfold V5; rw [V4_congr m h2 h4 c]
theorem V6_congr {o o' : Outs (F := F)} (h2 : ∀ r c, o 2 r c = o' 2 r c) (h4 : ∀ r c, o 4 r c = o' 4 r c) (h6 : ∀ r c, o 6 r c = o' 6 r c) (c : Dev nD) : V6 m o c = V6 m o' c := by
  unfold V6; rw [V5_congr m h2 h4 c, h6, h6]
theorem V7_congr {o o' : Outs (F := F)} (h2 : ∀ r c, o 2 r c = o' 2 r c) (h4 : ∀ r c, o 4 r c = o' 4 r c) (h6 : ∀ r c, o 6 r c = o' 6 r c) (c : Dev nD) : V7 m o c = V7 m o' c := by
  unfold V7; rw [V6_congr m h2 h4 h6 c]
theorem V8_congr {o o' : Outs (F := F)} (h2 : ∀ r c, o 2 r c = o' 2 r c) (h4 : ∀ r c, o 4 r c = o' 4 r c) (h6 : ∀ r c, o 6 r c = o' 6 r c) (h8 : ∀ r c, o 8 r c = o' 8 r c) (c : Dev nD) : V8 m o c = V8 m o' c := by
  unfold V8; rw [V7_congr m h2 h4 h6 c, h8]
theorem V9_congr {o o' : Outs (F := F)} (h2 : ∀ r c, o 2 r c = o' 2 r c) (h4 : ∀ r c, o 4 r c = o' 4 r c) (h6 : ∀ r c, o 6 r c = o' 6 r c) (h8 : ∀ r c, o 8 r c = o' 8 r c) (c : Dev nD) : V9 m o c = V9 m o' c := by
  unfold V9; rw [V8_congr m h2 h4 h6 h8 c]
theorem V10_congr {o o' : Outs (F := F)} (h2 : ∀ r c, o 2 r c = o' 2 r c) (h4 : ∀ r c, o 4 r c = o' 4 r c) (h6 : ∀ r c, o 6 r c = o' 6 r c) (h8 : ∀ r c, o 8 r c = o' 8 r c) (c : Dev nD) : V10 m o c = V10 m o' c := by
  unfold V10; rw [V9_congr m h2 h4 h6 h8 c]
theorem V11_congr {o o' : Outs (F := F)} (h2 : ∀ r c, o 2 r c = o' 2 r c) (h4 : ∀ r c, o 4 r c = o' 4 r c) (h6 : ∀ r c, o 6 r c = o' 6 r c) (h8 : ∀ r c, o 8 r c = o' 8 r c) (c : Dev nD) : V11 m o c = V11 m o' c := by
  unfold V11; rw [V10_congr m h2 h4 h6 h8 c]
theorem V12_congr {o o' : Outs (F := F)} (h2 : ∀ r c, o 2 r c = o' 2 r c) (h4 : ∀ r c, o 4 r c = o' 4 r c) (h6 : ∀ r c, o 6 r c = o' 6 r c) (h8 : ∀ r c, o 8 r c = o' 8 r c) (c : Dev nD) : V12 m o c = V12 m o' c := by
  unfold V12; rw [V11_congr m h2 h4 h6 h8 c]
theorem V13_congr {o o' : Outs (F := F)} (h2 : ∀ r c, o 2 r c = o' 2 r c) (h4 : ∀ r c, o 4 r c = o' 4 r c) (h6 : ∀ r c, o 6 r c = o' 6 r c) (h8 : ∀ r c, o 8 r c = o' 8 r c) (c : Dev nD) : V13 m o c = V13 m o' c := by
  unfold V13; rw [V12_congr m h2 h4 h6 h8 c]
theorem V14_congr {o o' : Outs (F := F)} (h2 : ∀ r c, o 2 r c = o' 2 r c) (h4 : ∀ r c, o 4 r c = o' 4 r c) (h6 : ∀ r c, o 6 r c = o' 6 r c) (h8 : ∀ r c, o 8 r c = o' 8 r c) (c : Dev nD) : V14 m o c = V14 m o' c := by
  unfold V14; rw [V13_congr m h2 h4 h6 h8 c]
theorem V15_congr {o o' : Outs (F := F)} (h2 : ∀ r c, o 2 r c = o' 2 r c) (h4 : ∀ r c, o 4 r c = o' 4 r c) (h6 : ∀ r c, o 6 r c = o' 6 r c) (h8 : ∀ r c, o 8 r c = o' 8 r c) (c : Dev nD) : V15 m o c = V15 m o' c := by
  unfold V15; rw [V14_congr m h2 h4 h6 h8 c]
theorem outs_self (r : Ref sig .tc) (c : Dev nD) : outs m 16 r c = Pipeline.afterRegion (d4 m (outs8 m) c) (V15 m (outs8 m) c) (Proc.devRef .tc r) := by
  unfold outs; exact if_pos rfl
theorem outs_of {J : ℕ} (h : J ≠ 16) (r : Ref sig .tc) (c : Dev nD) : outs m J r c = outs8 m J r c := by
  conv_lhs => unfold outs
  exact if_neg h
theorem outs8_self (r : Ref sig .tc) (c : Dev nD) : outs8 m 8 r c = Pipeline.afterRegion (d3 m (outs6 m) c) (V7 m (outs6 m) c) (Proc.devRef .tc r) := by
  unfold outs8; exact if_pos rfl
theorem outs8_of {J : ℕ} (h : J ≠ 8) (r : Ref sig .tc) (c : Dev nD) : outs8 m J r c = outs6 m J r c := by
  conv_lhs => unfold outs8
  exact if_neg h
theorem outs6_self (r : Ref sig .tc) (c : Dev nD) : outs6 m 6 r c = Pipeline.afterRegion (d2 m (outs4 m) c) (V5 m (outs4 m) c) (Proc.devRef .tc r) := by
  unfold outs6; exact if_pos rfl
theorem outs6_of {J : ℕ} (h : J ≠ 6) (r : Ref sig .tc) (c : Dev nD) : outs6 m J r c = outs4 m J r c := by
  conv_lhs => unfold outs6
  exact if_neg h
theorem outs4_self (r : Ref sig .tc) (c : Dev nD) : outs4 m 4 r c = Pipeline.afterRegion (d1 m (outs2 m) c) (V3 m (outs2 m) c) (Proc.devRef .tc r) := by
  unfold outs4; exact if_pos rfl
theorem outs4_of {J : ℕ} (h : J ≠ 4) (r : Ref sig .tc) (c : Dev nD) : outs4 m J r c = outs2 m J r c := by
  conv_lhs => unfold outs4
  exact if_neg h
theorem outs_6 {J : ℕ} (h : J ≠ 16) (h' : J ≠ 8) (r : Ref sig .tc) (c : Dev nD) : outs m J r c = outs6 m J r c :=
  (outs_of m h r c).trans (outs8_of m h' r c)
theorem outs_4 {J : ℕ} (h : J ≠ 16) (h' : J ≠ 8) (h6 : J ≠ 6) (r : Ref sig .tc) (c : Dev nD) : outs m J r c = outs4 m J r c :=
  (outs_6 m h h' r c).trans (outs6_of m h6 r c)
theorem outs_2 (r : Ref sig .tc) (c : Dev nD) : outs m 2 r c = outs2 m 2 r c :=
  (outs_4 m (by decide) (by decide) (by decide) r c).trans (outs4_of m (by decide) r c)

theorem V3_agree (c : Dev nD) : V3 m (outs2 m) c = V3 m (outs m) c :=
  V3_congr m (fun r c => (outs_2 m r c).symm) c
theorem V5_agree (c : Dev nD) : V5 m (outs4 m) c = V5 m (outs m) c :=
  V5_congr m (fun r c => (outs_4 m (by decide) (by decide) (by decide) r c).symm) (fun r c => (outs_4 m (by decide) (by decide) (by decide) r c).symm) c
theorem V7_agree (c : Dev nD) : V7 m (outs6 m) c = V7 m (outs m) c :=
  V7_congr m (fun r c => (outs_6 m (by decide) (by decide) r c).symm) (fun r c => (outs_6 m (by decide) (by decide) r c).symm) (fun r c => (outs_6 m (by decide) (by decide) r c).symm) c
theorem V15_agree (c : Dev nD) : V15 m (outs8 m) c = V15 m (outs m) c :=
  V15_congr m (fun r c => (outs_of m (by decide) r c).symm) (fun r c => (outs_of m (by decide) r c).symm) (fun r c => (outs_of m (by decide) r c).symm) (fun r c => (outs_of m (by decide) r c).symm) c

theorem d1_agree (c : Dev nD) : d1 m (outs2 m) c = d1 m (outs m) c :=
  congrArg (fun V : (c : Dev nD) → (b : Ref sig .tc) → Buf (Elt F) ((c : Thread nD τ).loc b) => (Own.K1.dat Variants.none V D0 c : Dat τ (Elt F) Unit ℕ (UR sig nD τ) ℕ cfg1 c))
    (funext fun c => funext fun b => congrFun (V3_agree m c) (Proc.devRef .tc b))
theorem d2_agree (c : Dev nD) : d2 m (outs4 m) c = d2 m (outs m) c :=
  congrArg (fun V : (c : Dev nD) → (b : Ref sig .tc) → Buf (Elt F) ((c : Thread nD τ).loc b) => (Own.K2.dat Variants.none V D0 c : Dat τ (Elt F) Unit ℕ (UR sig nD τ) ℕ cfg2 c))
    (funext fun c => funext fun b => congrFun (V5_agree m c) (Proc.devRef .tc b))
theorem d3_agree (c : Dev nD) : d3 m (outs6 m) c = d3 m (outs m) c :=
  congrArg (fun V : (c : Dev nD) → (b : Ref sig .tc) → Buf (Elt F) ((c : Thread nD τ).loc b) => (Own.K3.dat Variants.none V D0 c : Dat τ (Elt F) Unit ℕ (UR sig nD τ) ℕ cfg3 c))
    (funext fun c => funext fun b => congrFun (V7_agree m c) (Proc.devRef .tc b))
theorem d4_agree (c : Dev nD) : d4 m (outs8 m) c = d4 m (outs m) c :=
  congrArg (fun V : (c : Dev nD) → (b : Ref sig .tc) → Buf (Elt F) ((c : Thread nD τ).loc b) => (Attend.dat V D0 c : Dat τ (Elt F) Unit ℕ (UR sig nD τ) ℕ cfg4 c))
    (funext fun c => funext fun b => congrFun (V15_agree m c) (Proc.devRef .tc b))

/-- Proof data for every region, from given contents. -/
def pd (o : Outs (F := F)) : (p : Fin 5) → (c : Dev nD) → Dat τ (Elt F) Unit ℕ (UR sig nD τ) ℕ (cfgs p) c
  | ⟨0, _⟩ => d0 m
  | ⟨1, _⟩ => d1 m o
  | ⟨2, _⟩ => d2 m o
  | ⟨3, _⟩ => d3 m o
  | ⟨4, _⟩ => d4 m o

abbrev pdD : (p : Fin 5) → (c : Dev nD) → Dat τ (Elt F) Unit ℕ (UR sig nD τ) ℕ (cfgs p) c :=
  pdatsD (U := UR sig nD τ) (Lvl := ℕ) m (outs m) Variants.none (pd m (outs m)) D0 D0 D0 D0

theorem hout0_1 (c : Dev nD) : outs m 2 main_v1_0 c = (d0 m c).arrAt 1 cfg0.N :=
  (outs_2 m _ c).trans <| by unfold outs2; exact (Pipeline.afterRegion_arr (d0 m c) (V1 m c) launch0.win.arr_inj 1)
theorem hout0_2 (c : Dev nD) : outs m 2 main_v1_1 c = (d0 m c).arrAt 2 cfg0.N :=
  (outs_2 m _ c).trans <| by unfold outs2; exact (Pipeline.afterRegion_arr (d0 m c) (V1 m c) launch0.win.arr_inj 2)
theorem hout1_1 (c : Dev nD) : outs m 4 main_v3_0 c = (d1 m (outs m) c).arrAt 1 cfg1.N :=
  (outs_4 m (by decide) (by decide) (by decide) _ c).trans <| (outs4_self m _ c).trans <| (Pipeline.afterRegion_arr (d1 m (outs2 m) c) (V3 m (outs2 m) c) launch1.win.arr_inj 1).trans <| by rw [d1_agree]
theorem hout1_2 (c : Dev nD) : outs m 4 main_v3_1 c = (d1 m (outs m) c).arrAt 2 cfg1.N :=
  (outs_4 m (by decide) (by decide) (by decide) _ c).trans <| (outs4_self m _ c).trans <| (Pipeline.afterRegion_arr (d1 m (outs2 m) c) (V3 m (outs2 m) c) launch1.win.arr_inj 2).trans <| by rw [d1_agree]
theorem hout2_1 (c : Dev nD) : outs m 6 main_v5_0 c = (d2 m (outs m) c).arrAt 1 cfg2.N :=
  (outs_6 m (by decide) (by decide) _ c).trans <| (outs6_self m _ c).trans <| (Pipeline.afterRegion_arr (d2 m (outs4 m) c) (V5 m (outs4 m) c) launch2.win.arr_inj 1).trans <| by rw [d2_agree]
theorem hout2_2 (c : Dev nD) : outs m 6 main_v5_1 c = (d2 m (outs m) c).arrAt 2 cfg2.N :=
  (outs_6 m (by decide) (by decide) _ c).trans <| (outs6_self m _ c).trans <| (Pipeline.afterRegion_arr (d2 m (outs4 m) c) (V5 m (outs4 m) c) launch2.win.arr_inj 2).trans <| by rw [d2_agree]
theorem hout3 (c : Dev nD) : outs m 8 main_v12 c = (d3 m (outs m) c).arrAt 0 cfg3.N :=
  (outs_of m (by decide) _ c).trans <| (outs8_self m _ c).trans <| (Pipeline.afterRegion_arr (d3 m (outs6 m) c) (V7 m (outs6 m) c) launch3.win.arr_inj 0).trans <| by rw [d3_agree]
theorem hout4 (c : Dev nD) : outs m 16 main_v61 c = (d4 m (outs m) c).arrAt 7 cfg4.N :=
  (outs_self m _ c).trans <| (Pipeline.afterRegion_arr (d4 m (outs8 m) c) (V15 m (outs8 m) c) launch4.win.arr_inj 7).trans <| by rw [d4_agree]

end Cert.Kernel.Run

end
-- ==== Proof.Kernel.Records.lean ====
/- The regions' records. -/
module

public import proofs.«01_k».proof.Proof.Kernel.Outs

@[expose] public section

noncomputable section

namespace Cert.Kernel.Run

open Cert.Kernel Cert.Kernel.Gen Cert.Kernel.Own
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ)

theorem arr4_mem (w : Fin cfg4.W) : (Proc.devRef .tc (Pipeline.arrRef spec4 w) : DevRef τ sig) ∈ Pipeline.arrRefs (τ := τ) spec4 :=
  Finset.mem_map_of_mem _ (Finset.mem_image_of_mem _ (Finset.mem_univ w))

theorem arr4_S : Pipeline.arrRefs (τ := τ) spec4 ⊆ Pipeline.ucRefs τ sig :=
  Pipeline.arrRefs_sub_ucRefs spec4 (by decide)

theorem V16_at (o : Outs (F := F)) (c : Dev nD) : V16 m o c (Proc.devRef .tc main_v61) = o 16 main_v61 c := by
  simp only [V16, Function.update_self]

theorem rest4_eq (o : Outs (F := F)) (c : Dev nD) : ∀ b ∈ (Pipeline.ucRefs τ sig) \ Pipeline.arrRefs (τ := τ) spec4, V16 m o c b = V15 m o c b := fun b hb => by
  have hn : b ∉ Pipeline.arrRefs (τ := τ) spec4 := (Finset.mem_sdiff.mp hb).2
  have h1 : b ≠ Proc.devRef .tc main_v61 := by rintro rfl; exact hn (by first | exact arr4_mem 7 | decide)
  simp only [V16, Function.update_of_ne h1]

def L (g : GSem nD τ sig) : Finset Unit := if g.1.2 = .tc then Finset.univ else ∅
def lv (_ : GSem nD τ sig) (_ : Unit) : ℕ := 0

/-- What every thread state carries beside the buffers: the random-number register and owing nothing. -/
abbrev E0 (c : Dev nD) : sProp 𝕄 := iprop((∃ r, prngReg c r) ∗ ∃ W, owes (c : Thread nD τ) (0 : CellTallies nD τ sig Unit) W)
abbrev E : Fin 6 → Dev nD → sProp 𝕄 := fun _ => E0
abbrev Er : Dev nD → sProp 𝕄 := fun _ => iprop(emp)

theorem hEin (c : Dev nD) : E0 (F := F) c ⊢ iprop((∃ r, prngReg c r) ∗ (∃ W, owes (c : Thread nD τ) (D0 c) W) ∗ Er c) := by
  iintro ⟨Hp, HO⟩
  isplitl [Hp]; · iexact Hp
  isplitl [HO]; · iexact HO
  iempintro

theorem hEout (c : Dev nD) : iprop((∃ r, prngReg c r) ∗ (∃ W, owes (c : Thread nD τ) (D0 c) W) ∗ Er c) ⊢ E0 (F := F) c := by
  iintro ⟨Hp, HO, -⟩
  isplitl [Hp]; · iexact Hp
  iexact HO

theorem cut (p : Fin 5) : Pipeline.LevelCut (pcfgs (F := F)) adm () L lv p D0 (fun _ => 0) where
  hι _ _ _ := by unfold L; rw [if_pos rfl]; exact Finset.mem_univ _
  hιb _ _ _ := le_refl _
  hD c g i h := absurd h (lt_irrefl _)

theorem exit4_0 (c : Dev nD) : ((pdD m) 4 c).arrAt 0 cfg4.N = V16 m (outs m) c (Proc.devRef .tc (Pipeline.arrRef spec4 0)) :=
  (((pdD m) 4 c).arrAt_in 0 rfl _).trans ((Attend.A_eq (U := UR sig nD τ) (Lvl := ℕ) (Ve4 m (outs m)) D0 c 0).trans (V16_of m (outs m) c (Pipeline.arrRef spec4 0) (by decide)).symm)
theorem exit4_1 (c : Dev nD) : ((pdD m) 4 c).arrAt 1 cfg4.N = V16 m (outs m) c (Proc.devRef .tc (Pipeline.arrRef spec4 1)) :=
  (((pdD m) 4 c).arrAt_in 1 rfl _).trans ((Attend.A_eq (U := UR sig nD τ) (Lvl := ℕ) (Ve4 m (outs m)) D0 c 1).trans (V16_of m (outs m) c (Pipeline.arrRef spec4 1) (by decide)).symm)
theorem exit4_2 (c : Dev nD) : ((pdD m) 4 c).arrAt 2 cfg4.N = V16 m (outs m) c (Proc.devRef .tc (Pipeline.arrRef spec4 2)) :=
  (((pdD m) 4 c).arrAt_in 2 rfl _).trans ((Attend.A_eq (U := UR sig nD τ) (Lvl := ℕ) (Ve4 m (outs m)) D0 c 2).trans (V16_of m (outs m) c (Pipeline.arrRef spec4 2) (by decide)).symm)
theorem exit4_3 (c : Dev nD) : ((pdD m) 4 c).arrAt 3 cfg4.N = V16 m (outs m) c (Proc.devRef .tc (Pipeline.arrRef spec4 3)) :=
  (((pdD m) 4 c).arrAt_in 3 rfl _).trans ((Attend.A_eq (U := UR sig nD τ) (Lvl := ℕ) (Ve4 m (outs m)) D0 c 3).trans (V16_of m (outs m) c (Pipeline.arrRef spec4 3) (by decide)).symm)
theorem exit4_4 (c : Dev nD) : ((pdD m) 4 c).arrAt 4 cfg4.N = V16 m (outs m) c (Proc.devRef .tc (Pipeline.arrRef spec4 4)) :=
  (((pdD m) 4 c).arrAt_in 4 rfl _).trans ((Attend.A_eq (U := UR sig nD τ) (Lvl := ℕ) (Ve4 m (outs m)) D0 c 4).trans (V16_of m (outs m) c (Pipeline.arrRef spec4 4) (by decide)).symm)
theorem exit4_5 (c : Dev nD) : ((pdD m) 4 c).arrAt 5 cfg4.N = V16 m (outs m) c (Proc.devRef .tc (Pipeline.arrRef spec4 5)) :=
  (((pdD m) 4 c).arrAt_in 5 rfl _).trans ((Attend.A_eq (U := UR sig nD τ) (Lvl := ℕ) (Ve4 m (outs m)) D0 c 5).trans (V16_of m (outs m) c (Pipeline.arrRef spec4 5) (by decide)).symm)
theorem exit4_6 (c : Dev nD) : ((pdD m) 4 c).arrAt 6 cfg4.N = V16 m (outs m) c (Proc.devRef .tc (Pipeline.arrRef spec4 6)) :=
  (((pdD m) 4 c).arrAt_in 6 rfl _).trans ((Attend.A_eq (U := UR sig nD τ) (Lvl := ℕ) (Ve4 m (outs m)) D0 c 6).trans (V16_of m (outs m) c (Pipeline.arrRef spec4 6) (by decide)).symm)

set_option backward.isDefEq.respectTransparency.types false in
/-- Region 4's record: its arrays held at `V15` in and at `V16` out. -/
def R4 : RegionSeg (pcfgs (F := F)) adm (pdD m) () defs₀ Variants.none L lv 4 :=
  Pipeline.RegionSeg.ofHeld (pcfgs (F := F)) adm (pdD m) () defs₀ Variants.none L lv 4 D0
    (fun c => iprop(∃ r, prngReg c r)) (fun c => iprop(∃ r, prngReg c r))
    launch4.toP rfl
    (fun c => (Attend.body_obligation (U := UR sig nD τ) (Lvl := ℕ) Variants.none (Ve4 m (outs m)) D0 () c).loose) (fun _ _ => rfl) (fun _ => rfl)
    (fun c => ((pdD m) 4 c).share_full fun _ => rfl)
    (fun c => Attend.Φ_in (Ve4 m (outs m)) D0 c) (fun c => Attend.Φ_out (Ve4 m (outs m)) D0 c) (fun _ => 0) (cut 4)
    (fun c => iprop(StableHlo.held (c : Thread nD τ) ((Pipeline.ucRefs τ sig) \ Pipeline.arrRefs (τ := τ) spec4) (V15 m (outs m) c) ∗ Er c))
    (V15 m (outs m)) (V16 m (outs m)) (fun _ _ => rfl)
    (fun c => fun
      | 0 => exit4_0 m c
      | 1 => exit4_1 m c
      | 2 => exit4_2 m c
      | 3 => exit4_3 m c
      | 4 => exit4_4 m c
      | 5 => exit4_5 m c
      | 6 => exit4_6 m c
      | 7 => (hout4 m c).symm.trans (V16_at m (outs m) c).symm)

theorem hpre4 (c : Dev nD) :
    iprop(StableHlo.held (c : Thread nD τ) (Pipeline.ucRefs τ sig) (V15 m (outs m) c) ∗ E 4 c) ⊢ (R4 m).pre c := by
  show _ ⊢ iprop(StableHlo.held (c : Thread nD τ) (Pipeline.arrRefs (τ := τ) spec4) (V15 m (outs m) c) ∗ (∃ r, prngReg c r)
    ∗ (StableHlo.held (c : Thread nD τ) ((Pipeline.ucRefs τ sig) \ Pipeline.arrRefs (τ := τ) spec4) (V15 m (outs m) c) ∗ Er c) ∗ ∃ W, owes (c : Thread nD τ) (D0 c) W)
  rw [StableHlo.held_sub_split (c : Thread nD τ) arr4_S (V15 m (outs m) c)]
  iintro ⟨⟨Ha, Hr⟩, HE⟩
  ihave HE' := (hEin c) $$ HE
  icases HE' with ⟨Hp, HO, Hx⟩
  isplitl [Ha]; · iexact Ha
  isplitl [Hp]; · iexact Hp
  isplitl [Hr Hx]; · isplitl [Hr] <;> iassumption
  iexact HO

theorem hpost4 (c : Dev nD) :
    (R4 m).post c ⊢ iprop(StableHlo.held (c : Thread nD τ) (Pipeline.ucRefs τ sig) (V16 m (outs m) c) ∗ E 5 c) := by
  show iprop(StableHlo.held (c : Thread nD τ) (Pipeline.arrRefs (τ := τ) spec4) (V16 m (outs m) c) ∗ (∃ r, prngReg c r)
    ∗ (StableHlo.held (c : Thread nD τ) ((Pipeline.ucRefs τ sig) \ Pipeline.arrRefs (τ := τ) spec4) (V15 m (outs m) c) ∗ Er c) ∗ ∃ W, owes (c : Thread nD τ) (D0 c) W) ⊢ _
  rw [StableHlo.held_sub_split (c : Thread nD τ) arr4_S (V16 m (outs m) c),
    StableHlo.held_congr (c : Thread nD τ) (S := (Pipeline.ucRefs τ sig) \ Pipeline.arrRefs (τ := τ) spec4) (rest4_eq m (outs m) c)]
  iintro ⟨Ha, Hp, ⟨Hr, Hx⟩, HO⟩
  isplitl [Ha Hr]; · isplitl [Ha] <;> iassumption
  iapply (hEout c)
  isplitl [Hp]; · iexact Hp
  isplitl [HO]; · iexact HO
  iexact Hx

abbrev R0 : RegionSeg (pcfgs (F := F)) adm (pdD m) () defs₀ Variants.none L lv 0 :=
  R0D m (outs m) Variants.none L lv () (pd m (outs m)) D0 D0 D0 D0 (fun _ => 0) (cut 0) Er (hout0_1 m) (hout0_2 m)
theorem hpre0 (c : Dev nD) : iprop(StableHlo.held (c : Thread nD τ) (Pipeline.ucRefs τ sig) (V1 m c) ∗ E 0 c) ⊢ (R0 m).pre c :=
  hpre0D m (outs m) Variants.none L lv () (pd m (outs m)) D0 D0 D0 D0 (fun _ => 0) (cut 0) E Er hEin (hout0_1 m) (hout0_2 m) c
theorem hpost0 (c : Dev nD) : (R0 m).post c ⊢ iprop(StableHlo.held (c : Thread nD τ) (Pipeline.ucRefs τ sig) (V2 m (outs m) c) ∗ E 1 c) :=
  hpost0D m (outs m) Variants.none L lv () (pd m (outs m)) D0 D0 D0 D0 (fun _ => 0) (cut 0) E Er hEout (hout0_1 m) (hout0_2 m) c
abbrev R1 : RegionSeg (pcfgs (F := F)) adm (pdD m) () defs₀ Variants.none L lv 1 :=
  R1D m (outs m) Variants.none L lv () (pd m (outs m)) D0 D0 D0 D0 (fun _ => 0) (cut 1) Er (hout1_1 m) (hout1_2 m)
theorem hpre1 (c : Dev nD) : iprop(StableHlo.held (c : Thread nD τ) (Pipeline.ucRefs τ sig) (V3 m (outs m) c) ∗ E 1 c) ⊢ (R1 m).pre c :=
  hpre1D m (outs m) Variants.none L lv () (pd m (outs m)) D0 D0 D0 D0 (fun _ => 0) (cut 1) E Er hEin (hout1_1 m) (hout1_2 m) c
theorem hpost1 (c : Dev nD) : (R1 m).post c ⊢ iprop(StableHlo.held (c : Thread nD τ) (Pipeline.ucRefs τ sig) (V4 m (outs m) c) ∗ E 2 c) :=
  hpost1D m (outs m) Variants.none L lv () (pd m (outs m)) D0 D0 D0 D0 (fun _ => 0) (cut 1) E Er hEout (hout1_1 m) (hout1_2 m) c
abbrev R2 : RegionSeg (pcfgs (F := F)) adm (pdD m) () defs₀ Variants.none L lv 2 :=
  R2D m (outs m) Variants.none L lv () (pd m (outs m)) D0 D0 D0 D0 (fun _ => 0) (cut 2) Er (hout2_1 m) (hout2_2 m)
theorem hpre2 (c : Dev nD) : iprop(StableHlo.held (c : Thread nD τ) (Pipeline.ucRefs τ sig) (V5 m (outs m) c) ∗ E 2 c) ⊢ (R2 m).pre c :=
  hpre2D m (outs m) Variants.none L lv () (pd m (outs m)) D0 D0 D0 D0 (fun _ => 0) (cut 2) E Er hEin (hout2_1 m) (hout2_2 m) c
theorem hpost2 (c : Dev nD) : (R2 m).post c ⊢ iprop(StableHlo.held (c : Thread nD τ) (Pipeline.ucRefs τ sig) (V6 m (outs m) c) ∗ E 3 c) :=
  hpost2D m (outs m) Variants.none L lv () (pd m (outs m)) D0 D0 D0 D0 (fun _ => 0) (cut 2) E Er hEout (hout2_1 m) (hout2_2 m) c
abbrev R3 : RegionSeg (pcfgs (F := F)) adm (pdD m) () defs₀ Variants.none L lv 3 :=
  R3D m (outs m) Variants.none L lv () (pd m (outs m)) D0 D0 D0 D0 (fun _ => 0) (cut 3) Er (hout3 m)
theorem hpre3 (c : Dev nD) : iprop(StableHlo.held (c : Thread nD τ) (Pipeline.ucRefs τ sig) (V7 m (outs m) c) ∗ E 3 c) ⊢ (R3 m).pre c :=
  hpre3D m (outs m) Variants.none L lv () (pd m (outs m)) D0 D0 D0 D0 (fun _ => 0) (cut 3) E Er hEin (hout3 m) c
theorem hpost3 (c : Dev nD) : (R3 m).post c ⊢ iprop(StableHlo.held (c : Thread nD τ) (Pipeline.ucRefs τ sig) (V8 m (outs m) c) ∗ E 4 c) :=
  hpost3D m (outs m) Variants.none L lv () (pd m (outs m)) D0 D0 D0 D0 (fun _ => 0) (cut 3) E Er hEout (hout3 m) c

end Cert.Kernel.Run

end
-- ==== Proof.Kernel.Run.lean ====
/- The whole program's run: every argument is kept, and what the results hold. -/
module

public import proofs.«01_k».proof.Proof.Kernel.Records
public import Idealize.ShloMosaic.Lib.StableHlo.RunHlo

@[expose] public section

noncomputable section

namespace Cert.Kernel.Run

open Cert.Kernel Cert.Kernel.Gen Cert.Kernel.Own
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ)

theorem launchU : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj))) ∗ bigSep Finset.univ fun _ : Dev nD => (BI.emp : sProp 𝕄)) := by
  iintro Hu; imodintro
  isplitl [Hu]
  · iapply (show (ownU _ : sProp 𝕄) ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

theorem launchE (ρ : Dev nD → PrngReg) :
    iprop((bigSep Finset.univ fun c : Dev nD => iprop(unscopedSems0 c ∗ owes (c : Thread nD τ) (0 : CellTallies nD τ sig Unit) ∅ ∗ Pipeline.launchCred (fun _ => 0) c ∗ prngReg c (ρ c) ∗ (BI.emp : sProp 𝕄))) ∗ levAts L lv)
      ⊢ (|={Set.univ}=> bigSep Finset.univ (E0 (F := F)) : sProp 𝕄) := by
  refine Pipeline.initEach L lv fun c => ?_
  iintro ⟨⟨-, HO, -, Hp, -⟩, -⟩
  imodintro
  isplitl [Hp]; · iexists _; iexact Hp
  iexists _; iexact HO

/-- What holds of memory after the run. -/
abbrev After (s : (ℓ : Loc nD τ sig) → Buf (Elt F) ℓ) (c : Dev nD) : Prop :=
  (s ((c.tc : Thread nD τ).loc main_arg0) = m ((c.tc : Thread nD τ).loc main_arg0)
    ∧ s ((c.tc : Thread nD τ).loc main_arg1) = m ((c.tc : Thread nD τ).loc main_arg1)
    ∧ s ((c.tc : Thread nD τ).loc main_arg2) = m ((c.tc : Thread nD τ).loc main_arg2))
    ∧ s ((c.tc : Thread nD τ).loc main_v64) = V17 m (outs m) c main_v64
    ∧ s ((c.tc : Thread nD τ).loc main_v65) = V17 m (outs m) c main_v65
    ∧ s ((c.tc : Thread nD τ).loc main_v66) = V17 m (outs m) c main_v66
    ∧ s ((c.tc : Thread nD τ).loc main_v67) = V17 m (outs m) c main_v67

set_option backward.isDefEq.respectTransparency.types false in
/-- Every execution ends, keeps every argument and leaves in the results what the last valuation says. -/
theorem run (ρ : Dev nD → PrngReg) :
    θ_run defs (onTc (τ := τ) (main (F := F))) ⟨m, fun _ => 0, ρ⟩ (fun r => (∀ c : Dev nD, After m r.2.mem c) ∧ r.2.sem = fun _ => 0) := by
  refine Pipeline.θ_run_regions_kit_dev_sems (pcfgs (F := F)) adm (pdD m) () cellOf_inj emb₁ defs₀ Variants.none L lv m ρ main
    (segs m (outs m) Variants.none L lv E () (pdD m) (R0 m) (R1 m) (R2 m) (R3 m) (R4 m))
    (fun c Q => by
      rewrite [main_chain c, Seg.run_eq_chain,
        show (segs m (outs m) Variants.none L lv E () (pdD m) (R0 m) (R1 m) (R2 m) (R3 m) (R4 m) c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          StableHlo.seq hostOps4_1,
          StableHlo.seq hostOps4_2,
          StableHlo.seq hostOps4_3,
          StableHlo.seq hostOps4_4,
          StableHlo.seq hostOps4_5,
          StableHlo.seq hostOps4_6,
          Prog.lift (.customCall (Pipeline.entry 4) ()),
          StableHlo.seq hostOps5 ] from rfl]
      dsimp (config := { failIfUnchanged := false }) only
      exact .rfl)
    (fun c => by simp only [segs, Seg.pipes_host, Seg.pipes_region, Seg.pipes_nil]; decide) (fun _ => 0) (fun _ h => if_neg h)
    (fun _ => (BI.emp : sProp 𝕄)) (initOf (Pipeline.cells cfgs cellOf_inj) (Pipeline.launchToks cfgs cellOf_inj)) launchU
    (T₀ := fun c => iprop(StableHlo.held (c : Thread nD τ) (Pipeline.ucRefs τ sig) (V0 m c) ∗ E 0 c))
    (Tₙ := fun c => StableHlo.held (c : Thread nD τ) (Pipeline.ucRefs τ sig) (V17 m (outs m) c))
    (hch := fun c => ⟨.rfl, hpre0 m c, hpost0 m c, hpre1 m c, hpost1 m c, hpre2 m c, hpost2 m c, hpre3 m c, hpost3 m c, .rfl, .rfl, .rfl, .rfl, .rfl, .rfl, hpre4 m c, hpost4 m c, sep_mono .rfl (by iintro ⟨-, HO⟩; iexact HO)⟩)
    (hinit := ?_) (QY := fun c s => After m s.mem c)
    (hfin := fun c s' => ?_) (hQ := fun _ h hz => ⟨h, funext fun g => hz g (.inr (regions_no_unscoped g.2))⟩)
  · have hsplit : (bigSep Finset.univ fun c : Dev nD => iprop(unscopedBufs c (fun b => m ((c.tc : Thread nD τ).loc b)) ∗ unscopedSems0 c
          ∗ owes (c.tc : Thread nD τ) (0 : CellTallies nD τ sig Unit) ∅ ∗ Pipeline.launchCred (fun _ => 0) c ∗ prngReg c (ρ c) ∗ (BI.emp : sProp 𝕄)))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (0 : CellTallies nD τ sig Unit) ∅ ∗ Pipeline.launchCred (fun _ => 0) c ∗ prngReg c (ρ c) ∗ (BI.emp : sProp 𝕄)))
            : sProp 𝕄) := by
      rw [← bigSep_sep']
      exact bigSep_mono fun c _ => by rw [← Pipeline.unscopedBufs_held (Ix := Unit) (Name := ℕ) (U := UR sig nD τ) (Lvl := ℕ) c (V0 m c)]; exact BI.Entails.refl _
    iintro ⟨H, Hla⟩
    ihave H' := hsplit $$ H
    icases H' with ⟨Hh, Hr⟩
    imod (launchE ρ) $$ [Hr Hla] with HE
    · isplitl [Hr]; · iexact Hr
      iexact Hla
    imodintro
    iapply (show iprop((bigSep Finset.univ fun c : Dev nD => StableHlo.held (c : Thread nD τ) (Pipeline.ucRefs τ sig) (V0 m c)) ∗ bigSep Finset.univ (E0 (F := F)))
        ⊢ (bigSep Finset.univ fun c : Dev nD => iprop(StableHlo.held (c : Thread nD τ) (Pipeline.ucRefs τ sig) (V0 m c) ∗ E0 c) : sProp 𝕄) from by
      rw [← bigSep_sep'])
    isplitl [Hh]; · iexact Hh
    iexact HE
  · unfold StableHlo.held
    iintro ⟨Hh, HSI⟩
    ihave Hr := (pointsTo_read_all (Pipeline.ucRefs τ sig) (fun b => ((c : Thread nD τ).1, b)) (V17 m (outs m) c) s') $$ [Hh HSI]
    · isplitl [Hh] <;> iassumption
    icases Hr with ⟨%h, HSI⟩
    imodintro
    isplitr
    · ipureintro
      exact ⟨⟨(h (Proc.devRef .tc main_arg0) (Finset.mem_filter.mpr ⟨StableHlo.devRef_mem_tcRefs main_arg0, by decide⟩)).trans (V17_main_arg0 m (outs m) c),
        (h (Proc.devRef .tc main_arg1) (Finset.mem_filter.mpr ⟨StableHlo.devRef_mem_tcRefs main_arg1, by decide⟩)).trans (V17_main_arg1 m (outs m) c),
        (h (Proc.devRef .tc main_arg2) (Finset.mem_filter.mpr ⟨StableHlo.devRef_mem_tcRefs main_arg2, by decide⟩)).trans (V17_main_arg2 m (outs m) c)⟩,
        h (Proc.devRef .tc main_v64) (Finset.mem_filter.mpr ⟨StableHlo.devRef_mem_tcRefs main_v64, by decide⟩),
        h (Proc.devRef .tc main_v65) (Finset.mem_filter.mpr ⟨StableHlo.devRef_mem_tcRefs main_v65, by decide⟩),
        h (Proc.devRef .tc main_v66) (Finset.mem_filter.mpr ⟨StableHlo.devRef_mem_tcRefs main_v66, by decide⟩),
        h (Proc.devRef .tc main_v67) (Finset.mem_filter.mpr ⟨StableHlo.devRef_mem_tcRefs main_v67, by decide⟩)⟩
    · iexact HSI

/-- The frame alone. -/
theorem frame (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_mono (run m ρ) fun _ h => ⟨fun c => (h.1 c).1, h.2⟩

end Cert.Kernel.Run

end
-- ==== Proof.KernelIdeal.Body.lean ====
/- The attention kernel's body on whole staging memrefs: what one grid point writes to its output block and what it
   leaves in the bias scratch, for any earlier contents of the scratch. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.Exec
public import Idealize.ShloMosaic.Lib.Pipeline.Kit
public import Idealize.ShloMosaic.Lib.VecWindow
public import Idealize.ShloMosaic.Lib.Pipeline.Value

@[expose] public section

noncomputable section

namespace Cert.KernelIdeal.Attend

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]
variable {Ix : Type} [DecidableEq Ix] {U : Type} [URA U] {Lvl : Type} [Preorder Lvl]

local notation "𝕄" => MT nD τ sig Ix (Elt F) ℕ U Lvl

open VecWindow (put)

/-- The first branch's condition: the point is the first of its batch and head. -/
abbrev cond1 (i : grid4.Coords) : BitVec 1 :=
  Scalar.cmpi .ne (Scalar.extui (Scalar.cmpi .eq (BitVec.ofNat 32 (i 2).val) 0#32) : BitVec 32) 0#32

/-- The scratch as the first branch leaves it: no bias above the diagonal tile, the diagonal tile's bias below. -/
def scrInit (x9 : Vec F S1x1056x256 .f32) : Vec F S1056x256 .f32 :=
  put (s := S1056x256) (k4_pay3 (F := F)) ![1024, 0] S32x256.size
    (k4_pay4 (View.ld (Val := Elt F) x9 (Rect.unit (s := S1x1056x256) ![0, 1024, 0] S1x32x256.size inb_S1x1056x256_S1x32x256_0_1024_0)))

/-- The scratch the tile reads. -/
def scrRead (i : grid4.Coords) (x9 : Vec F S1x1056x256 .f32) (w : Vec F S1056x256 .f32) : Vec F S1056x256 .f32 :=
  if cond1 i = 1#1 then scrInit x9 else w

/-- The scratch the tile leaves: one more row block of the bias in the first steps. -/
def scrNext (i : grid4.Coords) (x9 : Vec F S1x1056x256 .f32) (w : Vec F S1056x256 .f32) : Vec F S1056x256 .f32 :=
  if h : k4_cond2 i = 1#1 then
    put (s := S1056x256) w (k4_off4 i) S32x256.size
      (k4_pay2 (View.ld (Val := Elt F) x9 (Rect.unit (s := S1x1056x256) (k4_off3 i) S1x32x256.size (k4_off3_inb i h))))
  else w

/-- The tile's keys and values: the rows its step looks at. -/
abbrev rows1 (i : grid4.Coords) : Rect S1x1x9216x64 := Rect.unit (s := S1x1x9216x64) (k4_off1 i) S1x1x1056x64.size (k4_off1_inb i)
/-- The scales of those rows. -/
abbrev rows2 (i : grid4.Coords) : Rect S1x1x9216x128 := Rect.unit (s := S1x1x9216x128) (k4_off2 i) S1x1x1056x1.size (k4_off2_inb i)

/-- The denominators and the exponentials, from which the tile's output follows. -/
def tileOut (v28 : FVec F S1056x256 .f32) (v30 : FVec F S1x256 .f32) (v34 : Vec F S1x1x1056x1 .f32) (v141 : Vec F S1x1x1056x64 .fp8e4m3) : Vec F S1x1x256x64 .bf16 :=
  let cst : F .f32 := Scalar.ofBits .f32 0x3F800000#32
  let v42 := k4_pay9 v28 v30 cst v34
  let v70 := k4_pay10 v28 v30 cst v34
  let v72 := k4_pay11 v28 v30 cst v34
  k4_pay1 (k4_pay7 v30 cst) (k4_pay8 v28 v34) (k4_pay13 v42 v70 v72 k4_pay12) (k4_pay14 v42 v70 v72 k4_pay12) k4_pay15 v141

/-- The block one grid point writes, from its input blocks and the scratch it reads. -/
def outBlk (i : grid4.Coords) (x3 : Vec F S1x1x256x64 .fp8e4m3) (x4 : Vec F S1x1x1x1x256 .f32) (x5 : Vec F S1x1x9216x64 .fp8e4m3) (x6 : Vec F S1x1x9216x128 .f32) (x7 : Vec F S1x1x9216x64 .fp8e4m3) (x8 : Vec F S1x1x9216x128 .f32)
    (w : Vec F S1056x256 .f32) : Vec F S1x1x256x64 .bf16 :=
  let v6 := View.ld (Val := Elt F) x5 (rows1 i)
  let v16 := View.ld (Val := Elt F) x6 (rows2 i)
  let v8 := View.ld (Val := Elt F) x3 (Rect.unit (s := S1x1x256x64) ![0, 0, 0, 0] S1x1x256x64.size inb_S1x1x256x64_S1x1x256x64_0_0_0_0)
  let v11 := View.ld (Val := Elt F) x4 (Rect.unit (s := S1x1x1x1x256) ![0, 0, 0, 0, 0] S1x1x1x1x256.size inb_S1x1x1x1x256_S1x1x1x1x256_0_0_0_0_0)
  let v22 := View.ld (Val := Elt F) w (Rect.unit (s := S1056x256) ![0, 0] S1056x256.size inb_S1056x256_S1056x256_0_0)
  tileOut (k4_pay5 v6 v8 v11 v16 v22) (k4_pay6 v6 v8 v11 v16 v22) (View.ld (Val := Elt F) x8 (rows2 i)) (View.ld (Val := Elt F) x7 (rows1 i))

variable (𝒱₀ : Variants)

/-- The first branch's two stores, read back over anything. -/
theorem read_init (arg9 : Memref sig .tc .vmem S1x1056x256 .f32) (f9 : arg9.view.ty.Contents (Elt F)) (arg11 : Memref sig .tc .vmem S1056x256 .f32) (f : arg11.view.ty.Contents (Elt F)) :
    arg11.view.read (Elt F) (arg11.view.writes (Elt F) f
      [⟨Rect.unit (s := S1056x256) ![1024, 0] S32x256.size inb_S1056x256_S32x256_1024_0,
          k4_pay4 (arg9.view.readAt (Elt F) (Rect.unit (s := S1x1056x256) ![0, 1024, 0] S1x32x256.size inb_S1x1056x256_S1x32x256_0_1024_0).toLoadRect f9)⟩,
        ⟨Rect.unit (s := S1056x256) ![0, 0] S1056x256.size inb_S1056x256_S1056x256_0_0, k4_pay3 (F := F)⟩])
      = scrInit (arg9.view.read (Elt F) f9) := by
  rw [View.read_writes_cons_put _ _ _ _ _ rfl, View.read_writes_full]
  rfl

set_option maxHeartbeats 4000000 in
/-- The body at the first point of a batch and head: the scratch is filled anew. -/
theorem bodyFirst (c : Dev nD) (i : grid4.Coords) (arg3 : Memref sig .tc .vmem S1x1x256x64 .fp8e4m3) (harg3 : arg3.IsWhole) (arg4 : Memref sig .tc .vmem S1x1x1x1x256 .f32) (harg4 : arg4.IsWhole) (arg5 : Memref sig .tc .vmem S1x1x9216x64 .fp8e4m3) (harg5 : arg5.IsWhole) (arg6 : Memref sig .tc .vmem S1x1x9216x128 .f32) (harg6 : arg6.IsWhole)
    (arg7 : Memref sig .tc .vmem S1x1x9216x64 .fp8e4m3) (harg7 : arg7.IsWhole) (arg8 : Memref sig .tc .vmem S1x1x9216x128 .f32) (harg8 : arg8.IsWhole) (arg9 : Memref sig .tc .vmem S1x1056x256 .f32) (harg9 : arg9.IsWhole) (arg10 : Memref sig .tc .vmem S1x1x256x64 .bf16) (harg10 : arg10.IsWhole) (arg11 : Memref sig .tc .vmem S1056x256 .f32) (harg11 : arg11.IsWhole)
    (x3 : Vec F S1x1x256x64 .fp8e4m3) (x4 : Vec F S1x1x1x1x256 .f32) (x5 : Vec F S1x1x9216x64 .fp8e4m3) (x6 : Vec F S1x1x9216x128 .f32) (x7 : Vec F S1x1x9216x64 .fp8e4m3) (x8 : Vec F S1x1x9216x128 .f32)
    (x9 : Vec F S1x1056x256 .f32) (w : Vec F S1056x256 .f32)
    (h1 : cond1 i = 1#1) (h2 : k4_cond2 i = 1#1) (E : Set ℕ) (K : PUnit → sProp 𝕄) :
        iprop(owns (c : Thread nD τ) arg3 fullShare x3
            ∗ owns (c : Thread nD τ) arg4 fullShare x4
            ∗ owns (c : Thread nD τ) arg5 fullShare x5
            ∗ owns (c : Thread nD τ) arg6 fullShare x6
            ∗ owns (c : Thread nD τ) arg7 fullShare x7
            ∗ owns (c : Thread nD τ) arg8 fullShare x8
            ∗ owns (c : Thread nD τ) arg9 fullShare x9
            ∗ (∃ d, owns (c : Thread nD τ) arg10 fullShare d) ∗ owns (c : Thread nD τ) arg11 fullShare w
            ∗ (iprop(owns (c : Thread nD τ) arg3 fullShare x3
            ∗ owns (c : Thread nD τ) arg4 fullShare x4
            ∗ owns (c : Thread nD τ) arg5 fullShare x5
            ∗ owns (c : Thread nD τ) arg6 fullShare x6
            ∗ owns (c : Thread nD τ) arg7 fullShare x7
            ∗ owns (c : Thread nD τ) arg8 fullShare x8
            ∗ owns (c : Thread nD τ) arg9 fullShare x9
            ∗ owns (c : Thread nD τ) arg10 fullShare (outBlk i x3 x4 x5 x6 x7 x8 (scrRead i x9 w))
            ∗ owns (c : Thread nD τ) arg11 fullShare (scrNext i x9 (scrRead i x9 w))) -∗ K ⟨⟩))
          ⊢ wp frame (wpE (defs₀ (F := F)) 𝒱₀ c none) E (cc4_attend i arg3 harg3 arg4 harg4 arg5 harg5 arg6 harg6 arg7 harg7 arg8 harg8 arg9 harg9 arg10 harg10 arg11 harg11) K := by
    simp only [cc4_attend_eq_skeleton]; unfold cc4_attend_skel
    simp only [k4_part1_eq_skeleton, k4_part2_eq_skeleton, k4_part3_eq_skeleton]
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%f11, %hf11, H11⟩, Hk⟩
    sl_exec
    sl_step
    iapply Hk
    isplitl [H3]; · iexists _; isplitr; · ipureintro; exact hf3
                    iexact H3
    isplitl [H4]; · iexists _; isplitr; · ipureintro; exact hf4
                    iexact H4
    isplitl [H5]; · iexists _; isplitr; · ipureintro; exact hf5
                    iexact H5
    isplitl [H6]; · iexists _; isplitr; · ipureintro; exact hf6
                    iexact H6
    isplitl [H7]; · iexists _; isplitr; · ipureintro; exact hf7
                    iexact H7
    isplitl [H8]; · iexists _; isplitr; · ipureintro; exact hf8
                    iexact H8
    isplitl [H9]; · iexists _; isplitr; · ipureintro; exact hf9
                    iexact H9
    isplitl [H10]
    · iexists _; isplitr
      swap; · iexact H10
      ipureintro
      subst hf3 hf4 hf5 hf6 hf7 hf8 hf9 hf11
      rw [show scrRead i (View.read (Elt F) arg9.view f9) (View.read (Elt F) arg11.view f11) = scrInit (View.read (Elt F) arg9.view f9) from if_pos h1]
      refine (View.read_writes_full _ _ _ _ _).trans ?_
      exact congrArg (fun z => outBlk i (View.read (Elt F) arg3.view f3) (View.read (Elt F) arg4.view f4) (View.read (Elt F) arg5.view f5)
        (View.read (Elt F) arg6.view f6) (View.read (Elt F) arg7.view f7) (View.read (Elt F) arg8.view f8) z) (read_init arg9 f9 arg11 arg11.view.junk)
    · iexists _; isplitr
      swap; · iexact H11
      ipureintro
      subst hf3 hf4 hf5 hf6 hf7 hf8 hf9 hf11
      rw [show scrRead i (View.read (Elt F) arg9.view f9) (View.read (Elt F) arg11.view f11) = scrInit (View.read (Elt F) arg9.view f9) from if_pos h1]
      unfold scrNext; rw [dif_pos h2]
      refine (View.read_writes_cons_put _ _ _ _ _ rfl).trans ?_
      exact congrArg (fun z : Vec F S1056x256 .f32 => put (s := S1056x256) z (k4_off4 i) S32x256.size (k4_pay2 (View.ld (Val := Elt F) (View.read (Elt F) arg9.view f9) (Rect.unit (s := S1x1056x256) (k4_off3 i) S1x32x256.size (k4_off3_inb i h2))))) (read_init arg9 f9 arg11 f11)

set_option maxHeartbeats 4000000 in
/-- The body at a point of the first steps after it: one more row block of the bias goes into the scratch. -/
theorem bodyMid (c : Dev nD) (i : grid4.Coords) (arg3 : Memref sig .tc .vmem S1x1x256x64 .fp8e4m3) (harg3 : arg3.IsWhole) (arg4 : Memref sig .tc .vmem S1x1x1x1x256 .f32) (harg4 : arg4.IsWhole) (arg5 : Memref sig .tc .vmem S1x1x9216x64 .fp8e4m3) (harg5 : arg5.IsWhole) (arg6 : Memref sig .tc .vmem S1x1x9216x128 .f32) (harg6 : arg6.IsWhole)
    (arg7 : Memref sig .tc .vmem S1x1x9216x64 .fp8e4m3) (harg7 : arg7.IsWhole) (arg8 : Memref sig .tc .vmem S1x1x9216x128 .f32) (harg8 : arg8.IsWhole) (arg9 : Memref sig .tc .vmem S1x1056x256 .f32) (harg9 : arg9.IsWhole) (arg10 : Memref sig .tc .vmem S1x1x256x64 .bf16) (harg10 : arg10.IsWhole) (arg11 : Memref sig .tc .vmem S1056x256 .f32) (harg11 : arg11.IsWhole)
    (x3 : Vec F S1x1x256x64 .fp8e4m3) (x4 : Vec F S1x1x1x1x256 .f32) (x5 : Vec F S1x1x9216x64 .fp8e4m3) (x6 : Vec F S1x1x9216x128 .f32) (x7 : Vec F S1x1x9216x64 .fp8e4m3) (x8 : Vec F S1x1x9216x128 .f32)
    (x9 : Vec F S1x1056x256 .f32) (w : Vec F S1056x256 .f32)
    (h1 : ¬ cond1 i = 1#1) (h2 : k4_cond2 i = 1#1) (E : Set ℕ) (K : PUnit → sProp 𝕄) :
        iprop(owns (c : Thread nD τ) arg3 fullShare x3
            ∗ owns (c : Thread nD τ) arg4 fullShare x4
            ∗ owns (c : Thread nD τ) arg5 fullShare x5
            ∗ owns (c : Thread nD τ) arg6 fullShare x6
            ∗ owns (c : Thread nD τ) arg7 fullShare x7
            ∗ owns (c : Thread nD τ) arg8 fullShare x8
            ∗ owns (c : Thread nD τ) arg9 fullShare x9
            ∗ (∃ d, owns (c : Thread nD τ) arg10 fullShare d) ∗ owns (c : Thread nD τ) arg11 fullShare w
            ∗ (iprop(owns (c : Thread nD τ) arg3 fullShare x3
            ∗ owns (c : Thread nD τ) arg4 fullShare x4
            ∗ owns (c : Thread nD τ) arg5 fullShare x5
            ∗ owns (c : Thread nD τ) arg6 fullShare x6
            ∗ owns (c : Thread nD τ) arg7 fullShare x7
            ∗ owns (c : Thread nD τ) arg8 fullShare x8
            ∗ owns (c : Thread nD τ) arg9 fullShare x9
            ∗ owns (c : Thread nD τ) arg10 fullShare (outBlk i x3 x4 x5 x6 x7 x8 (scrRead i x9 w))
            ∗ owns (c : Thread nD τ) arg11 fullShare (scrNext i x9 (scrRead i x9 w))) -∗ K ⟨⟩))
          ⊢ wp frame (wpE (defs₀ (F := F)) 𝒱₀ c none) E (cc4_attend i arg3 harg3 arg4 harg4 arg5 harg5 arg6 harg6 arg7 harg7 arg8 harg8 arg9 harg9 arg10 harg10 arg11 harg11) K := by
    simp only [cc4_attend_eq_skeleton]; unfold cc4_attend_skel
    simp only [k4_part1_eq_skeleton, k4_part2_eq_skeleton, k4_part3_eq_skeleton]
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%f11, %hf11, H11⟩, Hk⟩
    sl_exec
    sl_step
    iapply Hk
    isplitl [H3]; · iexists _; isplitr; · ipureintro; exact hf3
                    iexact H3
    isplitl [H4]; · iexists _; isplitr; · ipureintro; exact hf4
                    iexact H4
    isplitl [H5]; · iexists _; isplitr; · ipureintro; exact hf5
                    iexact H5
    isplitl [H6]; · iexists _; isplitr; · ipureintro; exact hf6
                    iexact H6
    isplitl [H7]; · iexists _; isplitr; · ipureintro; exact hf7
                    iexact H7
    isplitl [H8]; · iexists _; isplitr; · ipureintro; exact hf8
                    iexact H8
    isplitl [H9]; · iexists _; isplitr; · ipureintro; exact hf9
                    iexact H9
    isplitl [H10]
    · iexists _; isplitr
      swap; · iexact H10
      ipureintro
      subst hf3 hf4 hf5 hf6 hf7 hf8 hf9 hf11
      refine (View.read_writes_full _ _ _ _ _).trans ?_
      rw [show scrRead i (View.read (Elt F) arg9.view f9) (View.read (Elt F) arg11.view f11) = View.read (Elt F) arg11.view f11 from if_neg h1]
      rfl
    · iexists _; isplitr
      swap; · iexact H11
      ipureintro
      subst hf3 hf4 hf5 hf6 hf7 hf8 hf9 hf11
      rw [show scrRead i (View.read (Elt F) arg9.view f9) (View.read (Elt F) arg11.view f11) = View.read (Elt F) arg11.view f11 from if_neg h1]
      unfold scrNext; rw [dif_pos h2]
      exact View.read_writes_cons_put _ _ _ _ _ rfl

set_option maxHeartbeats 4000000 in
/-- The body at a later point: the scratch is left alone. -/
theorem bodyLast (c : Dev nD) (i : grid4.Coords) (arg3 : Memref sig .tc .vmem S1x1x256x64 .fp8e4m3) (harg3 : arg3.IsWhole) (arg4 : Memref sig .tc .vmem S1x1x1x1x256 .f32) (harg4 : arg4.IsWhole) (arg5 : Memref sig .tc .vmem S1x1x9216x64 .fp8e4m3) (harg5 : arg5.IsWhole) (arg6 : Memref sig .tc .vmem S1x1x9216x128 .f32) (harg6 : arg6.IsWhole)
    (arg7 : Memref sig .tc .vmem S1x1x9216x64 .fp8e4m3) (harg7 : arg7.IsWhole) (arg8 : Memref sig .tc .vmem S1x1x9216x128 .f32) (harg8 : arg8.IsWhole) (arg9 : Memref sig .tc .vmem S1x1056x256 .f32) (harg9 : arg9.IsWhole) (arg10 : Memref sig .tc .vmem S1x1x256x64 .bf16) (harg10 : arg10.IsWhole) (arg11 : Memref sig .tc .vmem S1056x256 .f32) (harg11 : arg11.IsWhole)
    (x3 : Vec F S1x1x256x64 .fp8e4m3) (x4 : Vec F S1x1x1x1x256 .f32) (x5 : Vec F S1x1x9216x64 .fp8e4m3) (x6 : Vec F S1x1x9216x128 .f32) (x7 : Vec F S1x1x9216x64 .fp8e4m3) (x8 : Vec F S1x1x9216x128 .f32)
    (x9 : Vec F S1x1056x256 .f32) (w : Vec F S1056x256 .f32)
    (h1 : ¬ cond1 i = 1#1) (h2 : ¬ k4_cond2 i = 1#1) (E : Set ℕ) (K : PUnit → sProp 𝕄) :
        iprop(owns (c : Thread nD τ) arg3 fullShare x3
            ∗ owns (c : Thread nD τ) arg4 fullShare x4
            ∗ owns (c : Thread nD τ) arg5 fullShare x5
            ∗ owns (c : Thread nD τ) arg6 fullShare x6
            ∗ owns (c : Thread nD τ) arg7 fullShare x7
            ∗ owns (c : Thread nD τ) arg8 fullShare x8
            ∗ owns (c : Thread nD τ) arg9 fullShare x9
            ∗ (∃ d, owns (c : Thread nD τ) arg10 fullShare d) ∗ owns (c : Thread nD τ) arg11 fullShare w
            ∗ (iprop(owns (c : Thread nD τ) arg3 fullShare x3
            ∗ owns (c : Thread nD τ) arg4 fullShare x4
            ∗ owns (c : Thread nD τ) arg5 fullShare x5
            ∗ owns (c : Thread nD τ) arg6 fullShare x6
            ∗ owns (c : Thread nD τ) arg7 fullShare x7
            ∗ owns (c : Thread nD τ) arg8 fullShare x8
            ∗ owns (c : Thread nD τ) arg9 fullShare x9
            ∗ owns (c : Thread nD τ) arg10 fullShare (outBlk i x3 x4 x5 x6 x7 x8 (scrRead i x9 w))
            ∗ owns (c : Thread nD τ) arg11 fullShare (scrNext i x9 (scrRead i x9 w))) -∗ K ⟨⟩))
          ⊢ wp frame (wpE (defs₀ (F := F)) 𝒱₀ c none) E (cc4_attend i arg3 harg3 arg4 harg4 arg5 harg5 arg6 harg6 arg7 harg7 arg8 harg8 arg9 harg9 arg10 harg10 arg11 harg11) K := by
    simp only [cc4_attend_eq_skeleton]; unfold cc4_attend_skel
    simp only [k4_part1_eq_skeleton, k4_part2_eq_skeleton, k4_part3_eq_skeleton]
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%f11, %hf11, H11⟩, Hk⟩
    sl_exec
    sl_step
    iapply Hk
    isplitl [H3]; · iexists _; isplitr; · ipureintro; exact hf3
                    iexact H3
    isplitl [H4]; · iexists _; isplitr; · ipureintro; exact hf4
                    iexact H4
    isplitl [H5]; · iexists _; isplitr; · ipureintro; exact hf5
                    iexact H5
    isplitl [H6]; · iexists _; isplitr; · ipureintro; exact hf6
                    iexact H6
    isplitl [H7]; · iexists _; isplitr; · ipureintro; exact hf7
                    iexact H7
    isplitl [H8]; · iexists _; isplitr; · ipureintro; exact hf8
                    iexact H8
    isplitl [H9]; · iexists _; isplitr; · ipureintro; exact hf9
                    iexact H9
    isplitl [H10]
    · iexists _; isplitr
      swap; · iexact H10
      ipureintro
      subst hf3 hf4 hf5 hf6 hf7 hf8 hf9 hf11
      refine (View.read_writes_full _ _ _ _ _).trans ?_
      rw [show scrRead i (View.read (Elt F) arg9.view f9) (View.read (Elt F) arg11.view f11) = View.read (Elt F) arg11.view f11 from if_neg h1]
      rfl
    · iexists _; isplitr
      swap; · iexact H11
      ipureintro
      subst hf3 hf4 hf5 hf6 hf7 hf8 hf9 hf11
      rw [show scrRead i (View.read (Elt F) arg9.view f9) (View.read (Elt F) arg11.view f11) = View.read (Elt F) arg11.view f11 from if_neg h1]
      unfold scrNext; rw [dif_neg h2]

/-- The body at any point. -/
theorem body (c : Dev nD) (i : grid4.Coords) (arg3 : Memref sig .tc .vmem S1x1x256x64 .fp8e4m3) (harg3 : arg3.IsWhole) (arg4 : Memref sig .tc .vmem S1x1x1x1x256 .f32) (harg4 : arg4.IsWhole) (arg5 : Memref sig .tc .vmem S1x1x9216x64 .fp8e4m3) (harg5 : arg5.IsWhole) (arg6 : Memref sig .tc .vmem S1x1x9216x128 .f32) (harg6 : arg6.IsWhole)
    (arg7 : Memref sig .tc .vmem S1x1x9216x64 .fp8e4m3) (harg7 : arg7.IsWhole) (arg8 : Memref sig .tc .vmem S1x1x9216x128 .f32) (harg8 : arg8.IsWhole) (arg9 : Memref sig .tc .vmem S1x1056x256 .f32) (harg9 : arg9.IsWhole) (arg10 : Memref sig .tc .vmem S1x1x256x64 .bf16) (harg10 : arg10.IsWhole) (arg11 : Memref sig .tc .vmem S1056x256 .f32) (harg11 : arg11.IsWhole)
    (x3 : Vec F S1x1x256x64 .fp8e4m3) (x4 : Vec F S1x1x1x1x256 .f32) (x5 : Vec F S1x1x9216x64 .fp8e4m3) (x6 : Vec F S1x1x9216x128 .f32) (x7 : Vec F S1x1x9216x64 .fp8e4m3) (x8 : Vec F S1x1x9216x128 .f32)
    (x9 : Vec F S1x1056x256 .f32) (w : Vec F S1056x256 .f32)
     (E : Set ℕ) (K : PUnit → sProp 𝕄) :
        iprop(owns (c : Thread nD τ) arg3 fullShare x3
            ∗ owns (c : Thread nD τ) arg4 fullShare x4
            ∗ owns (c : Thread nD τ) arg5 fullShare x5
            ∗ owns (c : Thread nD τ) arg6 fullShare x6
            ∗ owns (c : Thread nD τ) arg7 fullShare x7
            ∗ owns (c : Thread nD τ) arg8 fullShare x8
            ∗ owns (c : Thread nD τ) arg9 fullShare x9
            ∗ (∃ d, owns (c : Thread nD τ) arg10 fullShare d) ∗ owns (c : Thread nD τ) arg11 fullShare w
            ∗ (iprop(owns (c : Thread nD τ) arg3 fullShare x3
            ∗ owns (c : Thread nD τ) arg4 fullShare x4
            ∗ owns (c : Thread nD τ) arg5 fullShare x5
            ∗ owns (c : Thread nD τ) arg6 fullShare x6
            ∗ owns (c : Thread nD τ) arg7 fullShare x7
            ∗ owns (c : Thread nD τ) arg8 fullShare x8
            ∗ owns (c : Thread nD τ) arg9 fullShare x9
            ∗ owns (c : Thread nD τ) arg10 fullShare (outBlk i x3 x4 x5 x6 x7 x8 (scrRead i x9 w))
            ∗ owns (c : Thread nD τ) arg11 fullShare (scrNext i x9 (scrRead i x9 w))) -∗ K ⟨⟩))
          ⊢ wp frame (wpE (defs₀ (F := F)) 𝒱₀ c none) E (cc4_attend i arg3 harg3 arg4 harg4 arg5 harg5 arg6 harg6 arg7 harg7 arg8 harg8 arg9 harg9 arg10 harg10 arg11 harg11) K := by
  by_cases h1 : cond1 i = 1#1
  · have h2 : k4_cond2 i = 1#1 := by
      unfold cond1 at h1; unfold k4_cond2
      revert h1
      have hi := (i 2).isLt
      generalize (i 2).val = n at hi ⊢
      revert n
      decide
    exact bodyFirst 𝒱₀ c i arg3 harg3 arg4 harg4 arg5 harg5 arg6 harg6 arg7 harg7 arg8 harg8 arg9 harg9 arg10 harg10 arg11 harg11 x3 x4 x5 x6 x7 x8 x9 w h1 h2 E K
  · by_cases h2 : k4_cond2 i = 1#1
    · exact bodyMid 𝒱₀ c i arg3 harg3 arg4 harg4 arg5 harg5 arg6 harg6 arg7 harg7 arg8 harg8 arg9 harg9 arg10 harg10 arg11 harg11 x3 x4 x5 x6 x7 x8 x9 w h1 h2 E K
    · exact bodyLast 𝒱₀ c i arg3 harg3 arg4 harg4 arg5 harg5 arg6 harg6 arg7 harg7 arg8 harg8 arg9 harg9 arg10 harg10 arg11 harg11 x3 x4 x5 x6 x7 x8 x9 w h1 h2 E K

end Cert.KernelIdeal.Attend

end
-- ==== Proof.KernelIdeal.Bias.lean ====
/- What the bias scratch holds at the start of each step: the bias rows of the offsets the steps so far have uncovered, and -inf above them. -/
module

public import proofs.«01_k».proof.Proof.KernelIdeal.Body
public import Idealize.ShloMosaic.Lib.ValueIdx

@[expose] public section

noncomputable section

namespace Cert.KernelIdeal.Attend

open Cert.KernelIdeal Cert.KernelIdeal.Gen
open Idealize.ShloMosaic Idealize.ShloMosaic.ValueIdx
open VecWindow (put)

variable {F : FTy → Type} [FloatOps F] [Named F]

/-- The step of a point among the points of its batch and head. -/
abbrev step (i : grid4.Coords) : ℕ := (i 2).val

theorem step_lt (i : grid4.Coords) : step i < 256 := (i 2).isLt

theorem cond1_iff (i : grid4.Coords) : cond1 i = 1#1 ↔ step i = 0 := by
  unfold cond1 step
  have hi := (i 2).isLt
  generalize (i 2).val = n at hi ⊢
  revert n
  decide

theorem cond2_iff (i : grid4.Coords) : k4_cond2 i = 1#1 ↔ step i < 32 := by
  unfold k4_cond2 step
  have hi := (i 2).isLt
  generalize (i 2).val = n at hi ⊢
  revert n
  decide

theorem off1_eq (i : grid4.Coords) : k4_off1 i = ![0, 0, 32 * step i, 0] := by
  unfold k4_off1 step
  have hi := (i 2).isLt
  generalize (i 2).val = n at hi ⊢
  have : (Scalar.indexCast (Scalar.muli (BitVec.ofNat 32 n) 32#32) : Index).toNat = 32 * n := by
    revert n
    decide
  show ![0, 0, (Scalar.indexCast (Scalar.muli (BitVec.ofNat 32 n) 32#32) : Index).toNat, 0] = _
  rw [this]

theorem off2_eq (i : grid4.Coords) : k4_off2 i = ![0, 0, 32 * step i, 0] := off1_eq i

theorem row_eq (n : ℕ) (hi : n < 256) : n < 32 →
    (Scalar.indexCast (Scalar.subi 1024#32 (Scalar.muli (Scalar.addi (BitVec.ofNat 32 n) 1#32) 32#32)) : Index).toNat = 1024 - 32 * (n + 1) := by
  revert n
  decide

theorem off4_eq (i : grid4.Coords) (h : step i < 32) : k4_off4 i = ![1024 - 32 * (step i + 1), 0] := by
  show ![(Scalar.indexCast (Scalar.subi 1024#32 (Scalar.muli (Scalar.addi (BitVec.ofNat 32 (step i)) 1#32) 32#32)) : Index).toNat, 0] = _
  rw [row_eq _ (step_lt i) h]

theorem off3_eq (i : grid4.Coords) (h : step i < 32) : k4_off3 i = ![0, 1024 - 32 * (step i + 1), 0] := by
  show ![0, (Scalar.indexCast (Scalar.subi 1024#32 (Scalar.muli (Scalar.addi (BitVec.ofNat 32 (step i)) 1#32) 32#32)) : Index).toNat, 0] = _
  rw [row_eq _ (step_lt i) h]

/-- The bias table of one head, times the constant the kernel scales it by. -/
def biasRows (x9 : Vec F S1x1056x256 .f32) : Vec F S1056x256 .f32 :=
  mulf (fun y : S1056x256.Idx => x9 (ix3 (0 : Fin 1) (y 0 : Fin 1056) (y 1 : Fin 256))) (broadcast S1056x256 (Named.named κ "log2e" 0x3FB8AA3B#32 : F .f32))

/-- The scratch before step `s`: bias rows from row `1024 - 32 s` on, -inf above. -/
def scrAt (x9 : Vec F S1x1056x256 .f32) (s : ℕ) : Vec F S1056x256 .f32 :=
  fun y => if 1024 - 32 * s ≤ (y 0).val then biasRows x9 y else k4_pay3 (F := F) y

/-- A row block loaded from the bias table and scaled, at an index. -/
theorem pay4_apply (x9 : Vec F S1x1056x256 .f32) (off : Fin 3 → ℕ) (inb : ∀ a, off a + S1x32x256.size a ≤ S1x1056x256.size a)
    (o : ℕ) (ho : off = ![0, o, 0]) (x : S32x256.Idx) (y : S1056x256.Idx) (h0 : (y 0).val = o + (x 0).val) (h1 : (y 1).val = (x 1).val) :
    k4_pay4 (View.ld (Val := Elt F) x9 (Rect.unit (s := S1x1056x256) off S1x32x256.size inb)) x = biasRows x9 y := by
  subst ho
  have e : (shapeCast S32x256 (View.ld (Val := Elt F) x9 (Rect.unit (s := S1x1056x256) ![0, o, 0] S1x32x256.size inb)) shapeCasts_S1x32x256_S32x256) x
      = x9 (ix3 (0 : Fin 1) (y 0 : Fin 1056) (y 1 : Fin 256)) := by
    refine (shapeCast_dropUnit_apply ![32, 256] _ _ x).trans (congrArg x9 (funext fun a => Fin.ext ?_))
    match a with
    | ⟨0, _⟩ => rfl
    | ⟨1, _⟩ => show o + 1 * (x 0).val = (y 0).val; omega
    | ⟨2, _⟩ => show 0 + 1 * (x 1).val = (y 1).val; omega
  unfold k4_pay4
  dsimp only
  rw [shapeCast_self]
  unfold biasRows mulf
  dsimp only
  rw [e]
  rfl

theorem put_rows (x9 : Vec F S1x1056x256 .f32) (w : Vec F S1056x256 .f32) (off : Fin 3 → ℕ) (inb : ∀ a, off a + S1x32x256.size a ≤ S1x1056x256.size a)
    (o : ℕ) (ho : off = ![0, o, 0]) (off' : Fin 2 → ℕ) (ho' : off' = ![o, 0]) (y : S1056x256.Idx) :
    put (s := S1056x256) w off' S32x256.size (k4_pay4 (View.ld (Val := Elt F) x9 (Rect.unit (s := S1x1056x256) off S1x32x256.size inb))) y
      = if o ≤ (y 0).val ∧ (y 0).val < o + 32 then biasRows x9 y else w y := by
  subst ho'
  unfold VecWindow.put
  by_cases h : o ≤ (y 0).val ∧ (y 0).val < o + 32
  · have hall : ∀ a : Fin 2, (![o, 0] : Fin 2 → ℕ) a ≤ (y a).val ∧ (y a).val < (![o, 0] : Fin 2 → ℕ) a + S32x256.size a := fun a => by
      match a with
      | ⟨0, _⟩ => exact h
      | ⟨1, _⟩ => exact ⟨Nat.zero_le _, by have := (y 1).isLt; show (y 1).val < 0 + 256; have e : S1056x256.size 1 = 256 := rfl; omega⟩
    rw [dif_pos hall, if_pos h]
    refine pay4_apply x9 off inb o ho _ y ?_ ?_
    · show (y 0).val = o + ((y 0).val - o); omega
    · show (y 1).val = (y 1).val - 0; omega
  · rw [dif_neg fun hall => h (hall 0), if_neg h]

theorem scrInit_eq (x9 : Vec F S1x1056x256 .f32) : scrInit x9 = scrAt x9 0 := by
  funext y
  unfold scrInit scrAt
  rw [put_rows x9 _ _ _ 1024 rfl _ rfl y]
  have hy : (y 0).val < 1056 := (y 0).isLt
  by_cases h : 1024 ≤ (y 0).val
  · rw [if_pos ⟨h, by omega⟩, if_pos (by omega)]
  · rw [if_neg (by omega), if_neg (by omega)]

/-- Before the tile reads it the scratch is the step's, if the steps before left it so. -/
theorem scrRead_eq (i : grid4.Coords) (x9 : Vec F S1x1056x256 .f32) (w : Vec F S1056x256 .f32) (hw : step i ≠ 0 → w = scrAt x9 (step i)) :
    scrRead i x9 w = scrAt x9 (step i) := by
  unfold scrRead
  by_cases h : step i = 0
  · rw [if_pos ((cond1_iff i).mpr h), h, scrInit_eq]
  · rw [if_neg (fun h' => h ((cond1_iff i).mp h')), hw h]

/-- After the tile the scratch is the next step's. -/
theorem scrNext_eq (i : grid4.Coords) (x9 : Vec F S1x1056x256 .f32) : scrNext i x9 (scrAt x9 (step i)) = scrAt x9 (step i + 1) := by
  unfold scrNext
  by_cases h : step i < 32
  · rw [dif_pos ((cond2_iff i).mpr h)]
    funext y
    refine (put_rows x9 _ _ _ _ (off3_eq i h) _ (off4_eq i h) y).trans ?_
    unfold scrAt
    by_cases h1 : 1024 - 32 * (step i + 1) ≤ (y 0).val
    · by_cases h2 : (y 0).val < 1024 - 32 * (step i + 1) + 32
      · rw [if_pos ⟨h1, h2⟩, if_pos h1]
      · rw [if_neg (by omega), if_pos (by omega), if_pos h1]
    · rw [if_neg (by omega), if_neg (by omega), if_neg h1]
  · rw [dif_neg (fun h' => h ((cond2_iff i).mp h'))]
    funext y
    unfold scrAt
    rw [if_pos (by omega), if_pos (by omega)]

end Cert.KernelIdeal.Attend

end
-- ==== Proof.KernelIdeal.K4.lean ====
/- The attention call's proof data and body obligation: every input window holds its block, the output window what the body
   writes from those blocks and the bias scratch, and the scratch, carried in the invariant, the rows uncovered so far. -/
module

public import proofs.«01_k».proof.Proof.KernelIdeal.Bias

@[expose] public section

noncomputable section

namespace Cert.KernelIdeal.Attend

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]
variable {Ix : Type} [DecidableEq Ix] {U : Type} [URA U] {Lvl : Type} [Preorder Lvl]

local notation "𝕄" => MT nD τ sig Ix (Elt F) ℕ U Lvl

variable (𝒱₀ : Variants) (V : (c : Dev nD) → (b : Ref sig .tc) → Buf (Elt F) ((c : Thread nD τ).loc b)) (D : Dev nD → CellTallies nD τ sig Ix)

/-- Window `w`'s block at point `t`, read off its array as the region finds it (`V`). -/
def iblk (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's staging buffer holds its block at every point. -/
theorem before_of {c : Dev nD} (w : Fin cfg4.W) (hw : (cfg4.win w).isOut = false) (hidle : ∀ i, cfg4.idle w i = false)
    (hclip : ∀ t t' : Fin cfg4.N, (cfg4.win w).index t = (cfg4.win w).index t' →
      (cfg4.win w).clip (cfg4.grid.coords t) = (cfg4.win w).clip (cfg4.grid.coords t'))
    (dat : Dat τ (Elt F) Ix ℕ U Lvl cfg4 c) (hA : dat.A w = V c (Pipeline.arrRef spec4 w))
    (hafter : ∀ t, (cfg4.win w).cut (cfg4.grid.coords t) (dat.after w t) = iblk V c w t) (t : Fin cfg4.N) (d) :
    dat.before w t d = dat.fetched w t d :=
  dat.before_in_eq_fetched w hw hidle hclip (fun t => by rw [hafter]; unfold Dat.blockOf iblk; rw [hA]) t d

theorem before_0_of {c : Dev nD} (dat : Dat τ (Elt F) Ix ℕ U Lvl cfg4 c) (hA : dat.A 0 = V c (Pipeline.arrRef spec4 0))
    (hafter : ∀ t, dat.after 0 t = iblk V c 0 t) (t : Fin cfg4.N) (d) : dat.before 0 t d = iblk V c 0 t :=
  (before_of V 0 rfl (fun _ => rfl) (fun _ _ _ => rfl) dat hA (fun t => by rw [hafter]) t d).trans
    (by unfold Dat.fetched Dat.blockOf iblk; rw [hA]; rfl)
theorem before_1_of {c : Dev nD} (dat : Dat τ (Elt F) Ix ℕ U Lvl cfg4 c) (hA : dat.A 1 = V c (Pipeline.arrRef spec4 1))
    (hafter : ∀ t, dat.after 1 t = iblk V c 1 t) (t : Fin cfg4.N) (d) : dat.before 1 t d = iblk V c 1 t :=
  (before_of V 1 rfl (fun _ => rfl) (fun _ _ _ => rfl) dat hA (fun t => by rw [hafter]) t d).trans
    (by unfold Dat.fetched Dat.blockOf iblk; rw [hA]; rfl)
theorem before_2_of {c : Dev nD} (dat : Dat τ (Elt F) Ix ℕ U Lvl cfg4 c) (hA : dat.A 2 = V c (Pipeline.arrRef spec4 2))
    (hafter : ∀ t, dat.after 2 t = iblk V c 2 t) (t : Fin cfg4.N) (d) : dat.before 2 t d = iblk V c 2 t :=
  (before_of V 2 rfl (fun _ => rfl) (fun _ _ _ => rfl) dat hA (fun t => by rw [hafter]) t d).trans
    (by unfold Dat.fetched Dat.blockOf iblk; rw [hA]; rfl)
theorem before_3_of {c : Dev nD} (dat : Dat τ (Elt F) Ix ℕ U Lvl cfg4 c) (hA : dat.A 3 = V c (Pipeline.arrRef spec4 3))
    (hafter : ∀ t, dat.after 3 t = iblk V c 3 t) (t : Fin cfg4.N) (d) : dat.before 3 t d = iblk V c 3 t :=
  (before_of V 3 rfl (fun _ => rfl) (fun _ _ _ => rfl) dat hA (fun t => by rw [hafter]) t d).trans
    (by unfold Dat.fetched Dat.blockOf iblk; rw [hA]; rfl)
theorem before_4_of {c : Dev nD} (dat : Dat τ (Elt F) Ix ℕ U Lvl cfg4 c) (hA : dat.A 4 = V c (Pipeline.arrRef spec4 4))
    (hafter : ∀ t, dat.after 4 t = iblk V c 4 t) (t : Fin cfg4.N) (d) : dat.before 4 t d = iblk V c 4 t :=
  (before_of V 4 rfl (fun _ => rfl) (fun _ _ _ => rfl) dat hA (fun t => by rw [hafter]) t d).trans
    (by unfold Dat.fetched Dat.blockOf iblk; rw [hA]; rfl)
theorem before_5_of {c : Dev nD} (dat : Dat τ (Elt F) Ix ℕ U Lvl cfg4 c) (hA : dat.A 5 = V c (Pipeline.arrRef spec4 5))
    (hafter : ∀ t, dat.after 5 t = iblk V c 5 t) (t : Fin cfg4.N) (d) : dat.before 5 t d = iblk V c 5 t :=
  (before_of V 5 rfl (fun _ => rfl) (fun _ _ _ => rfl) dat hA (fun t => by rw [hafter]) t d).trans
    (by unfold Dat.fetched Dat.blockOf iblk; rw [hA]; rfl)
theorem before_6_of {c : Dev nD} (dat : Dat τ (Elt F) Ix ℕ U Lvl cfg4 c) (hA : dat.A 6 = V c (Pipeline.arrRef spec4 6))
    (hafter : ∀ t, dat.after 6 t = iblk V c 6 t) (t : Fin cfg4.N) (d) : dat.before 6 t d = iblk V c 6 t :=
  (before_of V 6 rfl (fun _ => rfl) (fun _ _ _ => rfl) dat hA (fun t => by rw [hafter]) t d).trans
    (by unfold Dat.fetched Dat.blockOf iblk; rw [hA]; rfl)

/-- The block the body writes at point `t`. -/
def outAt (c : Dev nD) (t : Fin cfg4.N) : Vec F S1x1x256x64 .bf16 :=
  outBlk (grid4.coords t) (iblk V c 0 t) (iblk V c 1 t) (iblk V c 2 t) (iblk V c 3 t) (iblk V c 4 t) (iblk V c 5 t)
    (scrAt (iblk V c 6 t) (step (grid4.coords t)))

/-- The scratch as a memref. -/
abbrev scr : Memref sig .tc .vmem S1056x256 .f32 := Memref.whole cc4_scratch0

/-- What the scratch is known to hold when point `n` starts. -/
def Known (c : Dev nD) (n : ℕ) (w : Vec F S1056x256 .f32) : Prop :=
  ∀ u : Fin cfg4.N, u.val = n → step (grid4.coords u) ≠ 0 → w = scrAt (iblk V c 6 u) (step (grid4.coords u))

/-- The region's invariant before point `n`: the other scoped buffers, the random-number register, and the scratch at known contents. -/
def ΦK (c : Dev nD) (n : ℕ) : sProp 𝕄 :=
  iprop(Pipeline.scopedRestBut (Ix := Ix) (Name := ℕ) (U := U) (Lvl := Lvl) (Val := Elt F) spec4 c [cc4_scratch0]
    ∗ (∃ r, prngReg c r) ∗ ∃ w : Vec F S1056x256 .f32, ⌜Known V c n w⌝ ∗ owns (c : Thread nD τ) scr fullShare w)

/-- The proof data of the attention call on core `c`. -/
def dat (c : Dev nD) : Dat τ (Elt F) Ix ℕ U Lvl cfg4 c where
  A w := V c (Pipeline.arrRef spec4 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => outAt V c t
  Φ t := ΦK (Ix := Ix) (U := U) (Lvl := Lvl) V c t.val
  q _ := fullShare
  owed _ := D c

variable (ι : Ix)

local notation "𝕕" => dat (Ix := Ix) (U := U) (Lvl := Lvl) V D

theorem A_eq (c : Dev nD) (w : Fin cfg4.W) : (𝕕 c).A w = V c (Pipeline.arrRef spec4 w) := by
  dsimp only [dat]

theorem after_0 (c : Dev nD) (t : Fin cfg4.N) : (𝕕 c).after 0 t = iblk V c 0 t := by dsimp only [dat]
theorem after_1 (c : Dev nD) (t : Fin cfg4.N) : (𝕕 c).after 1 t = iblk V c 1 t := by dsimp only [dat]
theorem after_2 (c : Dev nD) (t : Fin cfg4.N) : (𝕕 c).after 2 t = iblk V c 2 t := by dsimp only [dat]
theorem after_3 (c : Dev nD) (t : Fin cfg4.N) : (𝕕 c).after 3 t = iblk V c 3 t := by dsimp only [dat]
theorem after_4 (c : Dev nD) (t : Fin cfg4.N) : (𝕕 c).after 4 t = iblk V c 4 t := by dsimp only [dat]
theorem after_5 (c : Dev nD) (t : Fin cfg4.N) : (𝕕 c).after 5 t = iblk V c 5 t := by dsimp only [dat]
theorem after_6 (c : Dev nD) (t : Fin cfg4.N) : (𝕕 c).after 6 t = iblk V c 6 t := by dsimp only [dat]

theorem after_7 (c : Dev nD) (t : Fin cfg4.N) : (𝕕 c).after 7 t = outAt V c t := by dsimp only [dat]

theorem before_0 (c : Dev nD) (t : Fin cfg4.N) (d) : (𝕕 c).before 0 t d = iblk V c 0 t :=
  before_0_of V (𝕕 c) (A_eq V D c 0) (after_0 V D c) t d
theorem before_1 (c : Dev nD) (t : Fin cfg4.N) (d) : (𝕕 c).before 1 t d = iblk V c 1 t :=
  before_1_of V (𝕕 c) (A_eq V D c 1) (after_1 V D c) t d
theorem before_2 (c : Dev nD) (t : Fin cfg4.N) (d) : (𝕕 c).before 2 t d = iblk V c 2 t :=
  before_2_of V (𝕕 c) (A_eq V D c 2) (after_2 V D c) t d
theorem before_3 (c : Dev nD) (t : Fin cfg4.N) (d) : (𝕕 c).before 3 t d = iblk V c 3 t :=
  before_3_of V (𝕕 c) (A_eq V D c 3) (after_3 V D c) t d
theorem before_4 (c : Dev nD) (t : Fin cfg4.N) (d) : (𝕕 c).before 4 t d = iblk V c 4 t :=
  before_4_of V (𝕕 c) (A_eq V D c 4) (after_4 V D c) t d
theorem before_5 (c : Dev nD) (t : Fin cfg4.N) (d) : (𝕕 c).before 5 t d = iblk V c 5 t :=
  before_5_of V (𝕕 c) (A_eq V D c 5) (after_5 V D c) t d
theorem before_6 (c : Dev nD) (t : Fin cfg4.N) (d) : (𝕕 c).before 6 t d = iblk V c 6 t :=
  before_6_of V (𝕕 c) (A_eq V D c 6) (after_6 V D c) t d

/-! ## The step of a point, and the bias table's block -/

theorem step_eq (t : Fin cfg4.N) : step (grid4.coords t) = t.val % 256 := by
  have := Pipeline.Grid.coords_val (G := grid4) t 2 (S := 1) (B := 256) (by decide) rfl
  rw [Nat.div_one] at this
  exact this

theorem iblk_keep (c : Dev nD) (t u : Fin cfg4.N) (h : u.val = t.val + 1) (hs : step (grid4.coords u) ≠ 0) : iblk V c 6 u = iblk V c 6 t := by
  have hf : (cfg4.win 6).fetch u = false := by
    rw [Bool.eq_false_iff]
    intro hc
    rw [step_eq] at hs
    exact hs ((fetch4_6 u).mp hc)
  obtain ⟨hu, hix⟩ := (cfg4.win 6).index_eq_of_fetch rfl u hf
  have ht : (⟨u.val - 1, Nat.lt_of_le_of_lt (Nat.sub_le _ _) u.isLt⟩ : Fin cfg4.N) = t := Fin.ext (by show u.val - 1 = t.val; omega)
  have hix' : (cfg4.win 6).index u = (cfg4.win 6).index t := hix.trans (congrArg (cfg4.win 6).index ht)
  exact by
    have h0 := (dat (Ix := Unit) (U := UR sig nD τ) (Lvl := ℕ) V (fun _ => 0) c).fetched_congr 6 hix' rfl (iblk V c 6 t)
    unfold Dat.fetched Dat.blockOf at h0
    exact h0

/-- The scratch the body leaves is what the next point is known to find. -/
theorem known_next (c : Dev nD) (t : Fin cfg4.N) :
    Known V c (t.val + 1) (scrNext (grid4.coords t) (iblk V c 6 t) (scrAt (iblk V c 6 t) (step (grid4.coords t)))) := by
  intro u hu hs
  have h1 : step (grid4.coords u) = step (grid4.coords t) + 1 := by
    rw [step_eq, step_eq] at *; omega
  rw [iblk_keep V c t u hu hs, h1]
  exact scrNext_eq (grid4.coords t) (iblk V c 6 t)

/-! ## The body obligation -/

abbrev ms_0 (t : Fin cfg4.N) : Memref sig .tc .vmem S1x1x256x64 .fp8e4m3 := win4_0.stage (cfg4.slots t 0)
abbrev hs_0 (t : Fin cfg4.N) : (ms_0 t).IsWhole := hstage4_0 ((cfg4.slots t 0).cast nbuf4_0)
abbrev ms_1 (t : Fin cfg4.N) : Memref sig .tc .vmem S1x1x1x1x256 .f32 := win4_1.stage (cfg4.slots t 1)
abbrev hs_1 (t : Fin cfg4.N) : (ms_1 t).IsWhole := hstage4_1 ((cfg4.slots t 1).cast nbuf4_1)
abbrev ms_2 (t : Fin cfg4.N) : Memref sig .tc .vmem S1x1x9216x64 .fp8e4m3 := win4_2.stage (cfg4.slots t 2)
abbrev hs_2 (t : Fin cfg4.N) : (ms_2 t).IsWhole := hstage4_2 ((cfg4.slots t 2).cast nbuf4_2)
abbrev ms_3 (t : Fin cfg4.N) : Memref sig .tc .vmem S1x1x9216x128 .f32 := win4_3.stage (cfg4.slots t 3)
abbrev hs_3 (t : Fin cfg4.N) : (ms_3 t).IsWhole := hstage4_3 ((cfg4.slots t 3).cast nbuf4_3)
abbrev ms_4 (t : Fin cfg4.N) : Memref sig .tc .vmem S1x1x9216x64 .fp8e4m3 := win4_4.stage (cfg4.slots t 4)
abbrev hs_4 (t : Fin cfg4.N) : (ms_4 t).IsWhole := hstage4_4 ((cfg4.slots t 4).cast nbuf4_4)
abbrev ms_5 (t : Fin cfg4.N) : Memref sig .tc .vmem S1x1x9216x128 .f32 := win4_5.stage (cfg4.slots t 5)
abbrev hs_5 (t : Fin cfg4.N) : (ms_5 t).IsWhole := hstage4_5 ((cfg4.slots t 5).cast nbuf4_5)
abbrev ms_6 (t : Fin cfg4.N) : Memref sig .tc .vmem S1x1056x256 .f32 := win4_6.stage (cfg4.slots t 6)
abbrev hs_6 (t : Fin cfg4.N) : (ms_6 t).IsWhole := hstage4_6 ((cfg4.slots t 6).cast nbuf4_6)
abbrev ms_7 (t : Fin cfg4.N) : Memref sig .tc .vmem S1x1x256x64 .bf16 := win4_7.stage (cfg4.slots t 7)
abbrev hs_7 (t : Fin cfg4.N) : (ms_7 t).IsWhole := hstage4_7 ((cfg4.slots t 7).cast nbuf4_7)

def bodyPre (c : Dev nD) (t : Fin cfg4.N) : sProp 𝕄 :=
  iprop((𝕕 c).Φ t.castSucc ∗ (𝕕 c).owesAt ι t.castSucc
    ∗ (∃ d, owns (c : Thread nD τ) (ms_0 t) fullShare ((𝕕 c).before 0 t d))
    ∗ (∃ d, owns (c : Thread nD τ) (ms_1 t) fullShare ((𝕕 c).before 1 t d))
    ∗ (∃ d, owns (c : Thread nD τ) (ms_2 t) fullShare ((𝕕 c).before 2 t d))
    ∗ (∃ d, owns (c : Thread nD τ) (ms_3 t) fullShare ((𝕕 c).before 3 t d))
    ∗ (∃ d, owns (c : Thread nD τ) (ms_4 t) fullShare ((𝕕 c).before 4 t d))
    ∗ (∃ d, owns (c : Thread nD τ) (ms_5 t) fullShare ((𝕕 c).before 5 t d))
    ∗ (∃ d, owns (c : Thread nD τ) (ms_6 t) fullShare ((𝕕 c).before 6 t d))
    ∗ (∃ d, owns (c : Thread nD τ) (ms_7 t) fullShare ((𝕕 c).before 7 t d)))

def bodyPost (c : Dev nD) (t : Fin cfg4.N) : sProp 𝕄 :=
  iprop((𝕕 c).Φ t.succ ∗ (𝕕 c).owesAt ι t.succ
    ∗ owns (c : Thread nD τ) (ms_0 t) fullShare ((𝕕 c).after 0 t)
    ∗ owns (c : Thread nD τ) (ms_1 t) fullShare ((𝕕 c).after 1 t)
    ∗ owns (c : Thread nD τ) (ms_2 t) fullShare ((𝕕 c).after 2 t)
    ∗ owns (c : Thread nD τ) (ms_3 t) fullShare ((𝕕 c).after 3 t)
    ∗ owns (c : Thread nD τ) (ms_4 t) fullShare ((𝕕 c).after 4 t)
    ∗ owns (c : Thread nD τ) (ms_5 t) fullShare ((𝕕 c).after 5 t)
    ∗ owns (c : Thread nD τ) (ms_6 t) fullShare ((𝕕 c).after 6 t)
    ∗ owns (c : Thread nD τ) (ms_7 t) fullShare ((𝕕 c).after 7 t))

theorem sound_body (c : Dev nD) (t : Fin cfg4.N) :
    bodyPre (U := U) (Lvl := Lvl) V D ι c t ⊢ wp frame (wpE (defs₀ (F := F)) 𝒱₀ c none) Set.univ (bodyAt4 t) (fun _ => bodyPost (U := U) (Lvl := Lvl) V D ι c t) := by
  unfold bodyPre bodyPost bodyAt4
  simp only [before_0, before_1, before_2, before_3, before_4, before_5, before_6]
  rw [show (𝕕 c).Φ t.castSucc = ΦK (Ix := Ix) (U := U) (Lvl := Lvl) V c t.val from rfl,
    show (𝕕 c).Φ t.succ = ΦK (Ix := Ix) (U := U) (Lvl := Lvl) V c (t.val + 1) from rfl,
    show (𝕕 c).owesAt ι t.succ = (𝕕 c).owesAt ι t.castSucc from rfl,
    after_0, after_1, after_2, after_3, after_4, after_5, after_6, after_7]
  unfold ΦK outAt
  iintro ⟨⟨HR, Hp, ⟨%w, %hw, Hs⟩⟩, Ho, ⟨%d0, H0⟩, ⟨%d1, H1⟩, ⟨%d2, H2⟩, ⟨%d3, H3⟩, ⟨%d4, H4⟩, ⟨%d5, H5⟩, ⟨%d6, H6⟩, ⟨%d7, H7⟩⟩
  have hrd : scrRead (grid4.coords t) (iblk V c 6 t) w = scrAt (iblk V c 6 t) (step (grid4.coords t)) :=
    scrRead_eq (grid4.coords t) (iblk V c 6 t) w (hw t rfl)
  have hb := body (Ix := Ix) (U := U) (Lvl := Lvl) 𝒱₀ c (grid4.coords t) (ms_0 t) (hs_0 t) (ms_1 t) (hs_1 t) (ms_2 t) (hs_2 t) (ms_3 t) (hs_3 t)
    (ms_4 t) (hs_4 t) (ms_5 t) (hs_5 t) (ms_6 t) (hs_6 t) (ms_7 t) (hs_7 t) scr (Memref.isWhole_whole _)
    (iblk V c 0 t) (iblk V c 1 t) (iblk V c 2 t) (iblk V c 3 t) (iblk V c 4 t) (iblk V c 5 t) (iblk V c 6 t) w Set.univ
  rw [hrd] at hb
  iapply (hb _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [Hs]; · iexact Hs
  iintro ⟨H0, H1, H2, H3, H4, H5, H6, H7, Hs⟩
  isplitl [HR Hp Hs]
  · isplitl [HR]; · iexact HR
    isplitl [Hp]; · iexact Hp
    iexists _; isplitr
    swap; · iexact Hs
    ipureintro; exact known_next V c t
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body table's row at point `t`'s slots is the body as `bodyAt4` spells it. -/
theorem defs₀_row (t : Fin cfg4.N) :
    defs₀ (F := F) .tc cfg4.body (cfg4.bodyArgs t (cfg4.slots t)) = bodyAt4 t := by
  unfold defs₀; rw [Defs.onTc_tc]

/-- The library's body obligation, at every point. -/
theorem body_obligation (c : Dev nD) : BodyObligation (𝕕 c) (defs₀ (F := F)) 𝒱₀ ι Set.univ := fun t => by
  rw [bigSep_W4, bigSep_W4, defs₀_row]
  exact triple_restated (sound_body (U := U) (Lvl := Lvl) 𝒱₀ V D ι c t) rfl .rfl fun _ => .rfl

/-! ## The invariant at the region's ends -/

theorem scoped_split (c : Dev nD) :
    (Pipeline.scopedRest (Ix := Ix) (Name := ℕ) (U := U) (Lvl := Lvl) (Val := Elt F) spec4 c : sProp 𝕄)
      = iprop((∃ f : Buf (Elt F) ((c : Thread nD τ).loc cc4_scratch0), ((c : Thread nD τ).loc cc4_scratch0) ↦{fullShare} f)
          ∗ Pipeline.scopedRestBut (Ix := Ix) (Name := ℕ) (U := U) (Lvl := Lvl) (Val := Elt F) spec4 c [cc4_scratch0]) :=
  Pipeline.scopedRest_split_of_list spec4 c [cc4_scratch0] (by decide) (by decide)

theorem Φ_in (c : Dev nD) : iprop(Pipeline.scopedRest spec4 c ∗ ∃ r, prngReg c r) ⊢ (𝕕 c).Φ 0 := by
  rw [show (𝕕 c).Φ 0 = ΦK (Ix := Ix) (U := U) (Lvl := Lvl) V c 0 from rfl, scoped_split]
  unfold ΦK
  iintro ⟨⟨⟨%f, Hf⟩, HR⟩, Hp⟩
  isplitl [HR]; · iexact HR
  isplitl [Hp]; · iexact Hp
  iexists f
  isplitr
  · ipureintro
    intro u hu hs
    rw [step_eq, hu] at hs
    exact absurd rfl hs
  rw [owns_whole]
  iexact Hf

theorem Φ_out (c : Dev nD) : (𝕕 c).Φ (Fin.last cfg4.N) ⊢ iprop(Pipeline.scopedRest spec4 c ∗ ∃ r, prngReg c r) := by
  rw [show (𝕕 c).Φ (Fin.last cfg4.N) = ΦK (Ix := Ix) (U := U) (Lvl := Lvl) V c cfg4.N from rfl, scoped_split]
  unfold ΦK
  iintro ⟨HR, Hp, ⟨%w, -, Hs⟩⟩
  isplitl [HR Hs]
  · isplitl [Hs]
    · iexists w
      iapply (show owns (c : Thread nD τ) scr fullShare w ⊢ (((c : Thread nD τ).loc cc4_scratch0) ↦{fullShare} w : sProp 𝕄) from by rw [owns_whole])
      iexact Hs
    iexact HR
  iexact Hp

end Cert.KernelIdeal.Attend

end
-- ==== Proof.KernelIdeal.Outs.lean ====
/- What each region leaves in its output arrays, region by region. -/
module

public import proofs.«01_k».proof.Proof.KernelIdeal.K4
public import proofs.«01_k».proof.Proof.Gen.Own.KernelIdeal.RegionsD
public import Idealize.ShloMosaic.Lib.Pipeline.FrameTail

@[expose] public section

noncomputable section

namespace Cert.KernelIdeal.Run

open Cert.KernelIdeal Cert.KernelIdeal.Gen Cert.KernelIdeal.Own
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F] [Named F]

local notation "𝕄" => MT nD τ sig Unit (Elt F) ℕ (UR sig nD τ) ℕ

/-- What core `c` owes while a region runs: nothing. -/
abbrev D0 : Dev nD → CellTallies nD τ sig Unit := fun _ => 0

variable (m : (ℓ : Loc nD τ sig) → Buf (Elt F) ℓ)

/-! ## What the regions leave, region by region -/

/-- Region 0's proof data, from the contents the earlier regions leave. -/
abbrev d0 (c : Dev nD) : Dat τ (Elt F) Unit ℕ (UR sig nD τ) ℕ cfg0 c := Own.K0.dat Variants.none (Ve0 m) D0 c

@[irreducible] def outs2 : Outs (F := F) := fun _ r c => Pipeline.afterRegion (d0 m c) (V1 m c) (Proc.devRef .tc r)

/-- Region 1's proof data, from the contents the earlier regions leave. -/
abbrev d1 (o : Outs (F := F)) (c : Dev nD) : Dat τ (Elt F) Unit ℕ (UR sig nD τ) ℕ cfg1 c := Own.K1.dat Variants.none (Ve1 m o) D0 c

@[irreducible] def outs4 : Outs (F := F) := fun J r c =>
  if J = 4 then Pipeline.afterRegion (d1 m (outs2 m) c) (V3 m (outs2 m) c) (Proc.devRef .tc r) else outs2 m J r c

/-- Region 2's proof data, from the contents the earlier regions leave. -/
abbrev d2 (o : Outs (F := F)) (c : Dev nD) : Dat τ (Elt F) Unit ℕ (UR sig nD τ) ℕ cfg2 c := Own.K2.dat Variants.none (Ve2 m o) D0 c

@[irreducible] def outs6 : Outs (F := F) := fun J r c =>
  if J = 6 then Pipeline.afterRegion (d2 m (outs4 m) c) (V5 m (outs4 m) c) (Proc.devRef .tc r) else outs4 m J r c

/-- Region 3's proof data, from the contents the earlier regions leave. -/
abbrev d3 (o : Outs (F := F)) (c : Dev nD) : Dat τ (Elt F) Unit ℕ (UR sig nD τ) ℕ cfg3 c := Own.K3.dat Variants.none (Ve3 m o) D0 c

@[irreducible] def outs8 : Outs (F := F) := fun J r c =>
  if J = 8 then Pipeline.afterRegion (d3 m (outs6 m) c) (V7 m (outs6 m) c) (Proc.devRef .tc r) else outs6 m J r c

/-- Region 4's entry contents. -/
abbrev Ve4 (outs : Outs (F := F)) (c : Dev nD) (b : Ref sig .tc) : Buf (Elt F) ((c : Thread nD τ).loc b) := V15 m outs c (Proc.devRef .tc b)

/-- The attention call's proof data, from the contents the earlier regions leave. -/
abbrev d4 (outs : Outs (F := F)) (c : Dev nD) : Dat τ (Elt F) Unit ℕ (UR sig nD τ) ℕ cfg4 c := Attend.dat (Ve4 m outs) D0 c

/-- What the regions leave. -/
@[irreducible] def outs : Outs (F := F) := fun J r c =>
  if J = 16 then Pipeline.afterRegion (d4 m (outs8 m) c) (V15 m (outs8 m) c) (Proc.devRef .tc r) else outs8 m J r c

/-! ## The contents before each region only read what the earlier regions leave -/

theorem V2_congr {o o' : Outs (F := F)} (h2 : ∀ r c, o 2 r c = o' 2 r c) (c : Dev nD) : V2 m o c = V2 m o' c := by
  unfold V2; rw [h2, h2]
theorem V3_congr {o o' : Outs (F := F)} (h2 : ∀ r c, o 2 r c = o' 2 r c) (c : Dev nD) : V3 m o c = V3 m o' c := by
  unfold V3; rw [V2_congr m h2 c]
theorem V4_congr {o o' : Outs (F := F)} (h2 : ∀ r c, o 2 r c = o' 2 r c) (h4 : ∀ r c, o 4 r c = o' 4 r c) (c : Dev nD) : V4 m o c = V4 m o' c := by
  unfold V4; rw [V3_congr m h2 c, h4, h4]
theorem V5_congr {o o' : Outs (F := F)} (h2 : ∀ r c, o 2 r c = o' 2 r c) (h4 : ∀ r c, o 4 r c = o' 4 r c) (c : Dev nD) : V5 m o c = V5 m o' c := by
  unfold V5; rw [V4_congr m h2 h4 c]
theorem V6_congr {o o' : Outs (F := F)} (h2 : ∀ r c, o 2 r c = o' 2 r c) (h4 : ∀ r c, o 4 r c = o' 4 r c) (h6 : ∀ r c, o 6 r c = o' 6 r c) (c : Dev nD) : V6 m o c = V6 m o' c := by
  unfold V6; rw [V5_congr m h2 h4 c, h6, h6]
theorem V7_congr {o o' : Outs (F := F)} (h2 : ∀ r c, o 2 r c = o' 2 r c) (h4 : ∀ r c, o 4 r c = o' 4 r c) (h6 : ∀ r c, o 6 r c = o' 6 r c) (c : Dev nD) : V7 m o c = V7 m o' c := by
  unfold V7; rw [V6_congr m h2 h4 h6 c]
theorem V8_congr {o o' : Outs (F := F)} (h2 : ∀ r c, o 2 r c = o' 2 r c) (h4 : ∀ r c, o 4 r c = o' 4 r c) (h6 : ∀ r c, o 6 r c = o' 6 r c) (h8 : ∀ r c, o 8 r c = o' 8 r c) (c : Dev nD) : V8 m o c = V8 m o' c := by
  unfold V8; rw [V7_congr m h2 h4 h6 c, h8]
theorem V9_congr {o o' : Outs (F := F)} (h2 : ∀ r c, o 2 r c = o' 2 r c) (h4 : ∀ r c, o 4 r c = o' 4 r c) (h6 : ∀ r c, o 6 r c = o' 6 r c) (h8 : ∀ r c, o 8 r c = o' 8 r c) (c : Dev nD) : V9 m o c = V9 m o' c := by
  unfold V9; rw [V8_congr m h2 h4 h6 h8 c]
theorem V10_congr {o o' : Outs (F := F)} (h2 : ∀ r c, o 2 r c = o' 2 r c) (h4 : ∀ r c, o 4 r c = o' 4 r c) (h6 : ∀ r c, o 6 r c = o' 6 r c) (h8 : ∀ r c, o 8 r c = o' 8 r c) (c : Dev nD) : V10 m o c = V10 m o' c := by
  unfold V10; rw [V9_congr m h2 h4 h6 h8 c]
theorem V11_congr {o o' : Outs (F := F)} (h2 : ∀ r c, o 2 r c = o' 2 r c) (h4 : ∀ r c, o 4 r c = o' 4 r c) (h6 : ∀ r c, o 6 r c = o' 6 r c) (h8 : ∀ r c, o 8 r c = o' 8 r c) (c : Dev nD) : V11 m o c = V11 m o' c := by
  unfold V11; rw [V10_congr m h2 h4 h6 h8 c]
theorem V12_congr {o o' : Outs (F := F)} (h2 : ∀ r c, o 2 r c = o' 2 r c) (h4 : ∀ r c, o 4 r c = o' 4 r c) (h6 : ∀ r c, o 6 r c = o' 6 r c) (h8 : ∀ r c, o 8 r c = o' 8 r c) (c : Dev nD) : V12 m o c = V12 m o' c := by
  unfold V12; rw [V11_congr m h2 h4 h6 h8 c]
theorem V13_congr {o o' : Outs (F := F)} (h2 : ∀ r c, o 2 r c = o' 2 r c) (h4 : ∀ r c, o 4 r c = o' 4 r c) (h6 : ∀ r c, o 6 r c = o' 6 r c) (h8 : ∀ r c, o 8 r c = o' 8 r c) (c : Dev nD) : V13 m o c = V13 m o' c := by
  unfold V13; rw [V12_congr m h2 h4 h6 h8 c]
theorem V14_congr {o o' : Outs (F := F)} (h2 : ∀ r c, o 2 r c = o' 2 r c) (h4 : ∀ r c, o 4 r c = o' 4 r c) (h6 : ∀ r c, o 6 r c = o' 6 r c) (h8 : ∀ r c, o 8 r c = o' 8 r c) (c : Dev nD) : V14 m o c = V14 m o' c := by
  unfold V14; rw [V13_congr m h2 h4 h6 h8 c]
theorem V15_congr {o o' : Outs (F := F)} (h2 : ∀ r c, o 2 r c = o' 2 r c) (h4 : ∀ r c, o 4 r c = o' 4 r c) (h6 : ∀ r c, o 6 r c = o' 6 r c) (h8 : ∀ r c, o 8 r c = o' 8 r c) (c : Dev nD) : V15 m o c = V15 m o' c := by
  unfold V15; rw [V14_congr m h2 h4 h6 h8 c]
theorem outs_self (r : Ref sig .tc) (c : Dev nD) : outs m 16 r c = Pipeline.afterRegion (d4 m (outs8 m) c) (V15 m (outs8 m) c) (Proc.devRef .tc r) := by
  unfold outs; exact if_pos rfl
theorem outs_of {J : ℕ} (h : J ≠ 16) (r : Ref sig .tc) (c : Dev nD) : outs m J r c = outs8 m J r c := by
  conv_lhs => unfold outs
  exact if_neg h
theorem outs8_self (r : Ref sig .tc) (c : Dev nD) : outs8 m 8 r c = Pipeline.afterRegion (d3 m (outs6 m) c) (V7 m (outs6 m) c) (Proc.devRef .tc r) := by
  unfold outs8; exact if_pos rfl
theorem outs8_of {J : ℕ} (h : J ≠ 8) (r : Ref sig .tc) (c : Dev nD) : outs8 m J r c = outs6 m J r c := by
  conv_lhs => unfold outs8
  exact if_neg h
theorem outs6_self (r : Ref sig .tc) (c : Dev nD) : outs6 m 6 r c = Pipeline.afterRegion (d2 m (outs4 m) c) (V5 m (outs4 m) c) (Proc.devRef .tc r) := by
  unfold outs6; exact if_pos rfl
theorem outs6_of {J : ℕ} (h : J ≠ 6) (r : Ref sig .tc) (c : Dev nD) : outs6 m J r c = outs4 m J r c := by
  conv_lhs => unfold outs6
  exact if_neg h
theorem outs4_self (r : Ref sig .tc) (c : Dev nD) : outs4 m 4 r c = Pipeline.afterRegion (d1 m (outs2 m) c) (V3 m (outs2 m) c) (Proc.devRef .tc r) := by
  unfold outs4; exact if_pos rfl
theorem outs4_of {J : ℕ} (h : J ≠ 4) (r : Ref sig .tc) (c : Dev nD) : outs4 m J r c = outs2 m J r c := by
  conv_lhs => unfold outs4
  exact if_neg h
theorem outs_6 {J : ℕ} (h : J ≠ 16) (h' : J ≠ 8) (r : Ref sig .tc) (c : Dev nD) : outs m J r c = outs6 m J r c :=
  (outs_of m h r c).trans (outs8_of m h' r c)
theorem outs_4 {J : ℕ} (h : J ≠ 16) (h' : J ≠ 8) (h6 : J ≠ 6) (r : Ref sig .tc) (c : Dev nD) : outs m J r c = outs4 m J r c :=
  (outs_6 m h h' r c).trans (outs6_of m h6 r c)
theorem outs_2 (r : Ref sig .tc) (c : Dev nD) : outs m 2 r c = outs2 m 2 r c :=
  (outs_4 m (by decide) (by decide) (by decide) r c).trans (outs4_of m (by decide) r c)

theorem V3_agree (c : Dev nD) : V3 m (outs2 m) c = V3 m (outs m) c :=
  V3_congr m (fun r c => (outs_2 m r c).symm) c
theorem V5_agree (c : Dev nD) : V5 m (outs4 m) c = V5 m (outs m) c :=
  V5_congr m (fun r c => (outs_4 m (by decide) (by decide) (by decide) r c).symm) (fun r c => (outs_4 m (by decide) (by decide) (by decide) r c).symm) c
theorem V7_agree (c : Dev nD) : V7 m (outs6 m) c = V7 m (outs m) c :=
  V7_congr m (fun r c => (outs_6 m (by decide) (by decide) r c).symm) (fun r c => (outs_6 m (by decide) (by decide) r c).symm) (fun r c => (outs_6 m (by decide) (by decide) r c).symm) c
theorem V15_agree (c : Dev nD) : V15 m (outs8 m) c = V15 m (outs m) c :=
  V15_congr m (fun r c => (outs_of m (by decide) r c).symm) (fun r c => (outs_of m (by decide) r c).symm) (fun r c => (outs_of m (by decide) r c).symm) (fun r c => (outs_of m (by decide) r c).symm) c

theorem d1_agree (c : Dev nD) : d1 m (outs2 m) c = d1 m (outs m) c :=
  congrArg (fun V : (c : Dev nD) → (b : Ref sig .tc) → Buf (Elt F) ((c : Thread nD τ).loc b) => (Own.K1.dat Variants.none V D0 c : Dat τ (Elt F) Unit ℕ (UR sig nD τ) ℕ cfg1 c))
    (funext fun c => funext fun b => congrFun (V3_agree m c) (Proc.devRef .tc b))
theorem d2_agree (c : Dev nD) : d2 m (outs4 m) c = d2 m (outs m) c :=
  congrArg (fun V : (c : Dev nD) → (b : Ref sig .tc) → Buf (Elt F) ((c : Thread nD τ).loc b) => (Own.K2.dat Variants.none V D0 c : Dat τ (Elt F) Unit ℕ (UR sig nD τ) ℕ cfg2 c))
    (funext fun c => funext fun b => congrFun (V5_agree m c) (Proc.devRef .tc b))
theorem d3_agree (c : Dev nD) : d3 m (outs6 m) c = d3 m (outs m) c :=
  congrArg (fun V : (c : Dev nD) → (b : Ref sig .tc) → Buf (Elt F) ((c : Thread nD τ).loc b) => (Own.K3.dat Variants.none V D0 c : Dat τ (Elt F) Unit ℕ (UR sig nD τ) ℕ cfg3 c))
    (funext fun c => funext fun b => congrFun (V7_agree m c) (Proc.devRef .tc b))
theorem d4_agree (c : Dev nD) : d4 m (outs8 m) c = d4 m (outs m) c :=
  congrArg (fun V : (c : Dev nD) → (b : Ref sig .tc) → Buf (Elt F) ((c : Thread nD τ).loc b) => (Attend.dat V D0 c : Dat τ (Elt F) Unit ℕ (UR sig nD τ) ℕ cfg4 c))
    (funext fun c => funext fun b => congrFun (V15_agree m c) (Proc.devRef .tc b))

/-- Proof data for every region, from given contents. -/
def pd (o : Outs (F := F)) : (p : Fin 5) → (c : Dev nD) → Dat τ (Elt F) Unit ℕ (UR sig nD τ) ℕ (cfgs p) c
  | ⟨0, _⟩ => d0 m
  | ⟨1, _⟩ => d1 m o
  | ⟨2, _⟩ => d2 m o
  | ⟨3, _⟩ => d3 m o
  | ⟨4, _⟩ => d4 m o

abbrev pdD : (p : Fin 5) → (c : Dev nD) → Dat τ (Elt F) Unit ℕ (UR sig nD τ) ℕ (cfgs p) c :=
  pdatsD (U := UR sig nD τ) (Lvl := ℕ) m (outs m) Variants.none (pd m (outs m)) D0 D0 D0 D0

theorem hout0_1 (c : Dev nD) : outs m 2 main_v1_0 c = (d0 m c).arrAt 1 cfg0.N :=
  (outs_2 m _ c).trans <| by unfold outs2; exact (Pipeline.afterRegion_arr (d0 m c) (V1 m c) launch0.win.arr_inj 1)
theorem hout0_2 (c : Dev nD) : outs m 2 main_v1_1 c = (d0 m c).arrAt 2 cfg0.N :=
  (outs_2 m _ c).trans <| by unfold outs2; exact (Pipeline.afterRegion_arr (d0 m c) (V1 m c) launch0.win.arr_inj 2)
theorem hout1_1 (c : Dev nD) : outs m 4 main_v3_0 c = (d1 m (outs m) c).arrAt 1 cfg1.N :=
  (outs_4 m (by decide) (by decide) (by decide) _ c).trans <| (outs4_self m _ c).trans <| (Pipeline.afterRegion_arr (d1 m (outs2 m) c) (V3 m (outs2 m) c) launch1.win.arr_inj 1).trans <| by rw [d1_agree]
theorem hout1_2 (c : Dev nD) : outs m 4 main_v3_1 c = (d1 m (outs m) c).arrAt 2 cfg1.N :=
  (outs_4 m (by decide) (by decide) (by decide) _ c).trans <| (outs4_self m _ c).trans <| (Pipeline.afterRegion_arr (d1 m (outs2 m) c) (V3 m (outs2 m) c) launch1.win.arr_inj 2).trans <| by rw [d1_agree]
theorem hout2_1 (c : Dev nD) : outs m 6 main_v5_0 c = (d2 m (outs m) c).arrAt 1 cfg2.N :=
  (outs_6 m (by decide) (by decide) _ c).trans <| (outs6_self m _ c).trans <| (Pipeline.afterRegion_arr (d2 m (outs4 m) c) (V5 m (outs4 m) c) launch2.win.arr_inj 1).trans <| by rw [d2_agree]
theorem hout2_2 (c : Dev nD) : outs m 6 main_v5_1 c = (d2 m (outs m) c).arrAt 2 cfg2.N :=
  (outs_6 m (by decide) (by decide) _ c).trans <| (outs6_self m _ c).trans <| (Pipeline.afterRegion_arr (d2 m (outs4 m) c) (V5 m (outs4 m) c) launch2.win.arr_inj 2).trans <| by rw [d2_agree]
theorem hout3 (c : Dev nD) : outs m 8 main_v12 c = (d3 m (outs m) c).arrAt 0 cfg3.N :=
  (outs_of m (by decide) _ c).trans <| (outs8_self m _ c).trans <| (Pipeline.afterRegion_arr (d3 m (outs6 m) c) (V7 m (outs6 m) c) launch3.win.arr_inj 0).trans <| by rw [d3_agree]
theorem hout4 (c : Dev nD) : outs m 16 main_v61 c = (d4 m (outs m) c).arrAt 7 cfg4.N :=
  (outs_self m _ c).trans <| (Pipeline.afterRegion_arr (d4 m (outs8 m) c) (V15 m (outs8 m) c) launch4.win.arr_inj 7).trans <| by rw [d4_agree]

end Cert.KernelIdeal.Run

end
-- ==== Proof.KernelIdeal.Records.lean ====
/- The regions' records. -/
module

public import proofs.«01_k».proof.Proof.KernelIdeal.Outs

@[expose] public section

noncomputable section

namespace Cert.KernelIdeal.Run

open Cert.KernelIdeal Cert.KernelIdeal.Gen Cert.KernelIdeal.Own
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F] [Named F]

local notation "𝕄" => MT nD τ sig Unit (Elt F) ℕ (UR sig nD τ) ℕ

variable (m : (ℓ : Loc nD τ sig) → Buf (Elt F) ℓ)

theorem arr4_mem (w : Fin cfg4.W) : (Proc.devRef .tc (Pipeline.arrRef spec4 w) : DevRef τ sig) ∈ Pipeline.arrRefs (τ := τ) spec4 :=
  Finset.mem_map_of_mem _ (Finset.mem_image_of_mem _ (Finset.mem_univ w))

theorem arr4_S : Pipeline.arrRefs (τ := τ) spec4 ⊆ Pipeline.ucRefs τ sig :=
  Pipeline.arrRefs_sub_ucRefs spec4 (by decide)

theorem V16_at (o : Outs (F := F)) (c : Dev nD) : V16 m o c (Proc.devRef .tc main_v61) = o 16 main_v61 c := by
  simp only [V16, Function.update_self]

theorem rest4_eq (o : Outs (F := F)) (c : Dev nD) : ∀ b ∈ (Pipeline.ucRefs τ sig) \ Pipeline.arrRefs (τ := τ) spec4, V16 m o c b = V15 m o c b := fun b hb => by
  have hn : b ∉ Pipeline.arrRefs (τ := τ) spec4 := (Finset.mem_sdiff.mp hb).2
  have h1 : b ≠ Proc.devRef .tc main_v61 := by rintro rfl; exact hn (by first | exact arr4_mem 7 | decide)
  simp only [V16, Function.update_of_ne h1]

def L (g : GSem nD τ sig) : Finset Unit := if g.1.2 = .tc then Finset.univ else ∅
def lv (_ : GSem nD τ sig) (_ : Unit) : ℕ := 0

/-- What every thread state carries beside the buffers: the random-number register and owing nothing. -/
abbrev E0 (c : Dev nD) : sProp 𝕄 := iprop((∃ r, prngReg c r) ∗ ∃ W, owes (c : Thread nD τ) (0 : CellTallies nD τ sig Unit) W)
abbrev E : Fin 6 → Dev nD → sProp 𝕄 := fun _ => E0
abbrev Er : Dev nD → sProp 𝕄 := fun _ => iprop(emp)

theorem hEin (c : Dev nD) : E0 (F := F) c ⊢ iprop((∃ r, prngReg c r) ∗ (∃ W, owes (c : Thread nD τ) (D0 c) W) ∗ Er c) := by
  iintro ⟨Hp, HO⟩
  isplitl [Hp]; · iexact Hp
  isplitl [HO]; · iexact HO
  iempintro

theorem hEout (c : Dev nD) : iprop((∃ r, prngReg c r) ∗ (∃ W, owes (c : Thread nD τ) (D0 c) W) ∗ Er c) ⊢ E0 (F := F) c := by
  iintro ⟨Hp, HO, -⟩
  isplitl [Hp]; · iexact Hp
  iexact HO

theorem cut (p : Fin 5) : Pipeline.LevelCut (pcfgs (F := F)) adm () L lv p D0 (fun _ => 0) where
  hι _ _ _ := by unfold L; rw [if_pos rfl]; exact Finset.mem_univ _
  hιb _ _ _ := le_refl _
  hD c g i h := absurd h (lt_irrefl _)

theorem exit4_0 (c : Dev nD) : ((pdD m) 4 c).arrAt 0 cfg4.N = V16 m (outs m) c (Proc.devRef .tc (Pipeline.arrRef spec4 0)) :=
  (((pdD m) 4 c).arrAt_in 0 rfl _).trans ((Attend.A_eq (U := UR sig nD τ) (Lvl := ℕ) (Ve4 m (outs m)) D0 c 0).trans (V16_of m (outs m) c (Pipeline.arrRef spec4 0) (by decide)).symm)
theorem exit4_1 (c : Dev nD) : ((pdD m) 4 c).arrAt 1 cfg4.N = V16 m (outs m) c (Proc.devRef .tc (Pipeline.arrRef spec4 1)) :=
  (((pdD m) 4 c).arrAt_in 1 rfl _).trans ((Attend.A_eq (U := UR sig nD τ) (Lvl := ℕ) (Ve4 m (outs m)) D0 c 1).trans (V16_of m (outs m) c (Pipeline.arrRef spec4 1) (by decide)).symm)
theorem exit4_2 (c : Dev nD) : ((pdD m) 4 c).arrAt 2 cfg4.N = V16 m (outs m) c (Proc.devRef .tc (Pipeline.arrRef spec4 2)) :=
  (((pdD m) 4 c).arrAt_in 2 rfl _).trans ((Attend.A_eq (U := UR sig nD τ) (Lvl := ℕ) (Ve4 m (outs m)) D0 c 2).trans (V16_of m (outs m) c (Pipeline.arrRef spec4 2) (by decide)).symm)
theorem exit4_3 (c : Dev nD) : ((pdD m) 4 c).arrAt 3 cfg4.N = V16 m (outs m) c (Proc.devRef .tc (Pipeline.arrRef spec4 3)) :=
  (((pdD m) 4 c).arrAt_in 3 rfl _).trans ((Attend.A_eq (U := UR sig nD τ) (Lvl := ℕ) (Ve4 m (outs m)) D0 c 3).trans (V16_of m (outs m) c (Pipeline.arrRef spec4 3) (by decide)).symm)
theorem exit4_4 (c : Dev nD) : ((pdD m) 4 c).arrAt 4 cfg4.N = V16 m (outs m) c (Proc.devRef .tc (Pipeline.arrRef spec4 4)) :=
  (((pdD m) 4 c).arrAt_in 4 rfl _).trans ((Attend.A_eq (U := UR sig nD τ) (Lvl := ℕ) (Ve4 m (outs m)) D0 c 4).trans (V16_of m (outs m) c (Pipeline.arrRef spec4 4) (by decide)).symm)
theorem exit4_5 (c : Dev nD) : ((pdD m) 4 c).arrAt 5 cfg4.N = V16 m (outs m) c (Proc.devRef .tc (Pipeline.arrRef spec4 5)) :=
  (((pdD m) 4 c).arrAt_in 5 rfl _).trans ((Attend.A_eq (U := UR sig nD τ) (Lvl := ℕ) (Ve4 m (outs m)) D0 c 5).trans (V16_of m (outs m) c (Pipeline.arrRef spec4 5) (by decide)).symm)
theorem exit4_6 (c : Dev nD) : ((pdD m) 4 c).arrAt 6 cfg4.N = V16 m (outs m) c (Proc.devRef .tc (Pipeline.arrRef spec4 6)) :=
  (((pdD m) 4 c).arrAt_in 6 rfl _).trans ((Attend.A_eq (U := UR sig nD τ) (Lvl := ℕ) (Ve4 m (outs m)) D0 c 6).trans (V16_of m (outs m) c (Pipeline.arrRef spec4 6) (by decide)).symm)

set_option backward.isDefEq.respectTransparency.types false in
/-- Region 4's record: its arrays held at `V15` in and at `V16` out. -/
def R4 : RegionSeg (pcfgs (F := F)) adm (pdD m) () defs₀ Variants.none L lv 4 :=
  Pipeline.RegionSeg.ofHeld (pcfgs (F := F)) adm (pdD m) () defs₀ Variants.none L lv 4 D0
    (fun c => iprop(∃ r, prngReg c r)) (fun c => iprop(∃ r, prngReg c r))
    launch4.toP rfl
    (fun c => (Attend.body_obligation (U := UR sig nD τ) (Lvl := ℕ) Variants.none (Ve4 m (outs m)) D0 () c).loose) (fun _ _ => rfl) (fun _ => rfl)
    (fun c => ((pdD m) 4 c).share_full fun _ => rfl)
    (fun c => Attend.Φ_in (Ve4 m (outs m)) D0 c) (fun c => Attend.Φ_out (Ve4 m (outs m)) D0 c) (fun _ => 0) (cut 4)
    (fun c => iprop(StableHlo.held (c : Thread nD τ) ((Pipeline.ucRefs τ sig) \ Pipeline.arrRefs (τ := τ) spec4) (V15 m (outs m) c) ∗ Er c))
    (V15 m (outs m)) (V16 m (outs m)) (fun _ _ => rfl)
    (fun c => fun
      | 0 => exit4_0 m c
      | 1 => exit4_1 m c
      | 2 => exit4_2 m c
      | 3 => exit4_3 m c
      | 4 => exit4_4 m c
      | 5 => exit4_5 m c
      | 6 => exit4_6 m c
      | 7 => (hout4 m c).symm.trans (V16_at m (outs m) c).symm)

theorem hpre4 (c : Dev nD) :
    iprop(StableHlo.held (c : Thread nD τ) (Pipeline.ucRefs τ sig) (V15 m (outs m) c) ∗ E 4 c) ⊢ (R4 m).pre c := by
  show _ ⊢ iprop(StableHlo.held (c : Thread nD τ) (Pipeline.arrRefs (τ := τ) spec4) (V15 m (outs m) c) ∗ (∃ r, prngReg c r)
    ∗ (StableHlo.held (c : Thread nD τ) ((Pipeline.ucRefs τ sig) \ Pipeline.arrRefs (τ := τ) spec4) (V15 m (outs m) c) ∗ Er c) ∗ ∃ W, owes (c : Thread nD τ) (D0 c) W)
  rw [StableHlo.held_sub_split (c : Thread nD τ) arr4_S (V15 m (outs m) c)]
  iintro ⟨⟨Ha, Hr⟩, HE⟩
  ihave HE' := (hEin c) $$ HE
  icases HE' with ⟨Hp, HO, Hx⟩
  isplitl [Ha]; · iexact Ha
  isplitl [Hp]; · iexact Hp
  isplitl [Hr Hx]; · isplitl [Hr] <;> iassumption
  iexact HO

theorem hpost4 (c : Dev nD) :
    (R4 m).post c ⊢ iprop(StableHlo.held (c : Thread nD τ) (Pipeline.ucRefs τ sig) (V16 m (outs m) c) ∗ E 5 c) := by
  show iprop(StableHlo.held (c : Thread nD τ) (Pipeline.arrRefs (τ := τ) spec4) (V16 m (outs m) c) ∗ (∃ r, prngReg c r)
    ∗ (StableHlo.held (c : Thread nD τ) ((Pipeline.ucRefs τ sig) \ Pipeline.arrRefs (τ := τ) spec4) (V15 m (outs m) c) ∗ Er c) ∗ ∃ W, owes (c : Thread nD τ) (D0 c) W) ⊢ _
  rw [StableHlo.held_sub_split (c : Thread nD τ) arr4_S (V16 m (outs m) c),
    StableHlo.held_congr (c : Thread nD τ) (S := (Pipeline.ucRefs τ sig) \ Pipeline.arrRefs (τ := τ) spec4) (rest4_eq m (outs m) c)]
  iintro ⟨Ha, Hp, ⟨Hr, Hx⟩, HO⟩
  isplitl [Ha Hr]; · isplitl [Ha] <;> iassumption
  iapply (hEout c)
  isplitl [Hp]; · iexact Hp
  isplitl [HO]; · iexact HO
  iexact Hx

abbrev R0 : RegionSeg (pcfgs (F := F)) adm (pdD m) () defs₀ Variants.none L lv 0 :=
  R0D m (outs m) Variants.none L lv () (pd m (outs m)) D0 D0 D0 D0 (fun _ => 0) (cut 0) Er (hout0_1 m) (hout0_2 m)
theorem hpre0 (c : Dev nD) : iprop(StableHlo.held (c : Thread nD τ) (Pipeline.ucRefs τ sig) (V1 m c) ∗ E 0 c) ⊢ (R0 m).pre c :=
  hpre0D m (outs m) Variants.none L lv () (pd m (outs m)) D0 D0 D0 D0 (fun _ => 0) (cut 0) E Er hEin (hout0_1 m) (hout0_2 m) c
theorem hpost0 (c : Dev nD) : (R0 m).post c ⊢ iprop(StableHlo.held (c : Thread nD τ) (Pipeline.ucRefs τ sig) (V2 m (outs m) c) ∗ E 1 c) :=
  hpost0D m (outs m) Variants.none L lv () (pd m (outs m)) D0 D0 D0 D0 (fun _ => 0) (cut 0) E Er hEout (hout0_1 m) (hout0_2 m) c
abbrev R1 : RegionSeg (pcfgs (F := F)) adm (pdD m) () defs₀ Variants.none L lv 1 :=
  R1D m (outs m) Variants.none L lv () (pd m (outs m)) D0 D0 D0 D0 (fun _ => 0) (cut 1) Er (hout1_1 m) (hout1_2 m)
theorem hpre1 (c : Dev nD) : iprop(StableHlo.held (c : Thread nD τ) (Pipeline.ucRefs τ sig) (V3 m (outs m) c) ∗ E 1 c) ⊢ (R1 m).pre c :=
  hpre1D m (outs m) Variants.none L lv () (pd m (outs m)) D0 D0 D0 D0 (fun _ => 0) (cut 1) E Er hEin (hout1_1 m) (hout1_2 m) c
theorem hpost1 (c : Dev nD) : (R1 m).post c ⊢ iprop(StableHlo.held (c : Thread nD τ) (Pipeline.ucRefs τ sig) (V4 m (outs m) c) ∗ E 2 c) :=
  hpost1D m (outs m) Variants.none L lv () (pd m (outs m)) D0 D0 D0 D0 (fun _ => 0) (cut 1) E Er hEout (hout1_1 m) (hout1_2 m) c
abbrev R2 : RegionSeg (pcfgs (F := F)) adm (pdD m) () defs₀ Variants.none L lv 2 :=
  R2D m (outs m) Variants.none L lv () (pd m (outs m)) D0 D0 D0 D0 (fun _ => 0) (cut 2) Er (hout2_1 m) (hout2_2 m)
theorem hpre2 (c : Dev nD) : iprop(StableHlo.held (c : Thread nD τ) (Pipeline.ucRefs τ sig) (V5 m (outs m) c) ∗ E 2 c) ⊢ (R2 m).pre c :=
  hpre2D m (outs m) Variants.none L lv () (pd m (outs m)) D0 D0 D0 D0 (fun _ => 0) (cut 2) E Er hEin (hout2_1 m) (hout2_2 m) c
theorem hpost2 (c : Dev nD) : (R2 m).post c ⊢ iprop(StableHlo.held (c : Thread nD τ) (Pipeline.ucRefs τ sig) (V6 m (outs m) c) ∗ E 3 c) :=
  hpost2D m (outs m) Variants.none L lv () (pd m (outs m)) D0 D0 D0 D0 (fun _ => 0) (cut 2) E Er hEout (hout2_1 m) (hout2_2 m) c
abbrev R3 : RegionSeg (pcfgs (F := F)) adm (pdD m) () defs₀ Variants.none L lv 3 :=
  R3D m (outs m) Variants.none L lv () (pd m (outs m)) D0 D0 D0 D0 (fun _ => 0) (cut 3) Er (hout3 m)
theorem hpre3 (c : Dev nD) : iprop(StableHlo.held (c : Thread nD τ) (Pipeline.ucRefs τ sig) (V7 m (outs m) c) ∗ E 3 c) ⊢ (R3 m).pre c :=
  hpre3D m (outs m) Variants.none L lv () (pd m (outs m)) D0 D0 D0 D0 (fun _ => 0) (cut 3) E Er hEin (hout3 m) c
theorem hpost3 (c : Dev nD) : (R3 m).post c ⊢ iprop(StableHlo.held (c : Thread nD τ) (Pipeline.ucRefs τ sig) (V8 m (outs m) c) ∗ E 4 c) :=
  hpost3D m (outs m) Variants.none L lv () (pd m (outs m)) D0 D0 D0 D0 (fun _ => 0) (cut 3) E Er hEout (hout3 m) c

end Cert.KernelIdeal.Run

end
-- ==== Proof.KernelIdeal.Run.lean ====
/- The whole program's run: every argument is kept, and what the results hold. -/
module

public import proofs.«01_k».proof.Proof.KernelIdeal.Records
public import Idealize.ShloMosaic.Lib.StableHlo.RunHlo

@[expose] public section

noncomputable section

namespace Cert.KernelIdeal.Run

open Cert.KernelIdeal Cert.KernelIdeal.Gen Cert.KernelIdeal.Own
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F] [Named F]

local notation "𝕄" => MT nD τ sig Unit (Elt F) ℕ (UR sig nD τ) ℕ

variable (m : (ℓ : Loc nD τ sig) → Buf (Elt F) ℓ)

theorem launchU : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj))) ∗ bigSep Finset.univ fun _ : Dev nD => (BI.emp : sProp 𝕄)) := by
  iintro Hu; imodintro
  isplitl [Hu]
  · iapply (show (ownU _ : sProp 𝕄) ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

theorem launchE (ρ : Dev nD → PrngReg) :
    iprop((bigSep Finset.univ fun c : Dev nD => iprop(unscopedSems0 c ∗ owes (c : Thread nD τ) (0 : CellTallies nD τ sig Unit) ∅ ∗ Pipeline.launchCred (fun _ => 0) c ∗ prngReg c (ρ c) ∗ (BI.emp : sProp 𝕄))) ∗ levAts L lv)
      ⊢ (|={Set.univ}=> bigSep Finset.univ (E0 (F := F)) : sProp 𝕄) := by
  refine Pipeline.initEach L lv fun c => ?_
  iintro ⟨⟨-, HO, -, Hp, -⟩, -⟩
  imodintro
  isplitl [Hp]; · iexists _; iexact Hp
  iexists _; iexact HO

/-- What holds of memory after the run. -/
abbrev After (s : (ℓ : Loc nD τ sig) → Buf (Elt F) ℓ) (c : Dev nD) : Prop :=
  (s ((c.tc : Thread nD τ).loc main_arg0) = m ((c.tc : Thread nD τ).loc main_arg0)
    ∧ s ((c.tc : Thread nD τ).loc main_arg1) = m ((c.tc : Thread nD τ).loc main_arg1)
    ∧ s ((c.tc : Thread nD τ).loc main_arg2) = m ((c.tc : Thread nD τ).loc main_arg2))
    ∧ s ((c.tc : Thread nD τ).loc main_v64) = V17 m (outs m) c main_v64
    ∧ s ((c.tc : Thread nD τ).loc main_v65) = V17 m (outs m) c main_v65
    ∧ s ((c.tc : Thread nD τ).loc main_v66) = V17 m (outs m) c main_v66
    ∧ s ((c.tc : Thread nD τ).loc main_v67) = V17 m (outs m) c main_v67

set_option backward.isDefEq.respectTransparency.types false in
/-- Every execution ends, keeps every argument and leaves in the results what the last valuation says. -/
theorem run (ρ : Dev nD → PrngReg) :
    θ_run defs (onTc (τ := τ) (main (F := F))) ⟨m, fun _ => 0, ρ⟩ (fun r => (∀ c : Dev nD, After m r.2.mem c) ∧ r.2.sem = fun _ => 0) := by
  refine Pipeline.θ_run_regions_kit_dev_sems (pcfgs (F := F)) adm (pdD m) () cellOf_inj emb₁ defs₀ Variants.none L lv m ρ main
    (segs m (outs m) Variants.none L lv E () (pdD m) (R0 m) (R1 m) (R2 m) (R3 m) (R4 m))
    (fun c Q => by
      rewrite [main_chain c, Seg.run_eq_chain,
        show (segs m (outs m) Variants.none L lv E () (pdD m) (R0 m) (R1 m) (R2 m) (R3 m) (R4 m) c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          StableHlo.seq hostOps4_1,
          StableHlo.seq hostOps4_2,
          StableHlo.seq hostOps4_3,
          StableHlo.seq hostOps4_4,
          StableHlo.seq hostOps4_5,
          StableHlo.seq hostOps4_6,
          Prog.lift (.customCall (Pipeline.entry 4) ()),
          StableHlo.seq hostOps5 ] from rfl]
      dsimp (config := { failIfUnchanged := false }) only
      exact .rfl)
    (fun c => by simp only [segs, Seg.pipes_host, Seg.pipes_region, Seg.pipes_nil]; decide) (fun _ => 0) (fun _ h => if_neg h)
    (fun _ => (BI.emp : sProp 𝕄)) (initOf (Pipeline.cells cfgs cellOf_inj) (Pipeline.launchToks cfgs cellOf_inj)) launchU
    (T₀ := fun c => iprop(StableHlo.held (c : Thread nD τ) (Pipeline.ucRefs τ sig) (V0 m c) ∗ E 0 c))
    (Tₙ := fun c => StableHlo.held (c : Thread nD τ) (Pipeline.ucRefs τ sig) (V17 m (outs m) c))
    (hch := fun c => ⟨.rfl, hpre0 m c, hpost0 m c, hpre1 m c, hpost1 m c, hpre2 m c, hpost2 m c, hpre3 m c, hpost3 m c, .rfl, .rfl, .rfl, .rfl, .rfl, .rfl, hpre4 m c, hpost4 m c, sep_mono .rfl (by iintro ⟨-, HO⟩; iexact HO)⟩)
    (hinit := ?_) (QY := fun c s => After m s.mem c)
    (hfin := fun c s' => ?_) (hQ := fun _ h hz => ⟨h, funext fun g => hz g (.inr (regions_no_unscoped g.2))⟩)
  · have hsplit : (bigSep Finset.univ fun c : Dev nD => iprop(unscopedBufs c (fun b => m ((c.tc : Thread nD τ).loc b)) ∗ unscopedSems0 c
          ∗ owes (c.tc : Thread nD τ) (0 : CellTallies nD τ sig Unit) ∅ ∗ Pipeline.launchCred (fun _ => 0) c ∗ prngReg c (ρ c) ∗ (BI.emp : sProp 𝕄)))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (0 : CellTallies nD τ sig Unit) ∅ ∗ Pipeline.launchCred (fun _ => 0) c ∗ prngReg c (ρ c) ∗ (BI.emp : sProp 𝕄)))
            : sProp 𝕄) := by
      rw [← bigSep_sep']
      exact bigSep_mono fun c _ => by rw [← Pipeline.unscopedBufs_held (Ix := Unit) (Name := ℕ) (U := UR sig nD τ) (Lvl := ℕ) c (V0 m c)]; exact BI.Entails.refl _
    iintro ⟨H, Hla⟩
    ihave H' := hsplit $$ H
    icases H' with ⟨Hh, Hr⟩
    imod (launchE ρ) $$ [Hr Hla] with HE
    · isplitl [Hr]; · iexact Hr
      iexact Hla
    imodintro
    iapply (show iprop((bigSep Finset.univ fun c : Dev nD => StableHlo.held (c : Thread nD τ) (Pipeline.ucRefs τ sig) (V0 m c)) ∗ bigSep Finset.univ (E0 (F := F)))
        ⊢ (bigSep Finset.univ fun c : Dev nD => iprop(StableHlo.held (c : Thread nD τ) (Pipeline.ucRefs τ sig) (V0 m c) ∗ E0 c) : sProp 𝕄) from by
      rw [← bigSep_sep'])
    isplitl [Hh]; · iexact Hh
    iexact HE
  · unfold StableHlo.held
    iintro ⟨Hh, HSI⟩
    ihave Hr := (pointsTo_read_all (Pipeline.ucRefs τ sig) (fun b => ((c : Thread nD τ).1, b)) (V17 m (outs m) c) s') $$ [Hh HSI]
    · isplitl [Hh] <;> iassumption
    icases Hr with ⟨%h, HSI⟩
    imodintro
    isplitr
    · ipureintro
      exact ⟨⟨(h (Proc.devRef .tc main_arg0) (Finset.mem_filter.mpr ⟨StableHlo.devRef_mem_tcRefs main_arg0, by decide⟩)).trans (V17_main_arg0 m (outs m) c),
        (h (Proc.devRef .tc main_arg1) (Finset.mem_filter.mpr ⟨StableHlo.devRef_mem_tcRefs main_arg1, by decide⟩)).trans (V17_main_arg1 m (outs m) c),
        (h (Proc.devRef .tc main_arg2) (Finset.mem_filter.mpr ⟨StableHlo.devRef_mem_tcRefs main_arg2, by decide⟩)).trans (V17_main_arg2 m (outs m) c)⟩,
        h (Proc.devRef .tc main_v64) (Finset.mem_filter.mpr ⟨StableHlo.devRef_mem_tcRefs main_v64, by decide⟩),
        h (Proc.devRef .tc main_v65) (Finset.mem_filter.mpr ⟨StableHlo.devRef_mem_tcRefs main_v65, by decide⟩),
        h (Proc.devRef .tc main_v66) (Finset.mem_filter.mpr ⟨StableHlo.devRef_mem_tcRefs main_v66, by decide⟩),
        h (Proc.devRef .tc main_v67) (Finset.mem_filter.mpr ⟨StableHlo.devRef_mem_tcRefs main_v67, by decide⟩)⟩
    · iexact HSI

/-- The frame alone. -/
theorem frame (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_mono (run m ρ) fun _ h => ⟨fun c => (h.1 c).1, h.2⟩

end Cert.KernelIdeal.Run

end
-- ==== Proof.Value.Pow2.lean ====
/- Powers of two as f32 words, and the kernel's search for the exponent of a number. -/
module

public import Idealize.ShloMosaic.PureOps.Ideal.Laws
public import Idealize.ShloMosaic.Lib.ValueIdx

@[expose] public section

noncomputable section

namespace Cert.Value

open Idealize Idealize.ShloMosaic

/-- The f32 whose exponent field is `n`. -/
def pw (n : ℕ) : EReal := Ideal.ofBits .f32 (BitVec.ofNat 32 n <<< (23#32))

theorem bits_ex (n : Fin 256) : ((BitVec.ofNat 32 n.val <<< (23#32)).extractLsb' 23 8).toNat = n.val := by
  revert n; decide +kernel

theorem bits_fr (n : Fin 256) : ((BitVec.ofNat 32 n.val <<< (23#32)).extractLsb' 0 23).toNat = 0 := by
  revert n; decide +kernel

theorem bits_sg (n : Fin 256) : ((BitVec.ofNat 32 n.val <<< (23#32)).extractLsb' 31 1) = 0#1 := by
  revert n; decide +kernel

/-- A word by its sign, exponent field and fraction. -/
def word (neg : Bool) (ex fr : ℕ) : EReal :=
  if ex = 2 ^ 8 - 1 then (if fr = 0 then (if neg then ⊥ else ⊤) else ⊥)
  else if ex = 0 then (((if neg then (-1 : ℝ) else 1) * fr * (2 : ℝ) ^ (1 - ((2 : ℤ) ^ (8 - 1) - 1) - ((23 : ℕ) : ℤ) : Int) : ℝ) : EReal)
  else (((if neg then (-1 : ℝ) else 1) * (2 ^ 23 + fr : Nat) * (2 : ℝ) ^ ((ex : Int) - ((2 : ℤ) ^ (8 - 1) - 1) - ((23 : ℕ) : ℤ)) : ℝ) : EReal)

/-- A word with no fraction and no sign, by its exponent field. -/
theorem ieee_of (b : BitVec 32) (n : ℕ) (h1 : (b.extractLsb' 23 8).toNat = n) (h2 : (b.extractLsb' 0 23).toNat = 0) (h3 : b.extractLsb' 31 1 = 0#1) :
    Ideal.ofBits .f32 b = if n = 255 then ⊤ else if n = 0 then 0 else (((2 : ℝ) ^ ((n : ℤ) - 127) : ℝ) : EReal) := by
  have e : Ideal.ofBits .f32 b = word (b.extractLsb' 31 1 == 1#1) (b.extractLsb' 23 8).toNat (b.extractLsb' 0 23).toNat := rfl
  have s1 : ((0#1 : BitVec 1) == 1#1) = false := rfl
  rw [e, h1, h2, h3, s1]
  unfold word
  by_cases c1 : n = 255
  · subst c1; simp
  · rw [if_neg (by omega), if_neg c1]
    by_cases c2 : n = 0
    · rw [if_pos c2, if_pos c2]; simp
    · rw [if_neg c2, if_neg c2]
      refine congrArg _ ?_
      have e2 : ((n : ℤ) - ((2 : ℤ) ^ (8 - 1) - 1) - ((23 : ℕ) : ℤ)) = ((n : ℤ) - 127) - 23 := by norm_num
      rw [e2, zpow_sub₀ (by norm_num)]
      norm_num
      rw [mul_div_cancel₀ _ (by norm_num)]

theorem pw_cases (n : ℕ) (h : n < 256) : pw n = if n = 255 then ⊤ else if n = 0 then 0 else (((2 : ℝ) ^ ((n : ℤ) - 127) : ℝ) : EReal) :=
  ieee_of _ n (bits_ex ⟨n, h⟩) (bits_fr ⟨n, h⟩) (bits_sg ⟨n, h⟩)

/-- A normal exponent field is a power of two. -/
theorem pw_eq (n : ℕ) (h0 : 0 < n) (h : n < 255) : pw n = (((2 : ℝ) ^ ((n : ℤ) - 127) : ℝ) : EReal) := by
  rw [pw_cases n (by omega), if_neg (by omega), if_neg (by omega)]

/-- The largest exponent field is infinity. -/
theorem pw_top : pw 255 = ⊤ := by rw [pw_cases _ (by omega), if_pos rfl]

theorem pw_one_127 : pw 127 = 1 := by rw [pw_eq _ (by omega) (by omega)]; norm_num

/-- Powers grow with the exponent field. -/
theorem pw_mono {a b : ℕ} (ha : 0 < a) (hab : a ≤ b) (hb : b ≤ 255) : pw a ≤ pw b := by
  rcases Nat.lt_or_ge b 255 with h | h
  · rw [pw_eq a ha (by omega), pw_eq b (by omega) h, EReal.coe_le_coe_iff]
    exact zpow_le_zpow_right₀ (by norm_num) (by omega)
  · obtain rfl : b = 255 := by omega
    rw [pw_top]; exact le_top

/-- One step of the search: the bit `b` is set in the exponent found so far when the power of two does not exceed `x`. -/
def bump (x : EReal) (n b : BitVec 32) : BitVec 32 :=
  if Ideal.ofBits .f32 ((n + b) <<< (23#32)) ≤ x then n + b else n

/-- The search for the exponent field, from the highest bit down. -/
def srch (x : EReal) : BitVec 32 :=
  bump x (bump x (bump x (bump x (bump x (bump x (bump x (bump x 0#32 128#32) 64#32) 32#32) 16#32) 8#32) 4#32) 2#32) 1#32

/-- `N` is the exponent field of `x`. -/
structure IsExp (x : EReal) (N : ℕ) : Prop where
  le : N ≤ 252
  lo : 0 < N → pw N ≤ x
  hi : x < pw (N + 1)

theorem IsExp.iff {x : EReal} {N : ℕ} (h : IsExp x N) {k : ℕ} (h0 : 0 < k) (hk : k ≤ 255) : pw k ≤ x ↔ k ≤ N := by
  have := h.le
  constructor
  · intro hx
    by_contra hn
    exact absurd (hx.trans_lt h.hi) (not_lt.mpr (pw_mono (by omega) (by omega) hk))
  · intro hn
    exact (pw_mono h0 hn (by omega)).trans (h.lo (by omega))

theorem bump_eq {x : EReal} {N : ℕ} (h : IsExp x N) (n b : ℕ) (hb : 0 < b) (hn : n + b ≤ 255) :
    bump x (BitVec.ofNat 32 n) (BitVec.ofNat 32 b) = BitVec.ofNat 32 (if n + b ≤ N then n + b else n) := by
  unfold bump
  rw [← BitVec.ofNat_add]
  have := h.iff (k := n + b) (by omega) hn
  unfold pw at this
  by_cases hc : n + b ≤ N
  · rw [if_pos (this.mpr hc), if_pos hc]
  · rw [if_neg (fun hh => hc (this.mp hh)), if_neg hc]

/-- The search over naturals. -/
def up (N n b : ℕ) : ℕ := if n + b ≤ N then n + b else n

theorem up_all (N : Fin 254) : up N (up N (up N (up N (up N (up N (up N (up N 0 128) 64) 32) 16) 8) 4) 2) 1 = N := by
  revert N; decide +kernel

theorem up_le (N n b m c : ℕ) (h : n ≤ m) (hb : b = c) : up N n b ≤ m + c := by
  unfold up; split <;> omega

/-- The search finds the exponent field. -/
theorem srch_eq {x : EReal} {N : ℕ} (h : IsExp x N) : srch x = BitVec.ofNat 32 N := by
  have e (n b : ℕ) (hb : 0 < b) (hn : n + b ≤ 255) : bump x (BitVec.ofNat 32 n) (BitVec.ofNat 32 b) = BitVec.ofNat 32 (up N n b) := bump_eq h n b hb hn
  have l1 := up_le N 0 128 0 128 le_rfl rfl
  have l2 := up_le N _ 64 _ 64 l1 rfl
  have l3 := up_le N _ 32 _ 32 l2 rfl
  have l4 := up_le N _ 16 _ 16 l3 rfl
  have l5 := up_le N _ 8 _ 8 l4 rfl
  have l6 := up_le N _ 4 _ 4 l5 rfl
  have l7 := up_le N _ 2 _ 2 l6 rfl
  have e0 : (0#32 : BitVec 32) = BitVec.ofNat 32 0 := rfl
  unfold srch
  rw [e0, e 0 128 (by omega) (by omega), e _ 64 (by omega) (by omega), e _ 32 (by omega) (by omega), e _ 16 (by omega) (by omega), e _ 8 (by omega) (by omega),
    e _ 4 (by omega) (by omega), e _ 2 (by omega) (by omega), e _ 1 (by omega) (by omega)]
  have := up_all ⟨N, by have := h.le; omega⟩
  exact congrArg (BitVec.ofNat 32) this

/-- Every nonnegative real below 2^126 has an exponent field. -/
theorem exists_isExp (t : ℝ) (h0 : 0 ≤ t) (h : t < (2 : ℝ) ^ (126 : ℤ)) : ∃ N, IsExp (t : EReal) N := by
  by_cases hs : t < (2 : ℝ) ^ (-126 : ℤ)
  · refine ⟨0, by omega, by omega, ?_⟩
    rw [pw_eq _ (by omega) (by omega), EReal.coe_lt_coe_iff]
    simpa using hs
  · obtain ⟨n, hn1, hn2⟩ := exists_mem_Ico_zpow (x := t) (y := 2) (lt_of_lt_of_le (by positivity) (not_lt.mp hs)) (by norm_num)
    have a1 : n < 126 := (zpow_lt_zpow_iff_right₀ (by norm_num : (1 : ℝ) < 2)).mp (hn1.trans_lt h)
    have a2 : -126 < n + 1 := (zpow_lt_zpow_iff_right₀ (by norm_num : (1 : ℝ) < 2)).mp ((not_lt.mp hs).trans_lt hn2)
    refine ⟨(n + 127).toNat, by omega, fun _ => ?_, ?_⟩
    · rw [pw_eq _ (by omega) (by omega), EReal.coe_le_coe_iff]
      rwa [show (((n + 127).toNat : ℕ) : ℤ) - 127 = n by omega]
    · rw [pw_eq _ (by omega) (by omega), EReal.coe_lt_coe_iff]
      rwa [show ((((n + 127).toNat + 1 : ℕ)) : ℤ) - 127 = n + 1 by omega]

end Cert.Value

end
-- ==== Proof.Value.Quant.lean ====
/- The power-of-two scale of a row: as the kernel finds it, by the bits of an exponent, and as the least power of two
   above a number. -/
module

public import proofs.«01_k».proof.Proof.Value.Pow2

@[expose] public section

noncomputable section

namespace Cert.Value

open Idealize Idealize.ShloMosaic

/-- The kernel's exponent of `x`. -/
def kexp (x : EReal) : BitVec 32 := if srch x = 0#32 then 0#32 else srch x - 126#32

/-- The kernel's scale. -/
def kscale (x : EReal) : EReal := Ideal.ofBits .f32 ((127#32 + kexp x) <<< (23#32))

/-- The kernel's inverse scale. -/
def kinv (x : EReal) : EReal := Ideal.ofBits .f32 ((127#32 - kexp x) <<< (23#32))

/-- The least power of two above `t`, or one for a `t` below every normal number. -/
def rscale (t : EReal) : EReal :=
  if t < pw 1 then 1 else (Finset.univ : Finset (Fin 253)).fold min ⊤ (fun i => if t < pw (2 + i.val) then pw (2 + i.val) else ⊤)

/-- Clipping to the range of the codes. -/
def clip (x : EReal) : EReal := min (Ideal.ofBits .f32 0x43E00000#32) (max (Ideal.ofBits .f32 0xC3E00000#32) x)

theorem c448 : Ideal.ofBits .f32 0x43E00000#32 = ((448 : ℝ) : EReal) := by
  simp [Ideal.ofBits, Ideal.ieee]; norm_num [← EReal.coe_mul]

theorem cm448 : Ideal.ofBits .f32 0xC3E00000#32 = ((-448 : ℝ) : EReal) := by
  simp [Ideal.ofBits, Ideal.ieee]; norm_num [← EReal.coe_mul, ← EReal.coe_neg]

theorem c1 : Ideal.ofBits .f32 0x3F800000#32 = 1 := by
  rw [show (0x3F800000#32 : BitVec 32) = BitVec.ofNat 32 127 <<< (23#32) by decide]; exact pw_one_127

theorem c8th : Ideal.ofBits .f32 0x3E000000#32 = ((1 / 8 : ℝ) : EReal) := by
  rw [show (0x3E000000#32 : BitVec 32) = BitVec.ofNat 32 124 <<< (23#32) by decide]
  refine (pw_eq 124 (by omega) (by omega)).trans ?_
  norm_num

theorem ctiny : Ideal.ofBits .f32 0x00800000#32 = pw 1 := by
  rw [show (0x00800000#32 : BitVec 32) = BitVec.ofNat 32 1 <<< (23#32) by decide]; rfl

theorem cinf : Ideal.ofBits .f32 0x7F800000#32 = ⊤ := by
  rw [show (0x7F800000#32 : BitVec 32) = BitVec.ofNat 32 255 <<< (23#32) by decide]; exact pw_top

theorem cninf : Ideal.ofBits .f32 0xFF800000#32 = ⊥ := by
  simp [Ideal.ofBits, Ideal.ieee]

/-- Clipping keeps a real a real. -/
theorem clip_real (x : ℝ) : clip (x : EReal) = ((min 448 (max (-448) x) : ℝ) : EReal) := by
  unfold clip
  rw [c448, cm448]
  have hm : Monotone (fun r : ℝ => (r : EReal)) := EReal.coe_strictMono.monotone
  exact ((hm.map_min (a := 448) (b := max (-448) x)).trans (congrArg _ (hm.map_max (a := -448) (b := x)))).symm

theorem clip_zero : clip 0 = 0 := by
  rw [show (0 : EReal) = ((0 : ℝ) : EReal) from rfl, clip_real]; norm_num

theorem kexp_pos {x : EReal} {N : ℕ} (h : IsExp x N) (h0 : 0 < N) : kexp x = BitVec.ofNat 32 N - 126#32 := by
  have hl := h.le
  unfold kexp
  rw [srch_eq h, if_neg]
  intro hh
  have := congrArg BitVec.toNat hh
  simp only [BitVec.toNat_ofNat] at this
  omega

theorem kscale_eq {x : EReal} {N : ℕ} (h : IsExp x N) (h0 : 0 < N) : kscale x = pw (N + 1) := by
  have hl := h.le
  unfold kscale pw
  rw [kexp_pos h h0]
  refine congrArg (fun b => Ideal.ofBits .f32 (b <<< (23#32))) ?_
  apply BitVec.eq_of_toNat_eq
  simp only [BitVec.toNat_add, BitVec.toNat_sub, BitVec.toNat_ofNat]
  omega

theorem kinv_eq {x : EReal} {N : ℕ} (h : IsExp x N) (h0 : 0 < N) : kinv x = pw (253 - N) := by
  have hl := h.le
  unfold kinv pw
  rw [kexp_pos h h0]
  refine congrArg (fun b => Ideal.ofBits .f32 (b <<< (23#32))) ?_
  apply BitVec.eq_of_toNat_eq
  simp only [BitVec.toNat_sub, BitVec.toNat_ofNat]
  omega

theorem kexp_zero {x : EReal} (h : IsExp x 0) : kexp x = 0#32 := by
  unfold kexp; rw [srch_eq h, if_pos rfl]

theorem kscale_zero {x : EReal} (h : IsExp x 0) : kscale x = 1 := by
  unfold kscale; rw [kexp_zero h]; exact pw_one_127

theorem kinv_zero {x : EReal} (h : IsExp x 0) : kinv x = 1 := by
  unfold kinv; rw [kexp_zero h]; exact pw_one_127

theorem rscale_zero {x : EReal} (h : IsExp x 0) : rscale x = 1 := by
  unfold rscale; rw [if_pos h.hi]

theorem rscale_eq {x : EReal} {N : ℕ} (h : IsExp x N) (h0 : 0 < N) : rscale x = pw (N + 1) := by
  have hl := h.le
  unfold rscale
  rw [if_neg (not_lt.mpr ((h.iff (by omega) (by omega)).mpr h0))]
  apply le_antisymm
  · rw [Finset.fold_min_le]
    refine Or.inr ⟨⟨N - 1, by omega⟩, Finset.mem_univ _, ?_⟩
    have e : 2 + (N - 1) = N + 1 := by omega
    simp only [e]
    rw [if_pos h.hi]
  · rw [Finset.le_fold_min]
    refine ⟨le_top, fun i _ => ?_⟩
    split
    next hc =>
      refine pw_mono (by omega) ?_ (by omega)
      by_contra hn
      exact absurd hc (not_lt.mpr ((h.iff (by omega) (by omega)).mpr (by omega)))
    next => exact le_top

/-- The kernel's scale and the reference's are the same power of two, with the kernel's inverse its inverse. -/
theorem scales (t : ℝ) (h0 : 0 ≤ t) (h : t < (2 : ℝ) ^ (126 : ℤ)) :
    ∃ s : ℝ, 0 < s ∧ kscale (t : EReal) = (s : EReal) ∧ kinv (t : EReal) = ((s⁻¹ : ℝ) : EReal) ∧ rscale (t : EReal) = (s : EReal) ∧ s ≤ max 1 (2 * t) := by
  obtain ⟨N, hN⟩ := exists_isExp t h0 h
  have hl := hN.le
  rcases Nat.eq_zero_or_pos N with rfl | hp
  · exact ⟨1, one_pos, kscale_zero hN, by rw [kinv_zero hN]; norm_num, rscale_zero hN, le_max_left _ _⟩
  · refine ⟨(2 : ℝ) ^ (((N + 1 : ℕ) : ℤ) - 127), by positivity, ?_, ?_, ?_, ?_⟩
    · rw [kscale_eq hN hp, pw_eq _ (by omega) (by omega)]
    · rw [kinv_eq hN hp, pw_eq _ (by omega) (by omega), ← zpow_neg]
      congr 2; omega
    · rw [rscale_eq hN hp, pw_eq _ (by omega) (by omega)]
    · have := hN.lo hp
      rw [pw_eq _ (by omega) (by omega), EReal.coe_le_coe_iff] at this
      refine le_max_of_le_right ?_
      rw [show (((N + 1 : ℕ) : ℤ) - 127) = ((N : ℤ) - 127) + 1 by push_cast; ring, zpow_add₀ (by norm_num), zpow_one]
      linarith

end Cert.Value

end
-- ==== Proof.Value.QuantRow.lean ====
/- The quantiser of one row of 64 numbers: the reference's codes and scale and the kernel's are the same real numbers. -/
module

public import proofs.«01_k».proof.Proof.Value.Quant

@[expose] public section

noncomputable section

namespace Cert.Value

open Idealize Idealize.ShloMosaic

/-- The constant of the quantiser: the f32 nearest to 1/448. -/
def qc : ℝ := 9586981 * (2 : ℝ) ^ (-32 : ℤ)

theorem qc_eq : Ideal.ofBits .f32 0x3B124925#32 = (qc : EReal) := by
  simp [Ideal.ofBits, Ideal.ieee, qc]

theorem qc_pos : 0 < qc := by unfold qc; positivity

theorem qc_le : qc ≤ (2 : ℝ) ^ (-8 : ℤ) := by unfold qc; norm_num

/-- The largest finite bfloat16 number. -/
theorem cmax_le : ∃ r : ℝ, Ideal.ofBits .f32 0x7F7F0000#32 = (r : EReal) ∧ r ≤ (2 : ℝ) ^ (128 : ℤ) := by
  refine ⟨16711680 * (2 : ℝ) ^ (104 : ℤ), ?_, by norm_num⟩
  simp [Ideal.ofBits, Ideal.ieee]

/-- The largest magnitude times the constant. -/
def qtop (x : Fin 64 → EReal) : EReal := (Finset.univ : Finset (Fin 64)).fold max ⊥ (fun d => max (x d) (-(x d))) * Ideal.ofBits .f32 0x3B124925#32

/-- What is known of a quantised row: the scale is a positive real, and the codes are reals. -/
structure RowQ (x : Fin 64 → EReal) (s : ℝ) (q : Fin 64 → ℝ) : Prop where
  pos : 0 < s
  le : s ≤ (2 : ℝ) ^ (121 : ℤ)
  kscale : kscale (qtop x) = (s : EReal)
  rscale : rscale (qtop x) = (s : EReal)
  kcode : ∀ d, clip (x d * kinv (qtop x)) = (q d : EReal)
  rcode : ∀ d, clip (Ideal.div (x d) (s : EReal)) = (q d : EReal)

/-- The largest magnitude of a bounded row is a bounded nonnegative real. -/
theorem qtop_real (y : Fin 64 → ℝ) (hy : ∀ d, |y d| ≤ (2 : ℝ) ^ (128 : ℤ)) :
    ∃ t : ℝ, 0 ≤ t ∧ t ≤ (2 : ℝ) ^ (120 : ℤ) ∧ qtop (fun d => (y d : EReal)) = (t : EReal) := by
  have hm : Monotone (fun r : ℝ => (r : EReal)) := EReal.coe_strictMono.monotone
  have ha (d) : max (y d : EReal) (-(y d : EReal)) = ((|y d| : ℝ) : EReal) := by
    rw [← EReal.coe_neg]; exact (hm.map_max (a := y d) (b := -(y d))).symm
  have hM : (Finset.univ : Finset (Fin 64)).fold max ⊥ (fun d => max (y d : EReal) (-(y d : EReal)))
      = (((Finset.univ : Finset (Fin 64)).sup' ⟨0, Finset.mem_univ _⟩ (fun d => |y d|) : ℝ) : EReal) := by
    apply le_antisymm
    · rw [Finset.fold_max_le]
      refine ⟨bot_le, fun d _ => ?_⟩
      rw [ha, EReal.coe_le_coe_iff]
      exact Finset.le_sup' (fun d => |y d|) (Finset.mem_univ d)
    · obtain ⟨d, hd, he⟩ := Finset.exists_mem_eq_sup' (s := (Finset.univ : Finset (Fin 64))) ⟨0, Finset.mem_univ _⟩ (fun d => |y d|)
      rw [Finset.le_fold_max]
      exact Or.inr ⟨d, hd, by rw [ha, he]⟩
  have h0 : 0 ≤ (Finset.univ : Finset (Fin 64)).sup' ⟨0, Finset.mem_univ _⟩ (fun d => |y d|) :=
    (abs_nonneg (y 0)).trans (Finset.le_sup' (fun d => |y d|) (Finset.mem_univ 0))
  have h1 : (Finset.univ : Finset (Fin 64)).sup' ⟨0, Finset.mem_univ _⟩ (fun d => |y d|) ≤ (2 : ℝ) ^ (128 : ℤ) :=
    Finset.sup'_le _ _ fun d _ => hy d
  refine ⟨_ * qc, mul_nonneg h0 qc_pos.le, ?_, by unfold qtop; rw [hM, qc_eq, ← EReal.coe_mul]⟩
  calc _ ≤ (2 : ℝ) ^ (128 : ℤ) * (2 : ℝ) ^ (-8 : ℤ) := mul_le_mul h1 qc_le qc_pos.le (by positivity)
    _ = _ := by rw [← zpow_add₀ (by norm_num)]; norm_num

/-- A bounded row has codes and a scale. -/
theorem exists_rowQ (x : Fin 64 → EReal) (hx : ∀ d, max (x d) (-(x d)) ≤ Ideal.ofBits .f32 0x7F7F0000#32) : ∃ s q, RowQ x s q := by
  obtain ⟨B, hB, hB'⟩ := cmax_le
  have hr (d) : ∃ y : ℝ, x d = (y : EReal) ∧ |y| ≤ (2 : ℝ) ^ (128 : ℤ) := by
    have h := hx d
    rw [hB] at h
    have h1 := (le_max_left _ _).trans h
    have h2 := (le_max_right _ _).trans h
    induction hxd : x d using EReal.rec with
    | bot => rw [hxd, EReal.neg_bot] at h2; exact absurd h2 (not_le.mpr (EReal.coe_lt_top B))
    | top => rw [hxd] at h1; exact absurd h1 (not_le.mpr (EReal.coe_lt_top B))
    | coe y =>
      rw [hxd, EReal.coe_le_coe_iff] at h1
      rw [hxd, ← EReal.coe_neg, EReal.coe_le_coe_iff] at h2
      exact ⟨y, rfl, abs_le.mpr ⟨by linarith, by linarith⟩⟩
  choose y hy hy' using hr
  obtain rfl : x = fun d => (y d : EReal) := funext hy
  obtain ⟨t, ht0, ht1, ht⟩ := qtop_real y hy'
  have e120 : (2 : ℝ) ^ (121 : ℤ) = 2 * (2 : ℝ) ^ (120 : ℤ) := by norm_num
  obtain ⟨s, hs, hk, hi, hrs, hle⟩ := scales t ht0 (ht1.trans_lt (zpow_lt_zpow_right₀ (by norm_num) (by norm_num)))
  refine ⟨s, fun d => min 448 (max (-448) (y d * s⁻¹)), hs, hle.trans (max_le ?_ ?_), by rw [ht, hk], by rw [ht, hrs], fun d => ?_, fun d => ?_⟩
  · exact one_le_zpow₀ (by norm_num) (by norm_num)
  · rw [e120]; linarith
  · rw [ht, hi, ← EReal.coe_mul, clip_real]
  · unfold Ideal.div
    rw [if_neg (by exact_mod_cast hs.ne'), ← EReal.coe_inv, ← EReal.coe_mul, clip_real]

end Cert.Value

end
-- ==== Proof.Value.Search.lean ====
/- The quantiser's exponent search over a vector, and the scale, the inverse and the codes that it gives, read at an index. -/
module

public import proofs.«01_k».proof.Proof.Value.QuantRow
public import proofs.«01_k».proof.Proof.Gen.KernelIdeal.Skeleton

@[expose] public section

noncomputable section

namespace Cert.Value

open Idealize Idealize.ShloMosaic Idealize.ShloMosaic.ValueIdx

/-- One step of the search, lane by lane. -/
def vbump {s : Shape} (x : FVec Ideal s .f32) (n : IVec s 32) (b : BitVec 32) : IVec s 32 :=
  select (cmpf .oge x (bitcastToFloat .f32 (shli (addi n (broadcast s b)) (broadcast s 23#32)))) (addi n (broadcast s b)) n

/-- The search, lane by lane. -/
def vsrch {s : Shape} (x : FVec Ideal s .f32) : IVec s 32 :=
  vbump x (vbump x (vbump x (vbump x (vbump x (vbump x (vbump x (vbump x (broadcast s 0#32) 128#32) 64#32) 32#32) 16#32) 8#32) 4#32) 2#32) 1#32

theorem select_ge (x y : EReal) (a b : BitVec 32) : Scalar.select (Ideal.cmp .oge x y) a b = if y ≤ x then a else b := by
  unfold Scalar.select Ideal.cmp
  by_cases h : y ≤ x <;> simp [h]

theorem vbump_apply {s : Shape} (x : FVec Ideal s .f32) (n : IVec s 32) (b : BitVec 32) (i : s.Idx) : vbump x n b i = bump (x i) (n i) b :=
  select_ge _ _ _ _

theorem vsrch_apply {s : Shape} (x : FVec Ideal s .f32) (i : s.Idx) : vsrch x i = srch (x i) := by
  unfold vsrch srch
  simp only [vbump_apply]
  rfl

/-- The exponent of a lane's scale. -/
def vexp {s : Shape} (n : IVec s 32) : IVec s 32 :=
  select (cmpi .eq n (broadcast s 0#32)) (broadcast s 0#32) (subi n (broadcast s 126#32))

theorem vexp_apply {s : Shape} (x : FVec Ideal s .f32) (i : s.Idx) : vexp (vsrch x) i = kexp (x i) := by
  have h : vexp (vsrch x) i = Scalar.select (IntOp.cmpi .eq (vsrch x i) 0#32) 0#32 (vsrch x i - 126#32) := rfl
  rw [h, vsrch_apply]
  unfold kexp
  by_cases h : srch (x i) = 0#32
  · rw [if_pos h, h]; rfl
  · rw [if_neg h]
    have e : IntOp.cmpi .eq (srch (x i)) 0#32 = 0#1 := by
      show BitVec.ofBool (srch (x i) == 0#32) = 0#1
      rw [beq_eq_false_iff_ne.mpr h]; rfl
    rw [e]; rfl

theorem scale_apply {s : Shape} (x : FVec Ideal s .f32) (i : s.Idx) :
    (bitcastToFloat .f32 (shli (addi (broadcast s 127#32) (vexp (vsrch x))) (broadcast s 23#32)) : FVec Ideal s .f32) i = kscale (x i) := by
  have h : (bitcastToFloat .f32 (shli (addi (broadcast s 127#32) (vexp (vsrch x))) (broadcast s 23#32)) : FVec Ideal s .f32) i
    = Ideal.ofBits .f32 ((127#32 + vexp (vsrch x) i) <<< 23#32) := rfl
  rw [h, vexp_apply]; rfl

theorem inv_apply {s : Shape} (x : FVec Ideal s .f32) (i : s.Idx) :
    (bitcastToFloat .f32 (shli (subi (broadcast s 127#32) (vexp (vsrch x))) (broadcast s 23#32)) : FVec Ideal s .f32) i = kinv (x i) := by
  have h : (bitcastToFloat .f32 (shli (subi (broadcast s 127#32) (vexp (vsrch x))) (broadcast s 23#32)) : FVec Ideal s .f32) i
    = Ideal.ofBits .f32 ((127#32 - vexp (vsrch x) i) <<< 23#32) := rfl
  rw [h, vexp_apply]; rfl

section Quantise
open Cert.KernelIdeal Cert.KernelIdeal.Gen

theorem srch0 (x : Vec Ideal S256x32x64 .bf16) : k0_pay8 (k0_pay5 x) (k0_pay6 x) (k0_pay7 x) = vsrch (k0_pay5 x) := rfl
theorem srch1 (x : Vec Ideal S256x4x64 .bf16) : k1_pay8 (k1_pay5 x) (k1_pay6 x) (k1_pay7 x) = vsrch (k1_pay5 x) := rfl
theorem srch2 (x : Vec Ideal S256x4x64 .bf16) : k2_pay8 (k2_pay5 x) (k2_pay6 x) (k2_pay7 x) = vsrch (k2_pay5 x) := rfl

theorem srch4 (v28 : FVec Ideal S1056x256 .f32) (v30 : FVec Ideal S1x256 .f32) (v34 : Vec Ideal S1x1x1056x1 .f32) (c : Ideal .f32) :
    k4_pay13 (k4_pay9 v28 v30 c v34) (k4_pay10 v28 v30 c v34) (k4_pay11 v28 v30 c v34) k4_pay12 = vsrch (k4_pay9 v28 v30 c v34) := rfl
end Quantise

end Cert.Value
-- ==== Proof.Value.QuantPay.lean ====
/- What the quantising calls write of a block, read at an index: every row's codes and scale. -/
module

public import proofs.«01_k».proof.Proof.Value.Search
public import Idealize.ShloMosaic.Lib.Pipeline.Value

@[expose] public section

noncomputable section

namespace Cert.Value

open Idealize Idealize.ShloMosaic Idealize.ShloMosaic.ValueIdx
open Cert.KernelIdeal Cert.KernelIdeal.Gen

attribute [local irreducible] Ideal.ofBits Finset.fold Ideal.div pw

/-- The codes that call 0 writes of a block. -/
def blkCodes0 (x : Vec Ideal S256x32x64 .bf16) : FVec Ideal S256x32x64 .fp8e4m3 :=
  k0_pay2 (k0_pay4 x) (k0_pay9 (k0_pay5 x) (k0_pay6 x) (k0_pay7 x)) (k0_pay10 (k0_pay5 x) (k0_pay6 x) (k0_pay7 x)) k0_pay11
/-- The scales that call 0 writes of a block. -/
def blkScale0 (x : Vec Ideal S256x32x64 .bf16) : FVec Ideal S256x32 .f32 :=
  k0_pay3 (k0_pay9 (k0_pay5 x) (k0_pay6 x) (k0_pay7 x)) (k0_pay10 (k0_pay5 x) (k0_pay6 x) (k0_pay7 x)) k0_pay11

theorem top0 (x : Vec Ideal S256x32x64 .bf16) (t : Fin 256) (h : Fin 32) (u : Fin 1) :
    k0_pay5 x (ix3 t h u) = qtop (fun d => x (ix3 t h d)) := by
  have e0 (y) : k0_pay4 x y = x y := by
    unfold k0_pay4
    rw [shapeCast_self]; rfl
  have es (d : Fin 64) : absf (k0_pay4 x) (reduces_S256x32x64_S256x32.lift (ix2 t h) d) = max (x (ix3 t h d)) (-(x (ix3 t h d))) := by
    have e : reduces_S256x32x64_S256x32.lift (ix2 t h) d = ix3 t h d := by funext a; fin_cases a <;> rfl
    rw [e, ← e0]; rfl
  have e1 : multiReduction (F := Ideal) .maximumf [2] S256x32 (absf (k0_pay4 x)) 0xFF800000#32 reduces_S256x32x64_S256x32 (.inl rfl) rfl (ix2 t h)
      = (Finset.univ : Finset (Fin 64)).fold max ⊥ (fun d => max (x (ix3 t h d)) (-(x (ix3 t h d)))) := by
    refine (Ideal.multiReduction_maximumf_single _ _ reduces_S256x32x64_S256x32 _ _ _).trans ?_
    rw [← cninf]
    exact Finset.fold_congr fun d _ => es d
  unfold k0_pay5 qtop
  rw [← e1]
  have e2 := shapeCast_apply (multiReduction (F := Ideal) .maximumf [2] S256x32 (absf (k0_pay4 x)) 0xFF800000#32 reduces_S256x32x64_S256x32 (.inl rfl) rfl)
    shapeCasts_S256x32_S256x32x1 (ix3 t h u) (ix2 t h) (by
      rw [Shape.rowMajor_val_two, Shape.rowMajor_val_three]
      show t.val * 32 + h.val = (t.val * 32 + h.val) * 1 + u.val
      omega)
  have hm (r : FVec Ideal S256x32x1 .f32) : mulf r (broadcast S256x32x1 (Scalar.ofBits .f32 0x3B124925#32)) (ix3 t h u) = r (ix3 t h u) * Ideal.ofBits .f32 0x3B124925#32 := rfl
  rw [← e2, ← hm]

theorem exp0 (x : Vec Ideal S256x32x64 .bf16) :
    k0_pay1 (k0_pay9 (k0_pay5 x) (k0_pay6 x) (k0_pay7 x)) (k0_pay10 (k0_pay5 x) (k0_pay6 x) (k0_pay7 x)) k0_pay11 = vexp (vsrch (k0_pay5 x)) := by
  rw [← srch0]; unfold k0_pay1 k0_pay9 k0_pay10 k0_pay11 vexp
  generalize k0_pay8 (k0_pay5 x) (k0_pay6 x) (k0_pay7 x) = n
  rfl

theorem codes0 (x : Vec Ideal S256x32x64 .bf16) (t : Fin 256) (h : Fin 32) (d : Fin 64) :
    blkCodes0 x (ix3 t h d) = clip (x (ix3 t h d) * kinv (qtop (fun d => x (ix3 t h d)))) := by
  have e0 (y) : k0_pay4 x y = x y := by
    unfold k0_pay4
    rw [shapeCast_self]; rfl
  have eb (n : IVec S256x32x1 32) : (broadcastTo S256x32x64 (bitcastToFloat .f32 (shli (subi (broadcast S256x32x1 127#32) (vexp n)) (broadcast S256x32x1 23#32)) : FVec Ideal S256x32x1 .f32) broadcasts_S256x32x1_S256x32x64) (ix3 t h d)
      = (bitcastToFloat .f32 (shli (subi (broadcast S256x32x1 127#32) (vexp n)) (broadcast S256x32x1 23#32)) : FVec Ideal S256x32x1 .f32) (ix3 t h 0) :=
    broadcastTo_apply _ _ _ _ (fun a => by fin_cases a <;> rfl)
  have h1 (v2 : FVec Ideal S256x32x64 .f32) (v82 : IVec S256x32x1 1) (v84 v85 : IVec S256x32x1 32) : k0_pay2 v2 v82 v84 v85 (ix3 t h d)
      = clip (v2 (ix3 t h d) * (broadcastTo S256x32x64 (bitcastToFloat .f32 (shli (subi (broadcast S256x32x1 127#32) (k0_pay1 v82 v84 v85)) (broadcast S256x32x1 23#32)) : FVec Ideal S256x32x1 .f32) broadcasts_S256x32x1_S256x32x64) (ix3 t h d)) := rfl
  unfold blkCodes0
  rw [h1, exp0, eb, inv_apply, e0, top0]

theorem scale0 (x : Vec Ideal S256x32x64 .bf16) (t : Fin 256) (h : Fin 32) :
    blkScale0 x (ix2 t h) = kscale (qtop (fun d => x (ix3 t h d))) := by
  have h1 (v82 : IVec S256x32x1 1) (v84 v85 : IVec S256x32x1 32) : (k0_pay3 v82 v84 v85 : FVec Ideal S256x32 .f32)
      = shapeCast S256x32 (bitcastToFloat .f32 (shli (addi (broadcast S256x32x1 127#32) (k0_pay1 v82 v84 v85)) (broadcast S256x32x1 23#32)) : FVec Ideal S256x32x1 .f32) shapeCasts_S256x32x1_S256x32 := rfl
  unfold blkScale0
  rw [h1, exp0]
  refine (shapeCast_apply _ _ (ix2 t h) (ix3 t h 0) (by
      rw [Shape.rowMajor_val_two, Shape.rowMajor_val_three]
      show (t.val * 32 + h.val) * 1 + 0 = t.val * 32 + h.val
      omega)).trans ?_
  rw [scale_apply, top0]

/-- The codes that call 1 writes of a block. -/
def blkCodes1 (x : Vec Ideal S256x4x64 .bf16) : FVec Ideal S256x4x64 .fp8e4m3 :=
  k1_pay2 (k1_pay4 x) (k1_pay9 (k1_pay5 x) (k1_pay6 x) (k1_pay7 x)) (k1_pay10 (k1_pay5 x) (k1_pay6 x) (k1_pay7 x)) k1_pay11
/-- The scales that call 1 writes of a block. -/
def blkScale1 (x : Vec Ideal S256x4x64 .bf16) : FVec Ideal S256x4 .f32 :=
  k1_pay3 (k1_pay9 (k1_pay5 x) (k1_pay6 x) (k1_pay7 x)) (k1_pay10 (k1_pay5 x) (k1_pay6 x) (k1_pay7 x)) k1_pay11

theorem top1 (x : Vec Ideal S256x4x64 .bf16) (t : Fin 256) (h : Fin 4) (u : Fin 1) :
    k1_pay5 x (ix3 t h u) = qtop (fun d => x (ix3 t h d)) := by
  have e0 (y) : k1_pay4 x y = x y := by
    unfold k1_pay4
    rw [shapeCast_self]; rfl
  have es (d : Fin 64) : absf (k1_pay4 x) (reduces_S256x4x64_S256x4.lift (ix2 t h) d) = max (x (ix3 t h d)) (-(x (ix3 t h d))) := by
    have e : reduces_S256x4x64_S256x4.lift (ix2 t h) d = ix3 t h d := by funext a; fin_cases a <;> rfl
    rw [e, ← e0]; rfl
  have e1 : multiReduction (F := Ideal) .maximumf [2] S256x4 (absf (k1_pay4 x)) 0xFF800000#32 reduces_S256x4x64_S256x4 (.inl rfl) rfl (ix2 t h)
      = (Finset.univ : Finset (Fin 64)).fold max ⊥ (fun d => max (x (ix3 t h d)) (-(x (ix3 t h d)))) := by
    refine (Ideal.multiReduction_maximumf_single _ _ reduces_S256x4x64_S256x4 _ _ _).trans ?_
    rw [← cninf]
    exact Finset.fold_congr fun d _ => es d
  unfold k1_pay5 qtop
  rw [← e1]
  have e2 := shapeCast_apply (multiReduction (F := Ideal) .maximumf [2] S256x4 (absf (k1_pay4 x)) 0xFF800000#32 reduces_S256x4x64_S256x4 (.inl rfl) rfl)
    shapeCasts_S256x4_S256x4x1 (ix3 t h u) (ix2 t h) (by
      rw [Shape.rowMajor_val_two, Shape.rowMajor_val_three]
      show t.val * 4 + h.val = (t.val * 4 + h.val) * 1 + u.val
      omega)
  have hm (r : FVec Ideal S256x4x1 .f32) : mulf r (broadcast S256x4x1 (Scalar.ofBits .f32 0x3B124925#32)) (ix3 t h u) = r (ix3 t h u) * Ideal.ofBits .f32 0x3B124925#32 := rfl
  rw [← e2, ← hm]

theorem exp1 (x : Vec Ideal S256x4x64 .bf16) :
    k1_pay1 (k1_pay9 (k1_pay5 x) (k1_pay6 x) (k1_pay7 x)) (k1_pay10 (k1_pay5 x) (k1_pay6 x) (k1_pay7 x)) k1_pay11 = vexp (vsrch (k1_pay5 x)) := by
  rw [← srch1]; unfold k1_pay1 k1_pay9 k1_pay10 k1_pay11 vexp
  generalize k1_pay8 (k1_pay5 x) (k1_pay6 x) (k1_pay7 x) = n
  rfl

theorem codes1 (x : Vec Ideal S256x4x64 .bf16) (t : Fin 256) (h : Fin 4) (d : Fin 64) :
    blkCodes1 x (ix3 t h d) = clip (x (ix3 t h d) * kinv (qtop (fun d => x (ix3 t h d)))) := by
  have e0 (y) : k1_pay4 x y = x y := by
    unfold k1_pay4
    rw [shapeCast_self]; rfl
  have eb (n : IVec S256x4x1 32) : (broadcastTo S256x4x64 (bitcastToFloat .f32 (shli (subi (broadcast S256x4x1 127#32) (vexp n)) (broadcast S256x4x1 23#32)) : FVec Ideal S256x4x1 .f32) broadcasts_S256x4x1_S256x4x64) (ix3 t h d)
      = (bitcastToFloat .f32 (shli (subi (broadcast S256x4x1 127#32) (vexp n)) (broadcast S256x4x1 23#32)) : FVec Ideal S256x4x1 .f32) (ix3 t h 0) :=
    broadcastTo_apply _ _ _ _ (fun a => by fin_cases a <;> rfl)
  have h1 (v2 : FVec Ideal S256x4x64 .f32) (v82 : IVec S256x4x1 1) (v84 v85 : IVec S256x4x1 32) : k1_pay2 v2 v82 v84 v85 (ix3 t h d)
      = clip (v2 (ix3 t h d) * (broadcastTo S256x4x64 (bitcastToFloat .f32 (shli (subi (broadcast S256x4x1 127#32) (k1_pay1 v82 v84 v85)) (broadcast S256x4x1 23#32)) : FVec Ideal S256x4x1 .f32) broadcasts_S256x4x1_S256x4x64) (ix3 t h d)) := rfl
  unfold blkCodes1
  rw [h1, exp1, eb, inv_apply, e0, top1]

theorem scale1 (x : Vec Ideal S256x4x64 .bf16) (t : Fin 256) (h : Fin 4) :
    blkScale1 x (ix2 t h) = kscale (qtop (fun d => x (ix3 t h d))) := by
  have h1 (v82 : IVec S256x4x1 1) (v84 v85 : IVec S256x4x1 32) : (k1_pay3 v82 v84 v85 : FVec Ideal S256x4 .f32)
      = shapeCast S256x4 (bitcastToFloat .f32 (shli (addi (broadcast S256x4x1 127#32) (k1_pay1 v82 v84 v85)) (broadcast S256x4x1 23#32)) : FVec Ideal S256x4x1 .f32) shapeCasts_S256x4x1_S256x4 := rfl
  unfold blkScale1
  rw [h1, exp1]
  refine (shapeCast_apply _ _ (ix2 t h) (ix3 t h 0) (by
      rw [Shape.rowMajor_val_two, Shape.rowMajor_val_three]
      show (t.val * 4 + h.val) * 1 + 0 = t.val * 4 + h.val
      omega)).trans ?_
  rw [scale_apply, top1]

/-- The codes that call 2 writes of a block. -/
def blkCodes2 (x : Vec Ideal S256x4x64 .bf16) : FVec Ideal S256x4x64 .fp8e4m3 :=
  k2_pay2 (k2_pay4 x) (k2_pay9 (k2_pay5 x) (k2_pay6 x) (k2_pay7 x)) (k2_pay10 (k2_pay5 x) (k2_pay6 x) (k2_pay7 x)) k2_pay11
/-- The scales that call 2 writes of a block. -/
def blkScale2 (x : Vec Ideal S256x4x64 .bf16) : FVec Ideal S256x4 .f32 :=
  k2_pay3 (k2_pay9 (k2_pay5 x) (k2_pay6 x) (k2_pay7 x)) (k2_pay10 (k2_pay5 x) (k2_pay6 x) (k2_pay7 x)) k2_pay11

theorem top2 (x : Vec Ideal S256x4x64 .bf16) (t : Fin 256) (h : Fin 4) (u : Fin 1) :
    k2_pay5 x (ix3 t h u) = qtop (fun d => x (ix3 t h d)) := by
  have e0 (y) : k2_pay4 x y = x y := by
    unfold k2_pay4
    rw [shapeCast_self]; rfl
  have es (d : Fin 64) : absf (k2_pay4 x) (reduces_S256x4x64_S256x4.lift (ix2 t h) d) = max (x (ix3 t h d)) (-(x (ix3 t h d))) := by
    have e : reduces_S256x4x64_S256x4.lift (ix2 t h) d = ix3 t h d := by funext a; fin_cases a <;> rfl
    rw [e, ← e0]; rfl
  have e1 : multiReduction (F := Ideal) .maximumf [2] S256x4 (absf (k2_pay4 x)) 0xFF800000#32 reduces_S256x4x64_S256x4 (.inl rfl) rfl (ix2 t h)
      = (Finset.univ : Finset (Fin 64)).fold max ⊥ (fun d => max (x (ix3 t h d)) (-(x (ix3 t h d)))) := by
    refine (Ideal.multiReduction_maximumf_single _ _ reduces_S256x4x64_S256x4 _ _ _).trans ?_
    rw [← cninf]
    exact Finset.fold_congr fun d _ => es d
  unfold k2_pay5 qtop
  rw [← e1]
  have e2 := shapeCast_apply (multiReduction (F := Ideal) .maximumf [2] S256x4 (absf (k2_pay4 x)) 0xFF800000#32 reduces_S256x4x64_S256x4 (.inl rfl) rfl)
    shapeCasts_S256x4_S256x4x1 (ix3 t h u) (ix2 t h) (by
      rw [Shape.rowMajor_val_two, Shape.rowMajor_val_three]
      show t.val * 4 + h.val = (t.val * 4 + h.val) * 1 + u.val
      omega)
  have hm (r : FVec Ideal S256x4x1 .f32) : mulf r (broadcast S256x4x1 (Scalar.ofBits .f32 0x3B124925#32)) (ix3 t h u) = r (ix3 t h u) * Ideal.ofBits .f32 0x3B124925#32 := rfl
  rw [← e2, ← hm]

theorem exp2 (x : Vec Ideal S256x4x64 .bf16) :
    k2_pay1 (k2_pay9 (k2_pay5 x) (k2_pay6 x) (k2_pay7 x)) (k2_pay10 (k2_pay5 x) (k2_pay6 x) (k2_pay7 x)) k2_pay11 = vexp (vsrch (k2_pay5 x)) := by
  rw [← srch2]; unfold k2_pay1 k2_pay9 k2_pay10 k2_pay11 vexp
  generalize k2_pay8 (k2_pay5 x) (k2_pay6 x) (k2_pay7 x) = n
  rfl

theorem codes2 (x : Vec Ideal S256x4x64 .bf16) (t : Fin 256) (h : Fin 4) (d : Fin 64) :
    blkCodes2 x (ix3 t h d) = clip (x (ix3 t h d) * kinv (qtop (fun d => x (ix3 t h d)))) := by
  have e0 (y) : k2_pay4 x y = x y := by
    unfold k2_pay4
    rw [shapeCast_self]; rfl
  have eb (n : IVec S256x4x1 32) : (broadcastTo S256x4x64 (bitcastToFloat .f32 (shli (subi (broadcast S256x4x1 127#32) (vexp n)) (broadcast S256x4x1 23#32)) : FVec Ideal S256x4x1 .f32) broadcasts_S256x4x1_S256x4x64) (ix3 t h d)
      = (bitcastToFloat .f32 (shli (subi (broadcast S256x4x1 127#32) (vexp n)) (broadcast S256x4x1 23#32)) : FVec Ideal S256x4x1 .f32) (ix3 t h 0) :=
    broadcastTo_apply _ _ _ _ (fun a => by fin_cases a <;> rfl)
  have h1 (v2 : FVec Ideal S256x4x64 .f32) (v82 : IVec S256x4x1 1) (v84 v85 : IVec S256x4x1 32) : k2_pay2 v2 v82 v84 v85 (ix3 t h d)
      = clip (v2 (ix3 t h d) * (broadcastTo S256x4x64 (bitcastToFloat .f32 (shli (subi (broadcast S256x4x1 127#32) (k2_pay1 v82 v84 v85)) (broadcast S256x4x1 23#32)) : FVec Ideal S256x4x1 .f32) broadcasts_S256x4x1_S256x4x64) (ix3 t h d)) := rfl
  unfold blkCodes2
  rw [h1, exp2, eb, inv_apply, e0, top2]

theorem scale2 (x : Vec Ideal S256x4x64 .bf16) (t : Fin 256) (h : Fin 4) :
    blkScale2 x (ix2 t h) = kscale (qtop (fun d => x (ix3 t h d))) := by
  have h1 (v82 : IVec S256x4x1 1) (v84 v85 : IVec S256x4x1 32) : (k2_pay3 v82 v84 v85 : FVec Ideal S256x4 .f32)
      = shapeCast S256x4 (bitcastToFloat .f32 (shli (addi (broadcast S256x4x1 127#32) (k2_pay1 v82 v84 v85)) (broadcast S256x4x1 23#32)) : FVec Ideal S256x4x1 .f32) shapeCasts_S256x4x1_S256x4 := rfl
  unfold blkScale2
  rw [h1, exp2]
  refine (shapeCast_apply _ _ (ix2 t h) (ix3 t h 0) (by
      rw [Shape.rowMajor_val_two, Shape.rowMajor_val_three]
      show (t.val * 4 + h.val) * 1 + 0 = t.val * 4 + h.val
      omega)).trans ?_
  rw [scale_apply, top2]

end Cert.Value

end
-- ==== Proof.Value.QuantArr.lean ====
/- What the quantising calls leave in their result arrays: every row's codes and scale. -/
module

public import proofs.«01_k».proof.Proof.Value.QuantPay
public import proofs.«01_k».proof.Proof.KernelIdeal.Outs
public import Idealize.ShloMosaic.Lib.Pipeline.ValueKit

@[expose] public section

noncomputable section

namespace Cert.Value

open Idealize Idealize.ShloMosaic.TcCoe Idealize.ShloMosaic.ValueIdx
open Idealize.ShloMosaic hiding ix1 ix2 ix3 ix4 ix5 eq_ix1 eq_ix2 eq_ix3 eq_ix4 eq_ix5
open Cert.KernelIdeal Cert.KernelIdeal.Gen Cert.KernelIdeal.Own Cert.KernelIdeal.Run
open Idealize.SL.Sem

attribute [local irreducible] Ideal.ofBits Finset.fold Ideal.div pw clip kinv kscale qtop

variable (m : (ℓ : Loc nD τ sig) → Buf (Elt Ideal) ℓ)

/-- The codes of every row of an array of rows. -/
def rowCodes {n h : ℕ} (X : (⟨3, ![n, h, 64]⟩ : Shape).Idx → EReal) (i : (⟨3, ![n, h, 64]⟩ : Shape).Idx) : EReal :=
  clip (X i * kinv (qtop (fun d => X (ix3 (i 0) (i 1) d))))
/-- The scale of every row of an array of rows. -/
def rowScale {n h : ℕ} (X : (⟨3, ![n, h, 64]⟩ : Shape).Idx → EReal) (i : (⟨2, ![n, h]⟩ : Shape).Idx) : EReal :=
  kscale (qtop (fun d => X (ix3 (i 0) (i 1) d)))

/-! ## Call 0 -/

theorem after0_1' (c : Dev nD) (t : Fin cfg0.N) : (d0 m c).after 1 t = blkCodes0 (K0.iblk (Ve0 m) c 0 t) := by
  rw [K0.after0_1]
  unfold K0.outsAt0
  frame_out
  rfl

theorem after0_2' (c : Dev nD) (t : Fin cfg0.N) : (d0 m c).after 2 t = blkScale0 (K0.iblk (Ve0 m) c 0 t) := by
  rw [K0.after0_2]
  unfold K0.outsAt0
  frame_out
  rfl

theorem emb0 (t : Fin cfg0.N) (y0 : Fin 256) (y1 : Fin 32) (y2 d : Fin 64) :
    (win0_0.blk t).view.emb (ix3 y0 y1 d) = ix3 ((win0_1.blk t).view.emb (ix3 y0 y1 y2) 0) ((win0_1.blk t).view.emb (ix3 y0 y1 y2) 1) d := by
  funext a
  fin_cases a
  · rfl
  · rfl
  · apply Fin.ext
    show 0 * 64 + 1 * d.val = d.val
    omega

theorem emb0' (t : Fin cfg0.N) (y0 : Fin 256) (y1 : Fin 32) (d : Fin 64) :
    (win0_0.blk t).view.emb (ix3 y0 y1 d) = ix3 ((win0_2.blk t).view.emb (ix2 y0 y1) 0) ((win0_2.blk t).view.emb (ix2 y0 y1) 1) d := by
  funext a
  fin_cases a
  · rfl
  · rfl
  · apply Fin.ext
    show 0 * 64 + 1 * d.val = d.val
    omega

theorem codesArr0 (c : Dev nD) : (d0 m c).arrAt 1 cfg0.N = rowCodes (Ve0 m c main_v0) := by
  have h (t : Fin cfg0.N) (y0 : Fin 256) (y1 : Fin 32) (y2 : Fin 64) : blkCodes0 (K0.iblk (Ve0 m) c 0 t) (ix3 y0 y1 y2)
      = rowCodes (Ve0 m c main_v0) ((win0_1.blk t).view.emb (ix3 y0 y1 y2)) := by
    have es : (fun d => K0.iblk (Ve0 m) c 0 t (ix3 y0 y1 d))
        = fun d => (Ve0 m) c main_v0 (ix3 ((win0_1.blk t).view.emb (ix3 y0 y1 y2) 0) ((win0_1.blk t).view.emb (ix3 y0 y1 y2) 1) d) :=
      funext fun d => congrArg ((Ve0 m) c main_v0) (emb0 t y0 y1 y2 d)
    have e1 : K0.iblk (Ve0 m) c 0 t (ix3 y0 y1 y2) = (Ve0 m) c main_v0 ((win0_1.blk t).view.emb (ix3 y0 y1 y2)) := rfl
    unfold rowCodes
    rw [codes0, es, e1]
  refine Pipeline.Dat.arrAt_eq_of_covers _ 1 _ (by decide +kernel) fun t hf y => ?_
  blk_simp
  rw [after0_1']
  have hy := eq_ix3 (n0 := 256) (n1 := 32) (n2 := 64) y
  exact (congrArg (blkCodes0 (K0.iblk (Ve0 m) c 0 t)) hy).trans ((h t _ _ _).trans (congrArg (fun y => rowCodes (Ve0 m c main_v0) ((win0_1.blk t).view.emb y)) hy.symm))

theorem scaleArr0 (c : Dev nD) : (d0 m c).arrAt 2 cfg0.N = rowScale (Ve0 m c main_v0) := by
  have h (t : Fin cfg0.N) (y0 : Fin 256) (y1 : Fin 32) : blkScale0 (K0.iblk (Ve0 m) c 0 t) (ix2 y0 y1)
      = rowScale (Ve0 m c main_v0) ((win0_2.blk t).view.emb (ix2 y0 y1)) := by
    have es : (fun d => K0.iblk (Ve0 m) c 0 t (ix3 y0 y1 d))
        = fun d => (Ve0 m) c main_v0 (ix3 ((win0_2.blk t).view.emb (ix2 y0 y1) 0) ((win0_2.blk t).view.emb (ix2 y0 y1) 1) d) :=
      funext fun d => congrArg ((Ve0 m) c main_v0) (emb0' t y0 y1 d)
    unfold rowScale
    rw [scale0, es]
  refine Pipeline.Dat.arrAt_eq_of_covers _ 2 _ (by decide +kernel) fun t hf y => ?_
  blk_simp
  rw [after0_2']
  have hy := eq_ix2 (n0 := 256) (n1 := 32) y
  exact (congrArg (blkScale0 (K0.iblk (Ve0 m) c 0 t)) hy).trans ((h t _ _).trans (congrArg (fun y => rowScale (Ve0 m c main_v0) ((win0_2.blk t).view.emb y)) hy.symm))

/-! ## Call 1 -/

theorem after1_1' (c : Dev nD) (t : Fin cfg1.N) : (d1 m (outs m) c).after 1 t = blkCodes1 (K1.iblk (Ve1 m (outs m)) c 0 t) := by
  rw [K1.after1_1]
  unfold K1.outsAt1
  frame_out
  rfl

theorem after1_2' (c : Dev nD) (t : Fin cfg1.N) : (d1 m (outs m) c).after 2 t = blkScale1 (K1.iblk (Ve1 m (outs m)) c 0 t) := by
  rw [K1.after1_2]
  unfold K1.outsAt1
  frame_out
  rfl

theorem emb1 (t : Fin cfg1.N) (y0 : Fin 256) (y1 : Fin 4) (y2 d : Fin 64) :
    (win1_0.blk t).view.emb (ix3 y0 y1 d) = ix3 ((win1_1.blk t).view.emb (ix3 y0 y1 y2) 0) ((win1_1.blk t).view.emb (ix3 y0 y1 y2) 1) d := by
  funext a
  fin_cases a
  · rfl
  · rfl
  · apply Fin.ext
    show 0 * 64 + 1 * d.val = d.val
    omega

theorem emb1' (t : Fin cfg1.N) (y0 : Fin 256) (y1 : Fin 4) (d : Fin 64) :
    (win1_0.blk t).view.emb (ix3 y0 y1 d) = ix3 ((win1_2.blk t).view.emb (ix2 y0 y1) 0) ((win1_2.blk t).view.emb (ix2 y0 y1) 1) d := by
  funext a
  fin_cases a
  · rfl
  · rfl
  · apply Fin.ext
    show 0 * 64 + 1 * d.val = d.val
    omega

theorem codesArr1 (c : Dev nD) : (d1 m (outs m) c).arrAt 1 cfg1.N = rowCodes (Ve1 m (outs m) c main_v2) := by
  have h (t : Fin cfg1.N) (y0 : Fin 256) (y1 : Fin 4) (y2 : Fin 64) : blkCodes1 (K1.iblk (Ve1 m (outs m)) c 0 t) (ix3 y0 y1 y2)
      = rowCodes (Ve1 m (outs m) c main_v2) ((win1_1.blk t).view.emb (ix3 y0 y1 y2)) := by
    have es : (fun d => K1.iblk (Ve1 m (outs m)) c 0 t (ix3 y0 y1 d))
        = fun d => (Ve1 m (outs m)) c main_v2 (ix3 ((win1_1.blk t).view.emb (ix3 y0 y1 y2) 0) ((win1_1.blk t).view.emb (ix3 y0 y1 y2) 1) d) :=
      funext fun d => congrArg ((Ve1 m (outs m)) c main_v2) (emb1 t y0 y1 y2 d)
    have e1 : K1.iblk (Ve1 m (outs m)) c 0 t (ix3 y0 y1 y2) = (Ve1 m (outs m)) c main_v2 ((win1_1.blk t).view.emb (ix3 y0 y1 y2)) := rfl
    unfold rowCodes
    rw [codes1, es, e1]
  refine Pipeline.Dat.arrAt_eq_of_covers _ 1 _ (by decide +kernel) fun t hf y => ?_
  blk_simp
  rw [after1_1']
  have hy := eq_ix3 (n0 := 256) (n1 := 4) (n2 := 64) y
  exact (congrArg (blkCodes1 (K1.iblk (Ve1 m (outs m)) c 0 t)) hy).trans ((h t _ _ _).trans (congrArg (fun y => rowCodes (Ve1 m (outs m) c main_v2) ((win1_1.blk t).view.emb y)) hy.symm))

theorem scaleArr1 (c : Dev nD) : (d1 m (outs m) c).arrAt 2 cfg1.N = rowScale (Ve1 m (outs m) c main_v2) := by
  have h (t : Fin cfg1.N) (y0 : Fin 256) (y1 : Fin 4) : blkScale1 (K1.iblk (Ve1 m (outs m)) c 0 t) (ix2 y0 y1)
      = rowScale (Ve1 m (outs m) c main_v2) ((win1_2.blk t).view.emb (ix2 y0 y1)) := by
    have es : (fun d => K1.iblk (Ve1 m (outs m)) c 0 t (ix3 y0 y1 d))
        = fun d => (Ve1 m (outs m)) c main_v2 (ix3 ((win1_2.blk t).view.emb (ix2 y0 y1) 0) ((win1_2.blk t).view.emb (ix2 y0 y1) 1) d) :=
      funext fun d => congrArg ((Ve1 m (outs m)) c main_v2) (emb1' t y0 y1 d)
    unfold rowScale
    rw [scale1, es]
  refine Pipeline.Dat.arrAt_eq_of_covers _ 2 _ (by decide +kernel) fun t hf y => ?_
  blk_simp
  rw [after1_2']
  have hy := eq_ix2 (n0 := 256) (n1 := 4) y
  exact (congrArg (blkScale1 (K1.iblk (Ve1 m (outs m)) c 0 t)) hy).trans ((h t _ _).trans (congrArg (fun y => rowScale (Ve1 m (outs m) c main_v2) ((win1_2.blk t).view.emb y)) hy.symm))

/-! ## Call 2 -/

theorem after2_1' (c : Dev nD) (t : Fin cfg2.N) : (d2 m (outs m) c).after 1 t = blkCodes2 (K2.iblk (Ve2 m (outs m)) c 0 t) := by
  rw [K2.after2_1]
  unfold K2.outsAt2
  frame_out
  rfl

theorem after2_2' (c : Dev nD) (t : Fin cfg2.N) : (d2 m (outs m) c).after 2 t = blkScale2 (K2.iblk (Ve2 m (outs m)) c 0 t) := by
  rw [K2.after2_2]
  unfold K2.outsAt2
  frame_out
  rfl

theorem emb2 (t : Fin cfg2.N) (y0 : Fin 256) (y1 : Fin 4) (y2 d : Fin 64) :
    (win2_0.blk t).view.emb (ix3 y0 y1 d) = ix3 ((win2_1.blk t).view.emb (ix3 y0 y1 y2) 0) ((win2_1.blk t).view.emb (ix3 y0 y1 y2) 1) d := by
  funext a
  fin_cases a
  · rfl
  · rfl
  · apply Fin.ext
    show 0 * 64 + 1 * d.val = d.val
    omega

theorem emb2' (t : Fin cfg2.N) (y0 : Fin 256) (y1 : Fin 4) (d : Fin 64) :
    (win2_0.blk t).view.emb (ix3 y0 y1 d) = ix3 ((win2_2.blk t).view.emb (ix2 y0 y1) 0) ((win2_2.blk t).view.emb (ix2 y0 y1) 1) d := by
  funext a
  fin_cases a
  · rfl
  · rfl
  · apply Fin.ext
    show 0 * 64 + 1 * d.val = d.val
    omega

theorem codesArr2 (c : Dev nD) : (d2 m (outs m) c).arrAt 1 cfg2.N = rowCodes (Ve2 m (outs m) c main_v4) := by
  have h (t : Fin cfg2.N) (y0 : Fin 256) (y1 : Fin 4) (y2 : Fin 64) : blkCodes2 (K2.iblk (Ve2 m (outs m)) c 0 t) (ix3 y0 y1 y2)
      = rowCodes (Ve2 m (outs m) c main_v4) ((win2_1.blk t).view.emb (ix3 y0 y1 y2)) := by
    have es : (fun d => K2.iblk (Ve2 m (outs m)) c 0 t (ix3 y0 y1 d))
        = fun d => (Ve2 m (outs m)) c main_v4 (ix3 ((win2_1.blk t).view.emb (ix3 y0 y1 y2) 0) ((win2_1.blk t).view.emb (ix3 y0 y1 y2) 1) d) :=
      funext fun d => congrArg ((Ve2 m (outs m)) c main_v4) (emb2 t y0 y1 y2 d)
    have e1 : K2.iblk (Ve2 m (outs m)) c 0 t (ix3 y0 y1 y2) = (Ve2 m (outs m)) c main_v4 ((win2_1.blk t).view.emb (ix3 y0 y1 y2)) := rfl
    unfold rowCodes
    rw [codes2, es, e1]
  refine Pipeline.Dat.arrAt_eq_of_covers _ 1 _ (by decide +kernel) fun t hf y => ?_
  blk_simp
  rw [after2_1']
  have hy := eq_ix3 (n0 := 256) (n1 := 4) (n2 := 64) y
  exact (congrArg (blkCodes2 (K2.iblk (Ve2 m (outs m)) c 0 t)) hy).trans ((h t _ _ _).trans (congrArg (fun y => rowCodes (Ve2 m (outs m) c main_v4) ((win2_1.blk t).view.emb y)) hy.symm))

theorem scaleArr2 (c : Dev nD) : (d2 m (outs m) c).arrAt 2 cfg2.N = rowScale (Ve2 m (outs m) c main_v4) := by
  have h (t : Fin cfg2.N) (y0 : Fin 256) (y1 : Fin 4) : blkScale2 (K2.iblk (Ve2 m (outs m)) c 0 t) (ix2 y0 y1)
      = rowScale (Ve2 m (outs m) c main_v4) ((win2_2.blk t).view.emb (ix2 y0 y1)) := by
    have es : (fun d => K2.iblk (Ve2 m (outs m)) c 0 t (ix3 y0 y1 d))
        = fun d => (Ve2 m (outs m)) c main_v4 (ix3 ((win2_2.blk t).view.emb (ix2 y0 y1) 0) ((win2_2.blk t).view.emb (ix2 y0 y1) 1) d) :=
      funext fun d => congrArg ((Ve2 m (outs m)) c main_v4) (emb2' t y0 y1 d)
    unfold rowScale
    rw [scale2, es]
  refine Pipeline.Dat.arrAt_eq_of_covers _ 2 _ (by decide +kernel) fun t hf y => ?_
  blk_simp
  rw [after2_2']
  have hy := eq_ix2 (n0 := 256) (n1 := 4) y
  exact (congrArg (blkScale2 (K2.iblk (Ve2 m (outs m)) c 0 t)) hy).trans ((h t _ _).trans (congrArg (fun y => rowScale (Ve2 m (outs m) c main_v4) ((win2_2.blk t).view.emb y)) hy.symm))

end Cert.Value

end
-- ==== Proof.Value.KLayout.lean ====
/- The kernel's host layout code, read at an index: where each element of an operand of the attention call comes from. -/
module

public import proofs.«01_k».proof.Proof.Gen.KernelIdeal.Skeleton
public import Idealize.ShloMosaic.Lib.ValueIdxCore
public import Idealize.ShloMosaic.Lib.Pipeline.Value
public import Idealize.ShloMosaic.Lib.KernelVsHost

@[expose] public section

noncomputable section

namespace Cert.Value

open Idealize Idealize.ShloMosaic Idealize.ShloMosaic.ValueIdx
open Cert.KernelIdeal Cert.KernelIdeal.Gen

/-- A token of the batch, counted over the whole batch. -/
def tok (b : Fin 4) (s : Fin 8192) : Fin 32768 := ⟨b.val * 8192 + s.val, by omega⟩
/-- A query head, counted over all groups. -/
def head (h : Fin 4) (g : Fin 8) : Fin 32 := ⟨h.val * 8 + g.val, by omega⟩
/-- A query row of a key head: token and place in the group. -/
def qpos (s : Fin 8192) (g : Fin 8) : Fin 65536 := ⟨s.val * 8 + g.val, by omega⟩
/-- A lane of a block of 32 tokens: token of the block and place in the group. -/
def lane (a : Fin 32) (g : Fin 8) : Fin 256 := ⟨a.val * 8 + g.val, by omega⟩
/-- A token: its block and its place in the block. -/
def qtok (i : Fin 256) (a : Fin 32) : Fin 8192 := ⟨i.val * 32 + a.val, by omega⟩
/-- A key's place behind the 1024 rows in front. -/
def kpos (s : Fin 8192) : Fin 9216 := ⟨1024 + s.val, by omega⟩
/-- A column of an argument: head and place in the head. -/
def col4 (h : Fin 4) (d : Fin 64) : Fin 256 := ⟨h.val * 64 + d.val, by omega⟩
def col32 (h : Fin 32) (d : Fin 64) : Fin 2048 := ⟨h.val * 64 + d.val, by omega⟩

variable {α : Type}

/-- The queries as rows. -/
theorem rows_q (x : S4x8192x2048.Idx → α) (b : Fin 4) (s : Fin 8192) (h : Fin 32) (d : Fin 64) :
    shapeCast S32768x32x64 x shapeCasts_S4x8192x2048_S32768x32x64 (ix3 (tok b s) h d) = x (ix3 b s (col32 h d)) :=
  shapeCast_apply _ _ _ _ (by
    rw [Shape.rowMajor_val_three, Shape.rowMajor_val_three]
    show (b.val * 8192 + s.val) * 2048 + (h.val * 64 + d.val) = ((b.val * 8192 + s.val) * 32 + h.val) * 64 + d.val
    omega)

/-- The keys or the values as rows. -/
theorem rows_k (x : S4x8192x256.Idx → α) (b : Fin 4) (s : Fin 8192) (h : Fin 4) (d : Fin 64) :
    shapeCast S32768x4x64 x shapeCasts_S4x8192x256_S32768x4x64 (ix3 (tok b s) h d) = x (ix3 b s (col4 h d)) :=
  shapeCast_apply _ _ _ _ (by
    rw [Shape.rowMajor_val_three, Shape.rowMajor_val_three]
    show (b.val * 8192 + s.val) * 256 + (h.val * 64 + d.val) = ((b.val * 8192 + s.val) * 4 + h.val) * 64 + d.val
    omega)

/-- The query codes in the call's order. -/
theorem lay_q (x : S32768x32x64.Idx → α) (b h : Fin 4) (s : Fin 8192) (g : Fin 8) (d : Fin 64) :
    shapeCast S4x4x65536x64 (transpose S4x4x8192x8x64 [0, 2, 1, 3, 4] (shapeCast S4x8192x4x8x64 x shapeCasts_S32768x32x64_S4x8192x4x8x64)
      transposes_S4x8192x4x8x64_S4x4x8192x8x64_0_2_1_3_4) shapeCasts_S4x4x8192x8x64_S4x4x65536x64 (ix4 b h (qpos s g) d)
      = x (ix3 (tok b s) (head h g) d) := by
  refine (shapeCast_apply _ _ _ (ix5 b h s g d) (by
    rw [Shape.rowMajor_val_five, Shape.rowMajor_val_four]
    show (((b.val * 4 + h.val) * 8192 + s.val) * 8 + g.val) * 64 + d.val = ((b.val * 4 + h.val) * 65536 + (s.val * 8 + g.val)) * 64 + d.val
    omega)).trans ?_
  refine (transpose_apply _ _ _ _ (ix5 b s h g d) (fun a => by fin_cases a <;> rfl)).trans ?_
  refine shapeCast_apply _ _ _ _ (by
    rw [Shape.rowMajor_val_five, Shape.rowMajor_val_three]
    show ((b.val * 8192 + s.val) * 32 + (h.val * 8 + g.val)) * 64 + d.val = (((b.val * 8192 + s.val) * 4 + h.val) * 8 + g.val) * 64 + d.val
    omega)

/-- The query scales in the call's order. -/
theorem lay_cq (x : S32768x32.Idx → α) (b h : Fin 4) (i : Fin 256) (a : Fin 32) (g : Fin 8) (z : Fin 1) :
    shapeCast S4x4x256x1x256 (transpose S4x4x256x32x8 [0, 3, 1, 2, 4] (shapeCast S4x256x32x4x8 x shapeCasts_S32768x32_S4x256x32x4x8)
      transposes_S4x256x32x4x8_S4x4x256x32x8_0_3_1_2_4) shapeCasts_S4x4x256x32x8_S4x4x256x1x256 (ix5 b h i z (lane a g))
      = x (ix2 (tok b (qtok i a)) (head h g)) := by
  refine (shapeCast_apply _ _ _ (ix5 b h i a g) (by
    rw [Shape.rowMajor_val_five, Shape.rowMajor_val_five]
    show (((b.val * 4 + h.val) * 256 + i.val) * 32 + a.val) * 8 + g.val = (((b.val * 4 + h.val) * 256 + i.val) * 1 + z.val) * 256 + (a.val * 8 + g.val)
    omega)).trans ?_
  refine (transpose_apply _ _ _ _ (ix5 b i a h g) (fun a => by fin_cases a <;> rfl)).trans ?_
  refine shapeCast_apply _ _ _ _ (by
    rw [Shape.rowMajor_val_five, Shape.rowMajor_val_two]
    show (b.val * 8192 + (i.val * 32 + a.val)) * 32 + (h.val * 8 + g.val) = (((b.val * 256 + i.val) * 32 + a.val) * 4 + h.val) * 8 + g.val
    omega)

/-- The codes of the keys or the values, behind the rows in front. -/
theorem lay_k (z : S4x4x1024x64.Idx → α) (x : S32768x4x64.Idx → α) (b h : Fin 4) (s : Fin 8192) (d : Fin 64) :
    concatenate S4x4x9216x64 2 [⟨S4x4x1024x64, z⟩, ⟨S4x4x8192x64, transpose S4x4x8192x64 [0, 2, 1, 3] (shapeCast S4x8192x4x64 x shapeCasts_S32768x4x64_S4x8192x4x64)
      transposes_S4x8192x4x64_S4x4x8192x64_0_2_1_3⟩] concatenates_S4x4x1024x64_S4x4x8192x64_S4x4x9216x64_d2 (ix4 b h (kpos s) d)
      = x (ix3 (tok b s) h d) := by
  refine (concatenate_pair_apply_right (t := S4x4x9216x64) (s₁ := S4x4x1024x64) (s₂ := S4x4x8192x64) 2 _ _ _ _ rfl rfl (ix4 b h s d) (fun a ha => ?_) ?_).trans ?_
  · fin_cases a
    · rfl
    · rfl
    · exact absurd rfl ha
    · rfl
  · show s.val + 1024 = 1024 + s.val
    omega
  refine (transpose_apply _ _ _ _ (ix4 b s h d) (fun a => by fin_cases a <;> rfl)).trans ?_
  refine shapeCast_apply _ _ _ _ (by
    rw [Shape.rowMajor_val_four, Shape.rowMajor_val_three]
    show ((b.val * 8192 + s.val) * 4 + h.val) * 64 + d.val = ((b.val * 8192 + s.val) * 4 + h.val) * 64 + d.val
    rfl)

/-- The scales of the keys or the values, behind the rows in front. -/
theorem lay_ks (o : S_.Idx → α) (x : S32768x4.Idx → α) (b h : Fin 4) (s : Fin 8192) (l : Fin 128) :
    pad S4x4x9216x128 ![0, 0, 1024, 0] ![0, 0, 0, 0] ![0, 0, 0, 0]
      (broadcastInDim S4x4x8192x128 ![0, 1, 2, 3] bcast_S4x4x8192x1_S4x4x8192x128_0_1_2_3 (transpose S4x4x8192x1 [0, 2, 1, 3]
        (shapeCast S4x8192x4x1 x shapeCasts_S32768x4_S4x8192x4x1) transposes_S4x8192x4x1_S4x4x8192x1_0_2_1_3)) o
      pads_S4x4x8192x128_S4x4x9216x128_000_000_102400_000 h_S_ (ix4 b h (kpos s) l) = x (ix2 (tok b s) h) := by
  refine (pad_apply_of_inside _ _ _ _ _ _ _ _ (ix4 b h s l) (fun a => ?_)).trans ?_
  · fin_cases a
    · show b.val = 0 + b.val * (0 + 1); omega
    · show h.val = 0 + h.val * (0 + 1); omega
    · show 1024 + s.val = 1024 + s.val * (0 + 1); omega
    · show l.val = 0 + l.val * (0 + 1); omega
  refine (broadcastInDim_apply _ _ _ _ (ix4 b h s 0) (fun a => by fin_cases a <;> rfl)).trans ?_
  refine (transpose_apply _ _ _ _ (ix4 b s h 0) (fun a => by fin_cases a <;> rfl)).trans ?_
  refine shapeCast_apply _ _ _ _ (by
    rw [Shape.rowMajor_val_four, Shape.rowMajor_val_two]
    show (b.val * 8192 + s.val) * 4 + h.val = ((b.val * 8192 + s.val) * 4 + h.val) * 1 + 0
    omega)

/-- The result's layout. -/
theorem lay_out (x : S4x4x65536x64.Idx → α) (b h : Fin 4) (s : Fin 8192) (g : Fin 8) (d : Fin 64) :
    shapeCast S4x8192x2048 (transpose S4x8192x4x512 [0, 2, 1, 3] (shapeCast S4x4x8192x512 x shapeCasts_S4x4x65536x64_S4x4x8192x512)
      transposes_S4x4x8192x512_S4x8192x4x512_0_2_1_3) shapeCasts_S4x8192x4x512_S4x8192x2048 (ix3 b s (col32 (head h g) d))
      = x (ix4 b h (qpos s g) d) := by
  have hc : g.val * 64 + d.val < 512 := by omega
  refine (shapeCast_apply _ _ _ (ix4 b s h (⟨g.val * 64 + d.val, hc⟩ : Fin 512)) (by
    rw [Shape.rowMajor_val_four, Shape.rowMajor_val_three]
    show ((b.val * 8192 + s.val) * 4 + h.val) * 512 + (g.val * 64 + d.val) = (b.val * 8192 + s.val) * 2048 + ((h.val * 8 + g.val) * 64 + d.val)
    omega)).trans ?_
  refine (transpose_apply _ _ _ _ (ix4 b h s (⟨g.val * 64 + d.val, hc⟩ : Fin 512)) (fun a => by fin_cases a <;> rfl)).trans ?_
  refine shapeCast_apply _ _ _ _ (by
    rw [Shape.rowMajor_val_four, Shape.rowMajor_val_four]
    show ((b.val * 4 + h.val) * 65536 + (s.val * 8 + g.val)) * 64 + d.val = ((b.val * 4 + h.val) * 8192 + s.val) * 512 + (g.val * 64 + d.val)
    omega)

end Cert.Value

end
-- ==== Proof.Value.RefBase.lean ====
/- The reference's codes and scales of its three arguments, read at an index. -/
module

public import proofs.«01_k».proof.Proof.Value.QuantRow
public import proofs.«01_k».proof.Proof.Gen.ReferenceIdeal.Read

@[expose] public section

noncomputable section

namespace Cert.Value.Ref

open Idealize Idealize.ShloMosaic Idealize.ShloMosaic.ValueIdx
open Cert.ReferenceIdeal Cert.ReferenceIdeal.Gen Cert.ReferenceIdeal.Read Cert.Value

/-- The element a row's largest, sum or least is taken over: the row's index with one more coordinate. -/
theorem host_max {s t : Shape} {a : Fin s.rank} (x : s.Idx → EReal) (b : BitVec 32) (hb : Ideal.ofBits .f32 b = ⊥)
    (h' : s.ReducesTo [a] t) (h : s.Reduces [a] t) (hu : 0 < S_.numel) (j : t.Idx) :
    Host.reduce (FloatOps.maximumf (F := Ideal) (φ := .f32)) x (constant (F := Ideal) S_ .f32 b) h' hu j
      = (Finset.univ : Finset (Fin (s.size a))).fold max ⊥ (fun k => x (h.lift j k)) := by
  refine (Host.reduce_eq_fold_single (max : EReal → EReal → EReal) x _ h' h hu j).trans ?_
  rw [← hb]; rfl

theorem host_min {s t : Shape} {a : Fin s.rank} (x : s.Idx → EReal) (b : BitVec 32) (hb : Ideal.ofBits .f32 b = ⊤)
    (h' : s.ReducesTo [a] t) (h : s.Reduces [a] t) (hu : 0 < S_.numel) (j : t.Idx) :
    Host.reduce (FloatOps.minimumf (F := Ideal) (φ := .f32)) x (constant (F := Ideal) S_ .f32 b) h' hu j
      = (Finset.univ : Finset (Fin (s.size a))).fold min ⊤ (fun k => x (h.lift j k)) := by
  refine (Host.reduce_eq_fold_single (min : EReal → EReal → EReal) x _ h' h hu j).trans ?_
  rw [← hb]; rfl

/-- A choice by a comparison. -/
theorem select_gt (x y a b : EReal) : Scalar.select (Ideal.cmp .ogt x y) a b = if y < x then a else b := by
  unfold Scalar.select Ideal.cmp
  by_cases h : y < x <;> simp [h]

theorem select_lt (x y a b : EReal) : Scalar.select (Ideal.cmp .olt x y) a b = if x < y then a else b := by
  unfold Scalar.select Ideal.cmp
  by_cases h : x < y <;> simp [h]

/-- The table of powers of two. -/
theorem pow2_at (i : S253.Idx) : val_main_v11 (F := Ideal) i = pw (2 + (i 0).val) := by
  have : (2#32 + BitVec.ofNat 32 (i 0).val) = BitVec.ofNat 32 (2 + (i 0).val) := by rw [BitVec.ofNat_add]
  unfold pw
  rw [← this]; rfl

theorem red5 : S4x8192x4x8x64.Reduces [4] S4x8192x4x8 := by decide
theorem red5p : S4x8192x4x8x253.Reduces [4] S4x8192x4x8 := by decide
theorem red4 : S4x8192x4x64.Reduces [3] S4x8192x4 := by decide
theorem red4p : S4x8192x4x253.Reduces [3] S4x8192x4 := by decide

theorem lift5 (b : Fin 4) (s : Fin 8192) (h : Fin 4) (g : Fin 8) (d : Fin 64) : red5.lift (ix4 b s h g) d = ix5 b s h g d := by
  funext a; fin_cases a <;> rfl
theorem lift4 (b : Fin 4) (s : Fin 8192) (h : Fin 4) (d : Fin 64) : red4.lift (ix3 b s h) d = ix4 b s h d := by
  funext a; fin_cases a <;> rfl

end Cert.Value.Ref

end
-- ==== Proof.Value.RefQ.lean ====
/- The reference's codes and scales of its three arguments, read at an index. -/
module

public import proofs.«01_k».proof.Proof.Value.RefBase

@[expose] public section

noncomputable section

namespace Cert.Value.Ref

open Idealize Idealize.ShloMosaic Idealize.ShloMosaic.ValueIdx
open Cert.ReferenceIdeal Cert.ReferenceIdeal.Gen Cert.ReferenceIdeal.Read Cert.Value

attribute [local irreducible] Ideal.ofBits Finset.fold Ideal.div pw

variable (x0 : (⟨S4x8192x2048, .bf16⟩ : BufTy).Contents (Elt Ideal)) (x1 : (⟨S4x8192x256, .bf16⟩ : BufTy).Contents (Elt Ideal))

/-- The reference's row of the queries. -/
def qrow (b : Fin 4) (s : Fin 8192) (h : Fin 4) (g : Fin 8) : Fin 64 → EReal := fun d => val_main_v1 (F := Ideal) x0 (ix5 b s h g d)

theorem top_q (b : Fin 4) (s : Fin 8192) (h : Fin 4) (g : Fin 8) : val_main_v5 (F := Ideal) x0 (ix4 b s h g) = qtop (qrow x0 b s h g) := by
  have es (d : Fin 64) : val_main_v2 (F := Ideal) x0 (red5.lift (ix4 b s h g) d) = max (qrow x0 b s h g d) (-(qrow x0 b s h g d)) := by
    rw [lift5, val_main_v2_apply]; rfl
  have e : val_main_v3 (F := Ideal) x0 (ix4 b s h g) = (Finset.univ : Finset (Fin 64)).fold max ⊥ (fun d => max (qrow x0 b s h g d) (-(qrow x0 b s h g d))) := by
    unfold val_main_v3 val_main_cst
    exact (host_max _ _ cninf _ red5 _ (ix4 b s h g)).trans (Finset.fold_congr fun d _ => es d)
  have e2 : val_main_v4 (F := Ideal) (ix4 b s h g) = Ideal.ofBits .f32 0x3B124925#32 := by
    rw [val_main_v4_apply]; rfl
  rw [val_main_v5_apply, e, e2]; rfl

theorem scale_q (i : S4x8192x4x8.Idx) : val_main_v21 (F := Ideal) x0 i = rscale (val_main_v5 (F := Ideal) x0 i) := by
  have e1 : val_main_v19 (F := Ideal) i = pw 1 := by rw [val_main_v19_apply, ← ctiny]; rfl
  have e2 : val_main_call1_v1 (F := Ideal) i = 1 := by rw [val_main_call1_v1_apply, ← c1]; rfl
  have e3 (n : Fin 253) : idx_main_v12 (idx_main_v15 (red5p.lift i n)) = i := by funext a; fin_cases a <;> rfl
  have e4 (j) : val_main_call0_v2 (F := Ideal) j = ⊤ := by rw [val_main_call0_v2_apply, ← cinf]; rfl
  have e5 (j) : val_main_v11 (F := Ideal) j = pw (2 + (j 0).val) := pow2_at j
  have es (n : Fin 253) : val_main_v17 (F := Ideal) x0 (red5p.lift i n) = if val_main_v5 (F := Ideal) x0 i < pw (2 + n.val) then pw (2 + n.val) else ⊤ := by
    rw [val_main_v17_apply, val_main_v16_apply, val_main_v14_apply, val_main_v13_apply, val_main_v15_apply, val_main_v12_apply, val_main_call0_v1_apply, e3, e4, e5]
    exact select_gt _ _ _ _
  have em : val_main_v18 (F := Ideal) x0 i = (Finset.univ : Finset (Fin 253)).fold min ⊤ (fun n => if val_main_v5 (F := Ideal) x0 i < pw (2 + n.val) then pw (2 + n.val) else ⊤) := by
    unfold val_main_v18 val_main_cst_3
    exact (host_min _ _ cinf _ red5p _ i).trans (Finset.fold_congr fun n _ => es n)
  rw [val_main_v21_apply, val_main_v20_apply, e1, e2, em]
  exact select_lt _ _ _ _

theorem code_q (b : Fin 4) (s : Fin 8192) (h : Fin 4) (g : Fin 8) (d : Fin 64) :
    val_main_v25 (F := Ideal) x0 (ix5 b s h g d) = clip (Ideal.div (qrow x0 b s h g d) (rscale (qtop (qrow x0 b s h g)))) := by
  have e1 : val_main_call2_v4 (F := Ideal) (ix5 b s h g d) = Ideal.ofBits .f32 0x43E00000#32 := by rw [val_main_call2_v4_apply]; rfl
  have e2 : val_main_call2_v1 (F := Ideal) (ix5 b s h g d) = Ideal.ofBits .f32 0xC3E00000#32 := by rw [val_main_call2_v1_apply]; rfl
  have e3 : idx_main_v22 (idx_main_v23 (ix5 b s h g d)) = ix4 b s h g := by funext a; fin_cases a <;> rfl
  rw [val_main_v25_apply, val_main_call2_v2_apply, val_main_v24_apply, val_main_v23_apply, val_main_v22_apply, e1, e2, e3, scale_q, top_q]; rfl

end Cert.Value.Ref

end
-- ==== Proof.Value.RefK.lean ====
/- The reference's codes and scales of its three arguments, read at an index. -/
module

public import proofs.«01_k».proof.Proof.Value.RefBase

@[expose] public section

noncomputable section

namespace Cert.Value.Ref

open Idealize Idealize.ShloMosaic Idealize.ShloMosaic.ValueIdx
open Cert.ReferenceIdeal Cert.ReferenceIdeal.Gen Cert.ReferenceIdeal.Read Cert.Value

attribute [local irreducible] Ideal.ofBits Finset.fold Ideal.div pw

variable (x0 : (⟨S4x8192x2048, .bf16⟩ : BufTy).Contents (Elt Ideal)) (x1 : (⟨S4x8192x256, .bf16⟩ : BufTy).Contents (Elt Ideal))

/-- The reference's row of the keys, and of the values. -/
def krow_ (b : Fin 4) (s : Fin 8192) (h : Fin 4) : Fin 64 → EReal := fun d => val_main_v27 (F := Ideal) x1 (ix4 b s h d)

theorem top_k (b : Fin 4) (s : Fin 8192) (h : Fin 4) : val_main_v31 (F := Ideal) x1 (ix3 b s h) = qtop (krow_ x1 b s h) := by
  have es (d : Fin 64) : val_main_v28 (F := Ideal) x1 (red4.lift (ix3 b s h) d) = max (krow_ x1 b s h d) (-(krow_ x1 b s h d)) := by
    rw [lift4, val_main_v28_apply]; rfl
  have e : val_main_v29 (F := Ideal) x1 (ix3 b s h) = (Finset.univ : Finset (Fin 64)).fold max ⊥ (fun d => max (krow_ x1 b s h d) (-(krow_ x1 b s h d))) := by
    unfold val_main_v29 val_main_cst_8
    exact (host_max _ _ cninf _ red4 _ (ix3 b s h)).trans (Finset.fold_congr fun d _ => es d)
  have e2 : val_main_v30 (F := Ideal) (ix3 b s h) = Ideal.ofBits .f32 0x3B124925#32 := by
    rw [val_main_v30_apply]; rfl
  rw [val_main_v31_apply, e, e2]; rfl

theorem scale_k (i : S4x8192x4.Idx) : val_main_v47 (F := Ideal) x1 i = rscale (val_main_v31 (F := Ideal) x1 i) := by
  have e1 : val_main_v45 (F := Ideal) i = pw 1 := by rw [val_main_v45_apply, ← ctiny]; rfl
  have e2 : val_main_call4_v1 (F := Ideal) i = 1 := by rw [val_main_call4_v1_apply, ← c1]; rfl
  have e3 (n : Fin 253) : idx_main_v38 (idx_main_v41 (red4p.lift i n)) = i := by funext a; fin_cases a <;> rfl
  have e4 (j) : val_main_call3_v2 (F := Ideal) j = ⊤ := by rw [val_main_call3_v2_apply, ← cinf]; rfl
  have e5 (j) : val_main_v37 (F := Ideal) j = pw (2 + (j 0).val) := pow2_at j
  have es (n : Fin 253) : val_main_v43 (F := Ideal) x1 (red4p.lift i n) = if val_main_v31 (F := Ideal) x1 i < pw (2 + n.val) then pw (2 + n.val) else ⊤ := by
    rw [val_main_v43_apply, val_main_v42_apply, val_main_v40_apply, val_main_v39_apply, val_main_v41_apply, val_main_v38_apply, val_main_call3_v1_apply, e3, e4, e5]
    exact select_gt _ _ _ _
  have em : val_main_v44 (F := Ideal) x1 i = (Finset.univ : Finset (Fin 253)).fold min ⊤ (fun n => if val_main_v31 (F := Ideal) x1 i < pw (2 + n.val) then pw (2 + n.val) else ⊤) := by
    unfold val_main_v44 val_main_cst_13
    exact (host_min _ _ cinf _ red4p _ i).trans (Finset.fold_congr fun n _ => es n)
  rw [val_main_v47_apply, val_main_v46_apply, e1, e2, em]
  exact select_lt _ _ _ _

theorem code_k (b : Fin 4) (s : Fin 8192) (h : Fin 4) (d : Fin 64) :
    val_main_v51 (F := Ideal) x1 (ix4 b s h d) = clip (Ideal.div (krow_ x1 b s h d) (rscale (qtop (krow_ x1 b s h)))) := by
  have e1 : val_main_call5_v4 (F := Ideal) (ix4 b s h d) = Ideal.ofBits .f32 0x43E00000#32 := by rw [val_main_call5_v4_apply]; rfl
  have e2 : val_main_call5_v1 (F := Ideal) (ix4 b s h d) = Ideal.ofBits .f32 0xC3E00000#32 := by rw [val_main_call5_v1_apply]; rfl
  have e3 : idx_main_v48 (idx_main_v49 (ix4 b s h d)) = ix3 b s h := by funext a; fin_cases a <;> rfl
  rw [val_main_v51_apply, val_main_call5_v2_apply, val_main_v50_apply, val_main_v49_apply, val_main_v48_apply, e1, e2, e3, scale_k, top_k]; rfl

/-- The values are quantised as the keys are. -/
theorem scale_v : val_main_v73 (F := Ideal) x1 = val_main_v47 (F := Ideal) x1 := rfl

theorem code_v : val_main_v77 (F := Ideal) x1 = val_main_v51 (F := Ideal) x1 := rfl

end Cert.Value.Ref

end
-- ==== Proof.Value.KHost.lean ====
/- The kernel's host code: what the attention call's operands hold. -/
module

public import proofs.«01_k».proof.Proof.Value.QuantArr
public import proofs.«01_k».proof.Proof.Value.KLayout
public import proofs.«01_k».proof.Proof.Value.RefQ
public import proofs.«01_k».proof.Proof.Value.RefK
public import proofs.«01_k».proof.Proof.KernelIdeal.Run
public import Idealize.ShloMosaic.Lib.StableHlo.RunRead

@[expose] public section

noncomputable section

namespace Cert.Value

open Idealize Idealize.ShloMosaic.TcCoe Idealize.ShloMosaic.ValueIdx
open Idealize.ShloMosaic hiding ix1 ix2 ix3 ix4 ix5 eq_ix1 eq_ix2 eq_ix3 eq_ix4 eq_ix5
open Cert.KernelIdeal Cert.KernelIdeal.Gen Cert.KernelIdeal.Own Cert.KernelIdeal.Run
open Idealize.SL.Sem

variable (m : (ℓ : Loc nD τ sig) → Buf (Elt Ideal) ℓ) (o : Outs (F := Ideal)) (c : Dev nD)

theorem host_v0 : V1 m c (Proc.devRef .tc main_v0) = shapeCast S32768x32x64 (m ((c : Thread nD τ).loc main_arg0)) shapeCasts_S4x8192x2048_S32768x32x64 := by
  unfold V1 hostOps0
  after_reads_simp
  rfl

theorem host_v2 : V3 m o c (Proc.devRef .tc main_v2) = shapeCast S32768x4x64 (m ((c : Thread nD τ).loc main_arg1)) shapeCasts_S4x8192x256_S32768x4x64 := by
  have e : V2 m o c (Proc.devRef .tc main_arg1) = m ((c : Thread nD τ).loc main_arg1) := by
    rw [V2_of m o c main_arg1 (by decide), V1_of m c main_arg1 (by decide)]
  rw [← e]
  unfold V3 hostOps1
  after_reads_simp
  rfl

theorem host_v4 : V5 m o c (Proc.devRef .tc main_v4) = shapeCast S32768x4x64 (m ((c : Thread nD τ).loc main_arg2)) shapeCasts_S4x8192x256_S32768x4x64 := by
  have e : V4 m o c (Proc.devRef .tc main_arg2) = m ((c : Thread nD τ).loc main_arg2) := by
    rw [V4_of m o c main_arg2 (by decide), V3_of m o c main_arg2 (by decide), V2_of m o c main_arg2 (by decide), V1_of m c main_arg2 (by decide)]
  rw [← e]
  unfold V5 hostOps2
  after_reads_simp
  rfl

theorem at6_main_v1_0 : V6 m o c (Proc.devRef .tc main_v1_0) = o 2 main_v1_0 c := by
  rw [V6_of m o c main_v1_0 (by decide), V5_of m o c main_v1_0 (by decide), V4_of m o c main_v1_0 (by decide), V3_of m o c main_v1_0 (by decide)]
  unfold V2
  rw [Function.update_of_ne (StableHlo.devRef_ne_of_ne (by decide)), Function.update_self]

theorem at6_main_v1_1 : V6 m o c (Proc.devRef .tc main_v1_1) = o 2 main_v1_1 c := by
  rw [V6_of m o c main_v1_1 (by decide), V5_of m o c main_v1_1 (by decide), V4_of m o c main_v1_1 (by decide), V3_of m o c main_v1_1 (by decide)]
  unfold V2
  rw [Function.update_self]

theorem at8_main_v3_0 : V8 m o c (Proc.devRef .tc main_v3_0) = o 4 main_v3_0 c := by
  rw [V8_of m o c main_v3_0 (by decide), V7_of m o c main_v3_0 (by decide), V6_of m o c main_v3_0 (by decide), V5_of m o c main_v3_0 (by decide)]
  unfold V4
  rw [Function.update_of_ne (StableHlo.devRef_ne_of_ne (by decide)), Function.update_self]

theorem at8_main_v3_1 : V8 m o c (Proc.devRef .tc main_v3_1) = o 4 main_v3_1 c := by
  rw [V8_of m o c main_v3_1 (by decide), V7_of m o c main_v3_1 (by decide), V6_of m o c main_v3_1 (by decide), V5_of m o c main_v3_1 (by decide)]
  unfold V4
  rw [Function.update_self]

theorem at8_main_v5_0 : V8 m o c (Proc.devRef .tc main_v5_0) = o 6 main_v5_0 c := by
  rw [V8_of m o c main_v5_0 (by decide), V7_of m o c main_v5_0 (by decide)]
  unfold V6
  rw [Function.update_of_ne (StableHlo.devRef_ne_of_ne (by decide)), Function.update_self]

theorem at8_main_v5_1 : V8 m o c (Proc.devRef .tc main_v5_1) = o 6 main_v5_1 c := by
  rw [V8_of m o c main_v5_1 (by decide), V7_of m o c main_v5_1 (by decide)]
  unfold V6
  rw [Function.update_self]

theorem host_v8 : V15 m o c (Proc.devRef .tc main_v8) = shapeCast S4x4x65536x64 (transpose S4x4x8192x8x64 [0, 2, 1, 3, 4]
      (shapeCast S4x8192x4x8x64 (o 2 main_v1_0 c) shapeCasts_S32768x32x64_S4x8192x4x8x64)
      transposes_S4x8192x4x8x64_S4x4x8192x8x64_0_2_1_3_4) shapeCasts_S4x4x8192x8x64_S4x4x65536x64 := by
  rw [V15_of m o c main_v8 (by decide), V14_of m o c main_v8 (by decide), V13_of m o c main_v8 (by decide), V12_of m o c main_v8 (by decide), V11_of m o c main_v8 (by decide), V10_of m o c main_v8 (by decide), V9_of m o c main_v8 (by decide), V8_of m o c main_v8 (by decide)]
  rw [← at6_main_v1_0 m o c]
  unfold V7 hostOps3
  after_reads_simp
  rfl

theorem host_v11 : V15 m o c (Proc.devRef .tc main_v11) = shapeCast S4x4x256x1x256 (transpose S4x4x256x32x8 [0, 3, 1, 2, 4]
      (shapeCast S4x256x32x4x8 (o 2 main_v1_1 c) shapeCasts_S32768x32_S4x256x32x4x8)
      transposes_S4x256x32x4x8_S4x4x256x32x8_0_3_1_2_4) shapeCasts_S4x4x256x32x8_S4x4x256x1x256 := by
  rw [V15_of m o c main_v11 (by decide), V14_of m o c main_v11 (by decide), V13_of m o c main_v11 (by decide), V12_of m o c main_v11 (by decide), V11_of m o c main_v11 (by decide), V10_of m o c main_v11 (by decide), V9_of m o c main_v11 (by decide), V8_of m o c main_v11 (by decide)]
  rw [← at6_main_v1_1 m o c]
  unfold V7 hostOps3
  after_reads_simp
  rfl

theorem host_v15 : ∃ z : S4x4x1024x64.Idx → EReal, V15 m o c (Proc.devRef .tc main_v15) = concatenate S4x4x9216x64 2 [⟨S4x4x1024x64, z⟩,
      ⟨S4x4x8192x64, transpose S4x4x8192x64 [0, 2, 1, 3] (shapeCast S4x8192x4x64 (o 4 main_v3_0 c) shapeCasts_S32768x4x64_S4x8192x4x64)
      transposes_S4x8192x4x64_S4x4x8192x64_0_2_1_3⟩] concatenates_S4x4x1024x64_S4x4x8192x64_S4x4x9216x64_d2 := by
  rw [V15_of m o c main_v15 (by decide), V14_of m o c main_v15 (by decide), V13_of m o c main_v15 (by decide), V12_of m o c main_v15 (by decide), V11_of m o c main_v15 (by decide), V10_of m o c main_v15 (by decide)]
  rw [← at8_main_v3_0 m o c]
  unfold V9 hostOps4
  after_reads_simp
  exact ⟨_, rfl⟩

theorem host_v18 : ∃ z : S4x4x1024x64.Idx → EReal, V15 m o c (Proc.devRef .tc main_v18) = concatenate S4x4x9216x64 2 [⟨S4x4x1024x64, z⟩,
      ⟨S4x4x8192x64, transpose S4x4x8192x64 [0, 2, 1, 3] (shapeCast S4x8192x4x64 (o 6 main_v5_0 c) shapeCasts_S32768x4x64_S4x8192x4x64)
      transposes_S4x8192x4x64_S4x4x8192x64_0_2_1_3⟩] concatenates_S4x4x1024x64_S4x4x8192x64_S4x4x9216x64_d2 := by
  rw [V15_of m o c main_v18 (by decide), V14_of m o c main_v18 (by decide), V13_of m o c main_v18 (by decide), V12_of m o c main_v18 (by decide), V11_of m o c main_v18 (by decide), V10_of m o c main_v18 (by decide)]
  rw [← at8_main_v5_0 m o c]
  unfold V9 hostOps4
  after_reads_simp
  exact ⟨_, rfl⟩

theorem host_v22 : ∃ u : S_.Idx → EReal, V15 m o c (Proc.devRef .tc main_v22) = pad S4x4x9216x128 ![0, 0, 1024, 0] ![0, 0, 0, 0] ![0, 0, 0, 0]
      (broadcastInDim S4x4x8192x128 ![0, 1, 2, 3] bcast_S4x4x8192x1_S4x4x8192x128_0_1_2_3 (transpose S4x4x8192x1 [0, 2, 1, 3]
        (shapeCast S4x8192x4x1 (o 4 main_v3_1 c) shapeCasts_S32768x4_S4x8192x4x1) transposes_S4x8192x4x1_S4x4x8192x1_0_2_1_3)) u
      pads_S4x4x8192x128_S4x4x9216x128_000_000_102400_000 h_S_ := by
  rw [← at8_main_v3_1 m o c]
  unfold V15 hostOps4_6
  after_reads_simp
  exact ⟨_, rfl⟩

theorem host_v26 : ∃ u : S_.Idx → EReal, V15 m o c (Proc.devRef .tc main_v26) = pad S4x4x9216x128 ![0, 0, 1024, 0] ![0, 0, 0, 0] ![0, 0, 0, 0]
      (broadcastInDim S4x4x8192x128 ![0, 1, 2, 3] bcast_S4x4x8192x1_S4x4x8192x128_0_1_2_3 (transpose S4x4x8192x1 [0, 2, 1, 3]
        (shapeCast S4x8192x4x1 (o 6 main_v5_1 c) shapeCasts_S32768x4_S4x8192x4x1) transposes_S4x8192x4x1_S4x4x8192x1_0_2_1_3)) u
      pads_S4x4x8192x128_S4x4x9216x128_000_000_102400_000 h_S_ := by
  rw [← at8_main_v5_1 m o c]
  unfold V15 hostOps4_6
  after_reads_simp
  exact ⟨_, rfl⟩

theorem host_v64 : V17 m o c (Proc.devRef .tc main_v64) = shapeCast S4x8192x2048 (transpose S4x8192x4x512 [0, 2, 1, 3]
      (shapeCast S4x4x8192x512 (o 16 main_v61 c) shapeCasts_S4x4x65536x64_S4x4x8192x512)
      transposes_S4x4x8192x512_S4x8192x4x512_0_2_1_3) shapeCasts_S4x8192x4x512_S4x8192x2048 := by
  have e : V16 m o c (Proc.devRef .tc main_v61) = o 16 main_v61 c := by
    unfold V16
    rw [Function.update_self]
  rw [← e]
  unfold V17 hostOps5
  after_reads_simp
  rfl

/-! ## The operands, element by element -/

abbrev xq : S4x8192x2048.Idx → EReal := m ((c : Thread nD τ).loc main_arg0)
abbrev xk : S4x8192x256.Idx → EReal := m ((c : Thread nD τ).loc main_arg1)
abbrev xv : S4x8192x256.Idx → EReal := m ((c : Thread nD τ).loc main_arg2)

theorem qrow_eq (x : S4x8192x2048.Idx → EReal) (b : Fin 4) (s : Fin 8192) (h : Fin 4) (g : Fin 8) :
    Ref.qrow x b s h g = fun d => x (ix3 b s (col32 (head h g) d)) := by
  funext d
  refine shapeCast_apply x _ _ _ (by
    rw [Shape.rowMajor_val_five, Shape.rowMajor_val_three]
    show (b.val * 8192 + s.val) * 2048 + ((h.val * 8 + g.val) * 64 + d.val) = (((b.val * 8192 + s.val) * 4 + h.val) * 8 + g.val) * 64 + d.val
    omega)

theorem krow_eq_ (x : S4x8192x256.Idx → EReal) (b : Fin 4) (s : Fin 8192) (h : Fin 4) :
    Ref.krow_ x b s h = fun d => x (ix3 b s (col4 h d)) := by
  funext d
  refine shapeCast_apply x _ _ _ (by
    rw [Shape.rowMajor_val_four, Shape.rowMajor_val_three]
    show (b.val * 8192 + s.val) * 256 + (h.val * 64 + d.val) = ((b.val * 8192 + s.val) * 4 + h.val) * 64 + d.val
    omega)

attribute [local irreducible] clip kinv kscale qtop

theorem rowCodes_at {n h : ℕ} (X : (⟨3, ![n, h, 64]⟩ : Shape).Idx → EReal) (i : Fin n) (j : Fin h) (d : Fin 64) (r : Fin 64 → EReal)
    (hr : ∀ d, X (ix3 i j d) = r d) : rowCodes X (ix3 i j d) = clip (r d * kinv (qtop r)) := by
  have e : (fun d => X (ix3 i j d)) = r := funext hr
  show clip (X (ix3 i j d) * kinv (qtop fun d => X (ix3 i j d))) = _
  rw [e, hr]

theorem rowScale_at {n h : ℕ} (X : (⟨3, ![n, h, 64]⟩ : Shape).Idx → EReal) (i : Fin n) (j : Fin h) (r : Fin 64 → EReal)
    (hr : ∀ d, X (ix3 i j d) = r d) : rowScale X (ix2 i j) = kscale (qtop r) := by
  have e : (fun d => X (ix3 i j d)) = r := funext hr
  show kscale (qtop fun d => X (ix3 i j d)) = _
  rw [e]

theorem op_q (b h : Fin 4) (s : Fin 8192) (g : Fin 8) (d : Fin 64) :
    V15 m (outs m) c (Proc.devRef .tc main_v8) (ix4 b h (qpos s g) d)
      = clip (Ref.qrow (xq m c) b s h g d * kinv (qtop (Ref.qrow (xq m c) b s h g))) := by
  refine (congrFun (host_v8 m (outs m) c) _).trans ?_
  refine (lay_q _ b h s g d).trans ?_
  rw [hout0_1 m c, codesArr0]
  refine rowCodes_at _ _ _ _ _ fun d => ?_
  rw [qrow_eq]
  exact (congrFun (host_v0 m c) _).trans (rows_q _ b s (head h g) d)

theorem op_cq (b h : Fin 4) (i : Fin 256) (a : Fin 32) (g : Fin 8) (z : Fin 1) :
    V15 m (outs m) c (Proc.devRef .tc main_v11) (ix5 b h i z (lane a g))
      = kscale (qtop (Ref.qrow (xq m c) b (qtok i a) h g)) := by
  refine (congrFun (host_v11 m (outs m) c) _).trans ?_
  refine (lay_cq _ b h i a g z).trans ?_
  rw [hout0_2 m c, scaleArr0]
  refine rowScale_at _ _ _ _ fun d => ?_
  rw [qrow_eq]
  exact (congrFun (host_v0 m c) _).trans (rows_q _ b _ (head h g) d)

theorem op_k (b h : Fin 4) (s : Fin 8192) (d : Fin 64) :
    V15 m (outs m) c (Proc.devRef .tc main_v15) (ix4 b h (kpos s) d)
      = clip (Ref.krow_ (xk m c) b s h d * kinv (qtop (Ref.krow_ (xk m c) b s h))) := by
  obtain ⟨z, hz⟩ := host_v15 m (outs m) c
  refine (congrFun hz _).trans ?_
  refine (lay_k _ _ b h s d).trans ?_
  rw [hout1_1 m c, codesArr1]
  refine rowCodes_at _ _ _ _ _ fun d => ?_
  rw [krow_eq_]
  exact (congrFun (host_v2 m (outs m) c) _).trans (rows_k _ b s h d)

theorem op_ks (b h : Fin 4) (s : Fin 8192) (l : Fin 128) :
    V15 m (outs m) c (Proc.devRef .tc main_v22) (ix4 b h (kpos s) l)
      = kscale (qtop (Ref.krow_ (xk m c) b s h)) := by
  obtain ⟨z, hz⟩ := host_v22 m (outs m) c
  refine (congrFun hz _).trans ?_
  refine (lay_ks _ _ b h s l).trans ?_
  rw [hout1_2 m c, scaleArr1]
  refine rowScale_at _ _ _ _ fun d => ?_
  rw [krow_eq_]
  exact (congrFun (host_v2 m (outs m) c) _).trans (rows_k _ b s h d)

theorem op_v (b h : Fin 4) (s : Fin 8192) (d : Fin 64) :
    V15 m (outs m) c (Proc.devRef .tc main_v18) (ix4 b h (kpos s) d)
      = clip (Ref.krow_ (xv m c) b s h d * kinv (qtop (Ref.krow_ (xv m c) b s h))) := by
  obtain ⟨z, hz⟩ := host_v18 m (outs m) c
  refine (congrFun hz _).trans ?_
  refine (lay_k _ _ b h s d).trans ?_
  rw [hout2_1 m c, codesArr2]
  refine rowCodes_at _ _ _ _ _ fun d => ?_
  rw [krow_eq_]
  exact (congrFun (host_v4 m (outs m) c) _).trans (rows_k _ b s h d)

theorem op_vs (b h : Fin 4) (s : Fin 8192) (l : Fin 128) :
    V15 m (outs m) c (Proc.devRef .tc main_v26) (ix4 b h (kpos s) l)
      = kscale (qtop (Ref.krow_ (xv m c) b s h)) := by
  obtain ⟨z, hz⟩ := host_v26 m (outs m) c
  refine (congrFun hz _).trans ?_
  refine (lay_ks _ _ b h s l).trans ?_
  rw [hout2_2 m c, scaleArr2]
  refine rowScale_at _ _ _ _ fun d => ?_
  rw [krow_eq_]
  exact (congrFun (host_v4 m (outs m) c) _).trans (rows_k _ b s h d)

end Cert.Value

end
-- ==== Proof.Value.Bias.lean ====
/- The distance bias: the slope of a head, the distance of a key and whether it counts. -/
module

public import proofs.«01_k».proof.Proof.Value.QuantRow

@[expose] public section

noncomputable section

namespace Cert.Value

open Idealize Idealize.ShloMosaic

/-- The slope of head `n`. -/
def slope (n : ℕ) : EReal :=
  Ideal.exp (Ideal.ofBits .f32 0x3F317218#32 * Ideal.div (Ideal.ofBits .f32 0xC1000000#32 * (Ideal.ofBits .f32 0x3F800000#32 + (((BitVec.ofNat 32 n).toInt : ℝ) : EReal))) (Ideal.ofBits .f32 0x42000000#32))

/-- A normal word is a real number. -/
theorem real_word (b : BitVec 32) (h : (b.extractLsb' 23 8).toNat ≠ 255) : ∃ r : ℝ, Ideal.ofBits .f32 b = (r : EReal) := by
  have e : Ideal.ofBits .f32 b = word (b.extractLsb' 31 1 == 1#1) (b.extractLsb' 23 8).toNat (b.extractLsb' 0 23).toNat := rfl
  rw [e]
  unfold word
  rw [if_neg (by simpa using h)]
  split
  · exact ⟨_, rfl⟩
  · exact ⟨_, rfl⟩

theorem c32 : Ideal.ofBits .f32 0x42000000#32 = ((32 : ℝ) : EReal) := by
  rw [show (0x42000000#32 : BitVec 32) = BitVec.ofNat 32 132 <<< (23#32) by decide]
  refine (pw_eq 132 (by omega) (by omega)).trans ?_
  norm_num

/-- Every slope is a real number. -/
theorem slope_real (n : ℕ) : ∃ r : ℝ, slope n = (r : EReal) := by
  obtain ⟨a, ha⟩ := real_word 0x3F317218#32 (by decide)
  obtain ⟨b, hb⟩ := real_word 0xC1000000#32 (by decide)
  obtain ⟨c, hc⟩ := real_word 0x3F800000#32 (by decide)
  unfold slope Ideal.div
  rw [ha, hb, hc, c32, if_neg (by exact_mod_cast (by norm_num : (32 : ℝ) ≠ 0)), ← EReal.coe_inv, ← EReal.coe_add, ← EReal.coe_mul, ← EReal.coe_mul, ← EReal.coe_mul]
  exact ⟨_, rfl⟩

/-- The bias of head `n` at distance `d`. -/
def biasE (n : ℕ) (d : BitVec 32) : EReal := -(slope n) * ((d.toInt : ℝ) : EReal)

theorem biasE_real (n : ℕ) (d : BitVec 32) : ∃ r : ℝ, biasE n d = (r : EReal) := by
  obtain ⟨r, hr⟩ := slope_real n
  unfold biasE
  rw [hr, ← EReal.coe_neg, ← EReal.coe_mul]
  exact ⟨_, rfl⟩

/-- Whether a key at distance `d` counts. -/
def ok (d : BitVec 32) : BitVec 1 := IntOp.andi (IntOp.cmpi .sge d 0#32) (IntOp.cmpi .slt d 1024#32)

theorem toInt_small (a : ℕ) (ha : a < 16384) : (BitVec.ofNat 32 a).toInt = a := by
  rw [BitVec.toInt_eq_toNat_of_lt (by rw [BitVec.toNat_ofNat]; omega), BitVec.toNat_ofNat, Nat.mod_eq_of_lt (by omega)]

theorem dist_toInt (a b : ℕ) (ha : a < 16384) (hb : b < 16384) : (BitVec.ofNat 32 a - BitVec.ofNat 32 b).toInt = (a : ℤ) - b := by
  rw [BitVec.toInt_sub, toInt_small a ha, toInt_small b hb]
  exact Int.bmod_eq_of_le (by omega) (by omega)

theorem ok_iff (a b : ℕ) (ha : a < 16384) (hb : b < 16384) : ok (BitVec.ofNat 32 a - BitVec.ofNat 32 b) = 1#1 ↔ b ≤ a ∧ a < b + 1024 := by
  have e1 : (0#32 : BitVec 32).sle (BitVec.ofNat 32 a - BitVec.ofNat 32 b) = decide (b ≤ a) := by
    rw [BitVec.sle_eq_decide, dist_toInt a b ha hb, decide_eq_decide, show (0#32 : BitVec 32).toInt = 0 by decide]; omega
  have e2 : (BitVec.ofNat 32 a - BitVec.ofNat 32 b).slt 1024#32 = decide (a < b + 1024) := by
    rw [BitVec.slt_eq_decide, dist_toInt a b ha hb, decide_eq_decide, show (1024#32 : BitVec 32).toInt = 1024 by decide]; omega
  unfold ok IntOp.andi IntOp.cmpi
  simp only [e1, e2]
  by_cases h1 : b ≤ a <;> by_cases h2 : a < b + 1024 <;> simp [h1, h2]

end Cert.Value

end
-- ==== Proof.Value.KBias.lean ====
/- The bias table the kernel's host code builds, read at an index. -/
module

public import proofs.«01_k».proof.Proof.Value.KHost
public import proofs.«01_k».proof.Proof.Value.Bias

@[expose] public section

noncomputable section

namespace Cert.Value

open Idealize Idealize.ShloMosaic.TcCoe Idealize.ShloMosaic.ValueIdx
open Idealize.ShloMosaic hiding ix1 ix2 ix3 ix4 ix5 eq_ix1 eq_ix2 eq_ix3 eq_ix4 eq_ix5
open Cert.KernelIdeal Cert.KernelIdeal.Gen Cert.KernelIdeal.Own Cert.KernelIdeal.Run
open Idealize.SL.Sem

/-- The distance from a token of the block to a row of the window. -/
def distT : IVec S1056x32 32 :=
  subi (broadcastInDim S1056x32 ![0, 1] bcast_S1x32_S1056x32_0_1
      (addi (broadcastInDim S1x32 ![] bcast_S_S1x32 (constantI S_ 32 1024#32)) (broadcastInDim S1x32 ![1] bcast_S32_S1x32_1 (iotaInDim S32 32 0))))
    (broadcastInDim S1056x32 ![0, 1] bcast_S1056x1_S1056x32_0_1 (broadcastInDim S1056x1 ![0] bcast_S1056_S1056x1_0 (iotaInDim S1056 32 0)))

/-- Whether a row of the window counts for a token of the block. -/
def okT : IVec S1056x32 1 :=
  andi (cmpi CmpIPredicate.sge distT (broadcastInDim S1056x32 ![] bcast_S_S1056x32 (constantI S_ 32 0#32)))
    (cmpi CmpIPredicate.slt distT (broadcastInDim S1056x32 ![] bcast_S_S1056x32 (constantI S_ 32 1024#32)))

/-- The slopes of the heads. -/
def slopeT : FVec Ideal S32 .f32 :=
  Host.exp (mulf (broadcastInDim S32 ![] bcast_S_S32 (constant S_ FTy.f32 1060205080#32))
    (Host.divf (mulf (broadcastInDim S32 ![] bcast_S_S32 (constant S_ FTy.f32 3238002688#32))
        (addf (broadcastInDim S32 ![] bcast_S_S32 (constant S_ FTy.f32 1065353216#32)) (sitofp FTy.f32 (iotaInDim S32 32 0))))
      (broadcastInDim S32 ![] bcast_S_S32 (constant S_ FTy.f32 1107296256#32))))

/-- The table with the lanes split. -/
def biasT : FVec Ideal S4x1056x32x8 .f32 :=
  select (broadcastInDim S4x1056x32x8 ![0, 1, 2, 3] bcast_S1x1056x32x1_S4x1056x32x8_0_1_2_3 (broadcastInDim S1x1056x32x1 ![1, 2] bcast_S1056x32_S1x1056x32x1_1_2 okT))
    (mulf (broadcastInDim S4x1056x32x8 ![0, 1, 2, 3] bcast_S4x1x1x8_S4x1056x32x8_0_1_2_3 (Host.negf (shapeCast S4x1x1x8 slopeT shapeCasts_S32_S4x1x1x8)))
      (broadcastInDim S4x1056x32x8 ![0, 1, 2, 3] bcast_S1x1056x32x1_S4x1056x32x8_0_1_2_3 (broadcastInDim S1x1056x32x1 ![1, 2] bcast_S1056x32_S1x1056x32x1_1_2 (sitofp FTy.f32 distT))))
    (broadcastInDim S4x1056x32x8 ![] bcast_S_S4x1056x32x8 (constant S_ FTy.f32 4286578688#32))

theorem host_v60 (m : (ℓ : Loc nD τ sig) → Buf (Elt Ideal) ℓ) (o : Outs (F := Ideal)) (c : Dev nD) :
    V15 m o c (Proc.devRef .tc main_v60) = shapeCast S4x1056x256 biasT shapeCasts_S4x1056x32x8_S4x1056x256 := by
  unfold V15 hostOps4_6
  after_reads_simp
  rfl

attribute [local irreducible] Ideal.ofBits Ideal.div Ideal.exp

theorem dist_at (j : Fin 1056) (a : Fin 32) : distT (ix2 j a) = BitVec.ofNat 32 (1024 + a.val) - BitVec.ofNat 32 j.val := by
  rw [BitVec.ofNat_add]
  rfl

theorem okT_at (j : Fin 1056) (a : Fin 32) : okT (ix2 j a) = ok (BitVec.ofNat 32 (1024 + a.val) - BitVec.ofNat 32 j.val) := by
  rw [← dist_at]
  rfl

theorem slope_at (n : Fin 32) : slopeT (ix1 n) = slope n.val := rfl

theorem lay2 {α : Type} (x : S1056x32.Idx → α) (h : Fin 4) (j : Fin 1056) (a : Fin 32) (g : Fin 8) :
    broadcastInDim S4x1056x32x8 ![0, 1, 2, 3] bcast_S1x1056x32x1_S4x1056x32x8_0_1_2_3 (broadcastInDim S1x1056x32x1 ![1, 2] bcast_S1056x32_S1x1056x32x1_1_2 x) (ix4 h j a g)
      = x (ix2 j a) := by
  refine (broadcastInDim_apply _ _ _ _ (ix4 0 j a 0) (fun a => by fin_cases a <;> rfl)).trans ?_
  exact broadcastInDim_apply _ _ _ _ (ix2 j a) (fun a => by fin_cases a <;> rfl)

theorem lay1 (h : Fin 4) (j : Fin 1056) (a : Fin 32) (g : Fin 8) :
    broadcastInDim S4x1056x32x8 ![0, 1, 2, 3] bcast_S4x1x1x8_S4x1056x32x8_0_1_2_3 (Host.negf (shapeCast S4x1x1x8 slopeT shapeCasts_S32_S4x1x1x8)) (ix4 h j a g)
      = -(slope (h.val * 8 + g.val)) := by
  refine (broadcastInDim_apply _ _ _ _ (ix4 h 0 0 g) (fun a => by fin_cases a <;> rfl)).trans ?_
  have e : shapeCast S4x1x1x8 slopeT shapeCasts_S32_S4x1x1x8 (ix4 h 0 0 g) = slopeT (ix1 (head h g)) :=
    shapeCast_apply _ _ _ _ (by
      rw [Shape.rowMajor_val_four, Shape.rowMajor_val_one]
      show h.val * 8 + g.val = ((h.val * 1 + 0) * 1 + 0) * 8 + g.val
      omega)
  have hn (v : FVec Ideal S4x1x1x8 .f32) : Host.negf v (ix4 h 0 0 g) = -(v (ix4 h 0 0 g)) := rfl
  rw [hn, e, slope_at]
  rfl

/-- The table at a head, a row of the window and a lane. -/
theorem op_bias (m : (ℓ : Loc nD τ sig) → Buf (Elt Ideal) ℓ) (o : Outs (F := Ideal)) (c : Dev nD) (h : Fin 4) (j : Fin 1056) (a : Fin 32) (g : Fin 8) :
    V15 m o c (Proc.devRef .tc main_v60) (ix3 h j (lane a g))
      = if ok (BitVec.ofNat 32 (1024 + a.val) - BitVec.ofNat 32 j.val) = 1#1 then
          biasE (h.val * 8 + g.val) (BitVec.ofNat 32 (1024 + a.val) - BitVec.ofNat 32 j.val) else ⊥ := by
  refine (congrFun (host_v60 m o c) _).trans ?_
  refine (shapeCast_apply _ _ _ (ix4 h j a g) (by
    rw [Shape.rowMajor_val_four, Shape.rowMajor_val_three]
    show ((h.val * 1056 + j.val) * 32 + a.val) * 8 + g.val = (h.val * 1056 + j.val) * 256 + (a.val * 8 + g.val)
    omega)).trans ?_
  have hs (v : IVec S4x1056x32x8 1) (x y z : FVec Ideal S4x1056x32x8 .f32) (i : S4x1056x32x8.Idx) :
      select v (mulf x y) z i = if v i = 1#1 then x i * y i else z i := rfl
  unfold biasT
  rw [hs, lay2, lay2, lay1, okT_at]
  have hf (v : IVec S1056x32 32) (i) : (sitofp FTy.f32 v : FVec Ideal S1056x32 .f32) i = (((v i).toInt : ℝ) : EReal) := rfl
  have hb : (broadcastInDim S4x1056x32x8 ![] bcast_S_S4x1056x32x8 (constant S_ FTy.f32 4286578688#32) : FVec Ideal S4x1056x32x8 .f32) (ix4 h j a g) = ⊥ := cninf
  rw [hf, dist_at, hb]
  rfl

end Cert.Value

end
-- ==== Proof.Value.Row.lean ====
/- One row of attention over quantised probabilities: the kernel's order of operations and the reference's, both equal
   to one expression over the reals. -/
module

public import proofs.«01_k».proof.Proof.Value.Quant

@[expose] public section

noncomputable section

namespace Cert.Value

open Idealize Idealize.ShloMosaic

variable {ι K : Type} [Fintype ι]

/-- The keys that row `ι` of a tile names: `val` says which rows count, `φ` which key each names, `V` the keys. -/
structure Names (val : ι → Prop) (φ : ι → K) (V : Finset K) : Prop where
  inj : ∀ a b, val a → val b → φ a = φ b → a = b
  surj : ∀ k ∈ V, ∃ j, val j ∧ φ j = k
  mem : ∀ j, val j → φ j ∈ V

variable {val : ι → Prop} {φ : ι → K} {V : Finset K}

theorem coe_sum (s : Finset K) (F : K → ℝ) : ((∑ k ∈ s, F k : ℝ) : EReal) = ∑ k ∈ s, ((F k : ℝ) : EReal) := by
  classical
  induction s using Finset.induction_on with
  | empty => simp
  | insert a s ha ih => rw [Finset.sum_insert ha, Finset.sum_insert ha, EReal.coe_add, ih]

/-- A sum over the rows is the sum over the keys, where every row that does not count gives zero. -/
theorem Names.sum (h : Names val φ V) (f : ι → EReal) (F : K → EReal) (h1 : ∀ j, val j → f j = F (φ j)) (h0 : ∀ j, ¬ val j → f j = 0) :
    ∑ j, f j = ∑ k ∈ V, F k := by
  classical
  rw [← Finset.sum_filter_add_sum_filter_not Finset.univ val f,
    Finset.sum_eq_zero (s := Finset.univ.filter fun j => ¬ val j) (fun j hj => h0 j (Finset.mem_filter.mp hj).2), add_zero]
  refine Finset.sum_bij (fun j _ => φ j) (fun j hj => h.mem j (Finset.mem_filter.mp hj).2) (fun a ha b hb => h.inj a b (Finset.mem_filter.mp ha).2 (Finset.mem_filter.mp hb).2)
    (fun k hk => ?_) (fun j hj => h1 j (Finset.mem_filter.mp hj).2)
  obtain ⟨j, hj, rfl⟩ := h.surj k hk
  exact ⟨j, Finset.mem_filter.mpr ⟨Finset.mem_univ _, hj⟩, rfl⟩

/-- The largest over the rows is the largest over the keys, where no row that does not count exceeds it. -/
theorem Names.max (h : Names val φ V) (hV : V.Nonempty) (f : ι → EReal) (F : K → ℝ) (h1 : ∀ j, val j → f j = (F (φ j) : EReal))
    (h0 : ∀ j, ¬ val j → f j ≤ ((V.sup' hV F : ℝ) : EReal)) :
    (Finset.univ : Finset ι).fold max ⊥ f = ((V.sup' hV F : ℝ) : EReal) := by
  apply le_antisymm
  · rw [Finset.fold_max_le]
    refine ⟨bot_le, fun j _ => ?_⟩
    by_cases hj : val j
    · rw [h1 j hj, EReal.coe_le_coe_iff]
      exact Finset.le_sup' F (h.mem j hj)
    · exact h0 j hj
  · obtain ⟨k, hk, he⟩ := Finset.exists_mem_eq_sup' hV F
    obtain ⟨j, hj, rfl⟩ := h.surj k hk
    rw [Finset.le_fold_max]
    exact Or.inr ⟨j, Finset.mem_univ _, by rw [h1 j hj, he]⟩

/-- The weights of the keys before they are divided by their sum. -/
def expo (V : Finset K) (hV : V.Nonempty) (z : K → ℝ) (k : K) : ℝ := Real.exp (z k - V.sup' hV z)

/-- The sum of the weights. -/
def total (V : Finset K) (hV : V.Nonempty) (z : K → ℝ) : ℝ := ∑ k ∈ V, expo V hV z k

theorem expo_pos (hV : V.Nonempty) (z : K → ℝ) (k : K) : 0 < expo V hV z k := Real.exp_pos _

theorem total_pos (hV : V.Nonempty) (z : K → ℝ) : 0 < total V hV z :=
  Finset.sum_pos (fun k _ => expo_pos hV z k) hV

theorem expo_le (hV : V.Nonempty) (z : K → ℝ) {k : K} (hk : k ∈ V) : expo V hV z k ≤ total V hV z :=
  Finset.single_le_sum (f := expo V hV z) (fun k _ => (expo_pos hV z k).le) hk

/-- The largest scaled weight times the constant of the quantiser. -/
def rowTop (c : ℝ) (V : Finset K) (hV : V.Nonempty) (z w : K → ℝ) : ℝ :=
  V.sup' hV (fun k => expo V hV z k * w k) * (total V hV z)⁻¹ * c

/-- The row: codes of the scaled weights times the codes of the values, summed and scaled. -/
def core (c : ℝ) (V : Finset K) (hV : V.Nonempty) (z w : K → ℝ) (g : K → EReal) : EReal :=
  (∑ k ∈ V, g k * clip ((expo V hV z k * w k * ((total V hV z)⁻¹ * (Classical.epsilon fun s : ℝ => kscale (rowTop c V hV z w : EReal) = (s : EReal))⁻¹) : ℝ) : EReal))
    * kscale (rowTop c V hV z w : EReal)

/-- The kernel's row: exponentials to base two, the sum inverted once, the scale's inverse multiplied. -/
def krow (c : EReal) (u vs vc : ι → EReal) : EReal :=
  let e := fun j => Ideal.exp2 (u j - (Finset.univ : Finset ι).fold max ⊥ u)
  let r := Ideal.div 1 (∑ j, e j)
  let f := fun j => e j * vs j
  let t := (Finset.univ : Finset ι).fold max ⊥ f * r * c
  (∑ j, vc j * clip (f j * (r * kinv t))) * kscale t

/-- The reference's row. -/
def rrow (c : EReal) (s vs vc : ι → EReal) : EReal :=
  let m := max ⊥ ((Finset.univ : Finset ι).fold max ⊥ s)
  let e := fun j => Ideal.exp (s j - m)
  let p := fun j => Ideal.div (e j) (0 + ∑ j, e j) * vs j
  let t := (Finset.univ : Finset ι).fold max ⊥ (fun j => max (p j) (-(p j))) * c
  (∑ j, vc j * clip (Ideal.div (p j) (rscale t))) * rscale t

theorem exp2_coe (x : ℝ) : Ideal.exp2 (((Real.log 2)⁻¹ * x : ℝ) : EReal) = ((Real.exp x : ℝ) : EReal) := by
  change ((Real.rpow 2 ((Real.log 2)⁻¹ * x) : ℝ) : EReal) = _
  have hl : Real.log 2 ≠ 0 := (Real.log_pos (by norm_num)).ne'
  congr 1
  change (2 : ℝ) ^ ((Real.log 2)⁻¹ * x) = _
  rw [Real.rpow_def_of_pos (by norm_num), ← mul_assoc, mul_inv_cancel₀ hl, one_mul]

theorem exp_coe (x : ℝ) : Ideal.exp (x : EReal) = ((Real.exp x : ℝ) : EReal) := rfl

theorem div_coe (x y : ℝ) (hy : y ≠ 0) : Ideal.div (x : EReal) (y : EReal) = ((x * y⁻¹ : ℝ) : EReal) := by
  unfold Ideal.div
  rw [if_neg (by exact_mod_cast hy), EReal.coe_mul, EReal.coe_inv]

theorem sup'_scale (hV : V.Nonempty) (a : ℝ) (ha : 0 ≤ a) (z : K → ℝ) : V.sup' hV (fun k => a * z k) = a * V.sup' hV z :=
  (Finset.comp_sup'_eq_sup'_comp hV (fun x => a * x) (fun x y => mul_max_of_nonneg x y ha)).symm

theorem eps_eq {x : EReal} {s : ℝ} (h : x = (s : EReal)) : (Classical.epsilon fun s : ℝ => x = (s : EReal)) = s := by
  have := Classical.epsilon_spec (p := fun s : ℝ => x = (s : EReal)) ⟨s, h⟩
  exact EReal.coe_injective (this.symm.trans h)

theorem rowTop_nonneg {c : ℝ} (hc : 0 ≤ c) (hV : V.Nonempty) (z w : K → ℝ) (hw : ∀ k, 0 < w k) : 0 ≤ rowTop c V hV z w := by
  obtain ⟨k, hk⟩ := id hV
  have : 0 ≤ V.sup' hV (fun k => expo V hV z k * w k) :=
    (mul_nonneg (expo_pos _ z k).le (hw k).le).trans (Finset.le_sup' (fun k => expo V hV z k * w k) hk)
  exact mul_nonneg (mul_nonneg this (inv_nonneg.mpr (total_pos _ z).le)) hc

/-- The kernel's row is the expression over the reals. -/
theorem krow_eq {c : ℝ} (hc : 0 ≤ c) (h : Names val φ V) (hV : V.Nonempty) (z w : K → ℝ) (hw : ∀ k, 0 < w k) (g : K → EReal)
    (ht : rowTop c V hV z w < (2 : ℝ) ^ (126 : ℤ)) (u vs vc : ι → EReal)
    (hu : ∀ j, val j → u j = (((Real.log 2)⁻¹ * z (φ j) : ℝ) : EReal)) (hu0 : ∀ j, ¬ val j → u j = ⊥)
    (hvs : ∀ j, val j → vs j = (w (φ j) : EReal)) (hvc : ∀ j, val j → vc j = g (φ j)) :
    krow (c : EReal) u vs vc = core c V hV z w g := by
  have hl : 0 ≤ (Real.log 2)⁻¹ := inv_nonneg.mpr (Real.log_nonneg (by norm_num))
  have hM : (Finset.univ : Finset ι).fold max ⊥ u = (((Real.log 2)⁻¹ * V.sup' hV z : ℝ) : EReal) := by
    rw [h.max hV u (fun k => (Real.log 2)⁻¹ * z k) hu (fun j hj => by rw [hu0 j hj]; exact bot_le), sup'_scale hV _ hl]
  have he1 (j) (hj : val j) : Ideal.exp2 (u j - (Finset.univ : Finset ι).fold max ⊥ u) = (expo V hV z (φ j) : EReal) := by
    rw [hM, hu j hj, ← EReal.coe_sub, ← mul_sub, exp2_coe]; rfl
  have he0 (j) (hj : ¬ val j) : Ideal.exp2 (u j - (Finset.univ : Finset ι).fold max ⊥ u) = 0 := by
    rw [hM, hu0 j hj, EReal.bot_sub]; rfl
  have hS : ∑ j, Ideal.exp2 (u j - (Finset.univ : Finset ι).fold max ⊥ u) = (total V hV z : EReal) := by
    rw [h.sum _ (fun k => (expo V hV z k : EReal)) he1 he0, total, coe_sum]
  have hr : Ideal.div 1 (total V hV z : EReal) = (((total V hV z)⁻¹ : ℝ) : EReal) := by
    rw [show (1 : EReal) = ((1 : ℝ) : EReal) from rfl, div_coe _ _ (total_pos hV z).ne', one_mul]
  have hA : (Finset.univ : Finset ι).fold max ⊥ (fun j => Ideal.exp2 (u j - (Finset.univ : Finset ι).fold max ⊥ u) * vs j)
      = ((V.sup' hV (fun k => expo V hV z k * w k) : ℝ) : EReal) := by
    refine h.max hV _ _ (fun j hj => by rw [he1 j hj, hvs j hj, ← EReal.coe_mul]) (fun j hj => ?_)
    rw [he0 j hj, zero_mul]
    obtain ⟨k, hk⟩ := hV
    exact_mod_cast (mul_nonneg (expo_pos _ z k).le (hw k).le).trans (Finset.le_sup' (fun k => expo V _ z k * w k) hk)
  obtain ⟨s, hs0, hs, hi, -, -⟩ := scales _ (rowTop_nonneg hc hV z w hw) ht
  have hT : ((V.sup' hV (fun k => expo V hV z k * w k) : ℝ) : EReal) * (((total V hV z)⁻¹ : ℝ) : EReal) * (c : EReal) = (rowTop c V hV z w : EReal) := by
    rw [← EReal.coe_mul, ← EReal.coe_mul]; rfl
  unfold krow core
  simp only
  rw [hS, hA, hr, hT, eps_eq hs, hi]
  congr 1
  refine h.sum _ _ (fun j hj => ?_) (fun j hj => ?_)
  · rw [hvc j hj, he1 j hj, hvs j hj, ← EReal.coe_mul, ← EReal.coe_mul, ← EReal.coe_mul]
  · rw [he0 j hj, zero_mul, zero_mul, clip_zero, mul_zero]

/-- The reference's row is the expression over the reals. -/
theorem rrow_eq {c : ℝ} (hc : 0 ≤ c) (h : Names val φ V) (hV : V.Nonempty) (z w : K → ℝ) (hw : ∀ k, 0 < w k) (g : K → EReal)
    (ht : rowTop c V hV z w < (2 : ℝ) ^ (126 : ℤ)) (s vs vc : ι → EReal)
    (hu : ∀ j, val j → s j = (z (φ j) : EReal)) (hu0 : ∀ j, ¬ val j → s j = ⊥)
    (hvs : ∀ j, val j → vs j = (w (φ j) : EReal)) (hvc : ∀ j, val j → vc j = g (φ j)) :
    rrow (c : EReal) s vs vc = core c V hV z w g := by
  have hM : max ⊥ ((Finset.univ : Finset ι).fold max ⊥ s) = ((V.sup' hV z : ℝ) : EReal) := by
    rw [h.max hV s z hu (fun j hj => by rw [hu0 j hj]; exact bot_le)]; exact max_eq_right bot_le
  have he1 (j) (hj : val j) : Ideal.exp (s j - ((V.sup' hV z : ℝ) : EReal)) = (expo V hV z (φ j) : EReal) := by
    rw [hu j hj, ← EReal.coe_sub, exp_coe]; rfl
  have he0 (j) (hj : ¬ val j) : Ideal.exp (s j - ((V.sup' hV z : ℝ) : EReal)) = 0 := by
    rw [hu0 j hj, EReal.bot_sub]; rfl
  have hS : 0 + ∑ j, Ideal.exp (s j - ((V.sup' hV z : ℝ) : EReal)) = (total V hV z : EReal) := by
    rw [zero_add, h.sum _ (fun k => (expo V hV z k : EReal)) he1 he0, total, coe_sum]
  have hp1 (j) (hj : val j) : Ideal.div (Ideal.exp (s j - ((V.sup' hV z : ℝ) : EReal))) (total V hV z : EReal) * vs j
      = ((expo V hV z (φ j) * (total V hV z)⁻¹ * w (φ j) : ℝ) : EReal) := by
    rw [he1 j hj, hvs j hj, div_coe _ _ (total_pos hV z).ne', ← EReal.coe_mul]
  have hp0 (j) (hj : ¬ val j) : Ideal.div (Ideal.exp (s j - ((V.sup' hV z : ℝ) : EReal))) (total V hV z : EReal) * vs j = 0 := by
    rw [he0 j hj, show (0 : EReal) = ((0 : ℝ) : EReal) from rfl, div_coe _ _ (total_pos hV z).ne', zero_mul, EReal.coe_zero, zero_mul]
  have hA : (Finset.univ : Finset ι).fold max ⊥ (fun j => max (Ideal.div (Ideal.exp (s j - ((V.sup' hV z : ℝ) : EReal))) (total V hV z : EReal) * vs j)
        (-(Ideal.div (Ideal.exp (s j - ((V.sup' hV z : ℝ) : EReal))) (total V hV z : EReal) * vs j)))
      = ((V.sup' hV (fun k => (total V hV z)⁻¹ * (expo V hV z k * w k)) : ℝ) : EReal) := by
    have hpos (k) : 0 ≤ (total V hV z)⁻¹ * (expo V hV z k * w k) :=
      mul_nonneg (inv_nonneg.mpr (total_pos hV z).le) (mul_nonneg (expo_pos _ z k).le (hw k).le)
    refine h.max hV _ _ (fun j hj => ?_) (fun j hj => ?_)
    · rw [hp1 j hj]
      have e : expo V hV z (φ j) * (total V hV z)⁻¹ * w (φ j) = (total V hV z)⁻¹ * (expo V hV z (φ j) * w (φ j)) := by ring
      rw [e, ← EReal.coe_neg]
      refine max_eq_left ?_
      rw [EReal.coe_le_coe_iff]
      linarith [hpos (φ j)]
    · rw [hp0 j hj, neg_zero, max_self]
      obtain ⟨k, hk⟩ := id hV
      exact_mod_cast (hpos k).trans (Finset.le_sup' (fun k => (total V hV z)⁻¹ * (expo V hV z k * w k)) hk)
  obtain ⟨t, hs0, hs, -, hi, -⟩ := scales _ (rowTop_nonneg hc hV z w hw) ht
  have hT : ((V.sup' hV (fun k => (total V hV z)⁻¹ * (expo V hV z k * w k)) : ℝ) : EReal) * (c : EReal) = (rowTop c V hV z w : EReal) := by
    rw [← EReal.coe_mul, sup'_scale hV _ (inv_nonneg.mpr (total_pos hV z).le), rowTop, mul_comm (total V hV z)⁻¹]
  unfold rrow core
  simp only
  rw [hM, hS, hA, hT, hi, eps_eq hs, hs]
  congr 1
  refine h.sum _ _ (fun j hj => ?_) (fun j hj => ?_)
  · rw [hvc j hj, hp1 j hj, div_coe _ _ hs0.ne']
    congr 3
    ring
  · rw [hp0 j hj, show (0 : EReal) = ((0 : ℝ) : EReal) from rfl, div_coe _ _ hs0.ne', zero_mul, EReal.coe_zero, clip_zero, mul_zero]

end Cert.Value

end
-- ==== Proof.Value.KDot.lean ====
/- The attention body's two products at an index. -/
module

public import proofs.«01_k».proof.Proof.Gen.KernelIdeal.Skeleton
public import Idealize.ShloMosaic.Lib.ValueIdxCore
public import Idealize.ShloMosaic.PureOps.Ideal.Laws

@[expose] public section

noncomputable section

namespace Cert.Value

open Idealize Idealize.ShloMosaic Idealize.ShloMosaic.ValueIdx
open Cert.KernelIdeal Cert.KernelIdeal.Gen

theorem D1_l0 (i : S1056x256.Idx) (q : dot_S1056x64_S256x64_S1056x256_1_1_0_0_n_n.contr.Idx) : (dot_S1056x64_S256x64_S1056x256_1_1_0_0_n_n.lhsIdx i q 0).val = (i 0).val := by
  unfold DotDims.lhsIdx
  rw [dif_neg (show (0 : Fin S1056x64.rank) ∉ dot_S1056x64_S256x64_S1056x256_1_1_0_0_n_n.lhsBatch by decide), dif_pos (show (0 : Fin S1056x64.rank) ∈ dot_S1056x64_S256x64_S1056x256_1_1_0_0_n_n.lhsNonContracting by decide)]
  rfl
theorem D1_l1 (i : S1056x256.Idx) (q : dot_S1056x64_S256x64_S1056x256_1_1_0_0_n_n.contr.Idx) : (dot_S1056x64_S256x64_S1056x256_1_1_0_0_n_n.lhsIdx i q 1).val = (q ⟨0, by decide⟩).val := dot_S1056x64_S256x64_S1056x256_1_1_0_0_n_n.lhsIdx_val_of_single rfl i q
theorem D1_r0 (i : S1056x256.Idx) (q : dot_S1056x64_S256x64_S1056x256_1_1_0_0_n_n.contr.Idx) : (dot_S1056x64_S256x64_S1056x256_1_1_0_0_n_n.rhsIdx i q 0).val = (i 1).val := by
  unfold DotDims.rhsIdx
  rw [dif_neg (show (0 : Fin S256x64.rank) ∉ dot_S1056x64_S256x64_S1056x256_1_1_0_0_n_n.rhsBatch by decide), dif_pos (show (0 : Fin S256x64.rank) ∈ dot_S1056x64_S256x64_S1056x256_1_1_0_0_n_n.rhsNonContracting by decide)]
  rfl
theorem D1_r1 (i : S1056x256.Idx) (q : dot_S1056x64_S256x64_S1056x256_1_1_0_0_n_n.contr.Idx) : (dot_S1056x64_S256x64_S1056x256_1_1_0_0_n_n.rhsIdx i q 1).val = (q ⟨0, by decide⟩).val := dot_S1056x64_S256x64_S1056x256_1_1_0_0_n_n.rhsIdx_val_of_single rfl i q

theorem D2_l1 (i : S64x256.Idx) (q : dot_S1056x64_S1056x256_S64x256_0_0_1_1_n_n.contr.Idx) : (dot_S1056x64_S1056x256_S64x256_0_0_1_1_n_n.lhsIdx i q 1).val = (i 0).val := by
  unfold DotDims.lhsIdx
  rw [dif_neg (show (1 : Fin S1056x64.rank) ∉ dot_S1056x64_S1056x256_S64x256_0_0_1_1_n_n.lhsBatch by decide), dif_pos (show (1 : Fin S1056x64.rank) ∈ dot_S1056x64_S1056x256_S64x256_0_0_1_1_n_n.lhsNonContracting by decide)]
  rfl
theorem D2_l0 (i : S64x256.Idx) (q : dot_S1056x64_S1056x256_S64x256_0_0_1_1_n_n.contr.Idx) : (dot_S1056x64_S1056x256_S64x256_0_0_1_1_n_n.lhsIdx i q 0).val = (q ⟨0, by decide⟩).val := dot_S1056x64_S1056x256_S64x256_0_0_1_1_n_n.lhsIdx_val_of_single rfl i q
theorem D2_r1 (i : S64x256.Idx) (q : dot_S1056x64_S1056x256_S64x256_0_0_1_1_n_n.contr.Idx) : (dot_S1056x64_S1056x256_S64x256_0_0_1_1_n_n.rhsIdx i q 1).val = (i 1).val := by
  unfold DotDims.rhsIdx
  rw [dif_neg (show (1 : Fin S1056x256.rank) ∉ dot_S1056x64_S1056x256_S64x256_0_0_1_1_n_n.rhsBatch by decide), dif_pos (show (1 : Fin S1056x256.rank) ∈ dot_S1056x64_S1056x256_S64x256_0_0_1_1_n_n.rhsNonContracting by decide)]
  rfl
theorem D2_r0 (i : S64x256.Idx) (q : dot_S1056x64_S1056x256_S64x256_0_0_1_1_n_n.contr.Idx) : (dot_S1056x64_S1056x256_S64x256_0_0_1_1_n_n.rhsIdx i q 0).val = (q ⟨0, by decide⟩).val := dot_S1056x64_S1056x256_S64x256_0_0_1_1_n_n.rhsIdx_val_of_single rfl i q

/-- The product of the key and query codes. -/
theorem dot1_at (x : FVec Ideal S1056x64 .fp8e4m3) (y : FVec Ideal S256x64 .fp8e4m3) (j : Fin 1056) (l : Fin 256) :
    matmul dot_S1056x64_S256x64_S1056x256_1_1_0_0_n_n none x y (constant S1056x256 .f32 0x00000000#32) (ix2 j l) = ∑ d : Fin 64, x (ix2 j d) * y (ix2 l d) := by
  refine (Ideal.matmul_constant_zero_apply _ none x y _).trans ?_
  rw [← Equiv.sum_comp (contrEquiv1 dot_S1056x64_S256x64_S1056x256_1_1_0_0_n_n 64 rfl rfl).symm]
  refine Finset.sum_congr rfl fun k _ => ?_
  have hk := contrEquiv1_symm_val dot_S1056x64_S256x64_S1056x256_1_1_0_0_n_n 64 rfl rfl k
  have el : dot_S1056x64_S256x64_S1056x256_1_1_0_0_n_n.lhsIdx (ix2 j l) ((contrEquiv1 dot_S1056x64_S256x64_S1056x256_1_1_0_0_n_n 64 rfl rfl).symm k) = ix2 j k := funext fun a => Fin.ext (by
    match a with
    | ⟨0, _⟩ => exact D1_l0 _ _
    | ⟨1, _⟩ => exact (D1_l1 _ _).trans hk)
  have er : dot_S1056x64_S256x64_S1056x256_1_1_0_0_n_n.rhsIdx (ix2 j l) ((contrEquiv1 dot_S1056x64_S256x64_S1056x256_1_1_0_0_n_n 64 rfl rfl).symm k) = ix2 l k := funext fun a => Fin.ext (by
    match a with
    | ⟨0, _⟩ => exact D1_r0 _ _
    | ⟨1, _⟩ => exact (D1_r1 _ _).trans hk)
  rw [el, er]

/-- The product of the value codes and the probabilities' codes. -/
theorem dot2_at (x : FVec Ideal S1056x64 .fp8e4m3) (y : FVec Ideal S1056x256 .fp8e4m3) (d : Fin 64) (l : Fin 256) :
    matmul dot_S1056x64_S1056x256_S64x256_0_0_1_1_n_n none x y (constant S64x256 .f32 0x00000000#32) (ix2 d l) = ∑ j : Fin 1056, x (ix2 j d) * y (ix2 j l) := by
  refine (Ideal.matmul_constant_zero_apply _ none x y _).trans ?_
  rw [← Equiv.sum_comp (contrEquiv1 dot_S1056x64_S1056x256_S64x256_0_0_1_1_n_n 1056 rfl rfl).symm]
  refine Finset.sum_congr rfl fun k _ => ?_
  have hk := contrEquiv1_symm_val dot_S1056x64_S1056x256_S64x256_0_0_1_1_n_n 1056 rfl rfl k
  have el : dot_S1056x64_S1056x256_S64x256_0_0_1_1_n_n.lhsIdx (ix2 d l) ((contrEquiv1 dot_S1056x64_S1056x256_S64x256_0_0_1_1_n_n 1056 rfl rfl).symm k) = ix2 k d := funext fun a => Fin.ext (by
    match a with
    | ⟨0, _⟩ => exact (D2_l0 _ _).trans hk
    | ⟨1, _⟩ => exact D2_l1 _ _)
  have er : dot_S1056x64_S1056x256_S64x256_0_0_1_1_n_n.rhsIdx (ix2 d l) ((contrEquiv1 dot_S1056x64_S1056x256_S64x256_0_0_1_1_n_n 1056 rfl rfl).symm k) = ix2 k l := funext fun a => Fin.ext (by
    match a with
    | ⟨0, _⟩ => exact (D2_r0 _ _).trans hk
    | ⟨1, _⟩ => exact D2_r1 _ _)
  rw [el, er]

end Cert.Value

end
-- ==== Proof.Value.KBlock.lean ====
/- What the attention body writes of a block, read at an index: one row of the kernel's attention. -/
module

public import proofs.«01_k».proof.Proof.Value.Search
public import proofs.«01_k».proof.Proof.Value.Row
public import proofs.«01_k».proof.Proof.Value.KDot
public import proofs.«01_k».proof.Proof.KernelIdeal.K4
public import Idealize.ShloMosaic.Lib.Pipeline.Value

@[expose] public section

noncomputable section

namespace Cert.Value

open Idealize Idealize.ShloMosaic Idealize.ShloMosaic.ValueIdx
open Cert.KernelIdeal Cert.KernelIdeal.Gen

attribute [local irreducible] Ideal.ofBits Finset.fold Ideal.div Ideal.exp2 pw clip kinv kscale vsrch

/-- A maximum over the window's rows. -/
theorem rowMax (x : FVec Ideal S1056x256 .f32) (u : Fin 1) (l : Fin 256) :
    (shapeCast S1x256 (multiReduction (F := Ideal) .maximumf [0] S256 x 0xFF800000#32 reduces_S1056x256_S256 (.inl rfl) rfl) shapeCasts_S256_S1x256 : FVec Ideal S1x256 .f32) (ix2 u l)
      = (Finset.univ : Finset (Fin 1056)).fold max ⊥ (fun j => x (ix2 j l)) := by
  refine (shapeCast_apply _ _ _ (ix1 l) (by
    rw [Shape.rowMajor_val_two, Shape.rowMajor_val_one]
    show l.val = u.val * 256 + l.val
    omega)).trans ?_
  refine (Ideal.multiReduction_maximumf_single _ _ reduces_S1056x256_S256 _ _ _).trans ?_
  rw [← cninf]
  refine Finset.fold_congr fun j _ => ?_
  have e : reduces_S1056x256_S256.lift (ix1 l) j = ix2 j l := by funext a; fin_cases a <;> rfl
  exact congrArg x e

/-- A sum over the window's rows. -/
theorem rowSum (x : FVec Ideal S1056x256 .f32) (u : Fin 1) (l : Fin 256) :
    (shapeCast S1x256 (multiReduction (F := Ideal) .add [0] S256 x 0x00000000#32 reduces_S1056x256_S256 (.inl rfl) rfl) shapeCasts_S256_S1x256 : FVec Ideal S1x256 .f32) (ix2 u l)
      = ∑ j : Fin 1056, x (ix2 j l) := by
  refine (shapeCast_apply _ _ _ (ix1 l) (by
    rw [Shape.rowMajor_val_two, Shape.rowMajor_val_one]
    show l.val = u.val * 256 + l.val
    omega)).trans ?_
  refine (Ideal.multiReduction_add_single _ _ reduces_S1056x256_S256 _ _ _).trans ?_
  refine Finset.sum_congr rfl fun j _ => ?_
  have e : reduces_S1056x256_S256.lift (ix1 l) j = ix2 j l := by funext a; fin_cases a <;> rfl
  exact congrArg x e

theorem lanes {α : Type} (x : S1x256.Idx → α) (j : Fin 1056) (l : Fin 256) : broadcastTo S1056x256 x broadcasts_S1x256_S1056x256 (ix2 j l) = x (ix2 0 l) :=
  broadcastTo_apply _ _ _ _ (fun a => by fin_cases a <;> rfl)
theorem lanes' {α : Type} (x : S1x256.Idx → α) (d : Fin 64) (l : Fin 256) : broadcastTo S64x256 x broadcasts_S1x256_S64x256 (ix2 d l) = x (ix2 0 l) :=
  broadcastTo_apply _ _ _ _ (fun a => by fin_cases a <;> rfl)
theorem rows {α : Type} (x : S1x1x1056x1.Idx → α) (j : Fin 1056) (l : Fin 256) :
    broadcastTo S1056x256 (shapeCast S1056x1 x shapeCasts_S1x1x1056x1_S1056x1) broadcasts_S1056x1_S1056x256 (ix2 j l) = x (ix4 0 0 j 0) := by
  refine (broadcastTo_apply _ _ _ (ix2 j 0) (fun a => by fin_cases a <;> rfl)).trans ?_
  refine shapeCast_apply _ _ _ _ (by
    rw [Shape.rowMajor_val_four, Shape.rowMajor_val_two]
    show ((0 * 1 + 0) * 1056 + j.val) * 1 + 0 = j.val * 1 + 0
    omega)
theorem cut1 {α : Type} (x : S1x1x1056x64.Idx → α) (j : Fin 1056) (d : Fin 64) :
    shapeCast S1056x64 x shapeCasts_S1x1x1056x64_S1056x64 (ix2 j d) = x (ix4 0 0 j d) :=
  shapeCast_apply _ _ _ _ (by
    rw [Shape.rowMajor_val_four, Shape.rowMajor_val_two]
    show ((0 * 1 + 0) * 1056 + j.val) * 64 + d.val = j.val * 64 + d.val
    omega)
theorem cut2 {α : Type} (x : S1x1x256x64.Idx → α) (l : Fin 256) (d : Fin 64) :
    shapeCast S256x64 x shapeCasts_S1x1x256x64_S256x64 (ix2 l d) = x (ix4 0 0 l d) :=
  shapeCast_apply _ _ _ _ (by
    rw [Shape.rowMajor_val_four, Shape.rowMajor_val_two]
    show ((0 * 1 + 0) * 256 + l.val) * 64 + d.val = l.val * 64 + d.val
    omega)
theorem cut3 {α : Type} (x : S1x1x1x1x256.Idx → α) (l : Fin 256) :
    shapeCast S1x256 x shapeCasts_S1x1x1x1x256_S1x256 (ix2 0 l) = x (ix5 0 0 0 0 l) :=
  shapeCast_apply _ _ _ _ (by
    rw [Shape.rowMajor_val_five, Shape.rowMajor_val_two]
    show (((0 * 1 + 0) * 1 + 0) * 1 + 0) * 256 + l.val = 0 * 256 + l.val
    omega)
theorem paste {α : Type} (x : S64x256.Idx → α) (l : Fin 256) (d : Fin 64) :
    shapeCast S1x1x256x64 (transpose S256x64 [1, 0] x transposes_S64x256_p1_0_S256x64) shapeCasts_S256x64_S1x1x256x64 (ix4 0 0 l d) = x (ix2 d l) := by
  refine (shapeCast_apply _ _ _ (ix2 l d) (by
    rw [Shape.rowMajor_val_four, Shape.rowMajor_val_two]
    show l.val * 64 + d.val = ((0 * 1 + 0) * 256 + l.val) * 64 + d.val
    omega)).trans ?_
  exact transpose_apply _ _ _ _ (ix2 d l) (fun a => by fin_cases a <;> rfl)

/-- A row's score to base two. -/
def uAt (v6 : Vec Ideal S1x1x1056x64 .fp8e4m3) (v8 : Vec Ideal S1x1x256x64 .fp8e4m3) (v11 : Vec Ideal S1x1x1x1x256 .f32) (v16 : Vec Ideal S1x1x1056x1 .f32)
    (v22 : Vec Ideal S1056x256 .f32) (l : Fin 256) (j : Fin 1056) : EReal :=
  (∑ d : Fin 64, v6 (ix4 0 0 j d) * v8 (ix4 0 0 l d)) * v16 (ix4 0 0 j 0) * (v11 (ix5 0 0 0 0 l) * (((1 / 8) * (Real.log 2)⁻¹ : ℝ) : EReal)) + v22 (ix2 j l)

variable (v6 : Vec Ideal S1x1x1056x64 .fp8e4m3) (v8 : Vec Ideal S1x1x256x64 .fp8e4m3) (v11 : Vec Ideal S1x1x1x1x256 .f32) (v16 : Vec Ideal S1x1x1056x1 .f32)
  (v22 : Vec Ideal S1056x256 .f32) (v34 : Vec Ideal S1x1x1056x1 .f32) (v141 : Vec Ideal S1x1x1056x64 .fp8e4m3)

theorem pay5_at (j : Fin 1056) (l : Fin 256) : k4_pay5 v6 v8 v11 v16 v22 (ix2 j l)
    = Ideal.exp2 (uAt v6 v8 v11 v16 v22 l j - (Finset.univ : Finset (Fin 1056)).fold max ⊥ (uAt v6 v8 v11 v16 v22 l)) := by
  have hu (M : FVec Ideal S1056x256 .f32) (A : FVec Ideal S1056x256 .f32) (Q : FVec Ideal S1x256 .f32) (j : Fin 1056) :
      addf (mulf (mulf M A) (broadcastTo S1056x256 (mulf Q (broadcast S1x256 (Named.named κ "scaled_log2e" 0x3E38AA3B#32))) broadcasts_S1x256_S1056x256)) v22 (ix2 j l)
        = M (ix2 j l) * A (ix2 j l) * (broadcastTo S1056x256 (mulf Q (broadcast S1x256 (Named.named κ "scaled_log2e" 0x3E38AA3B#32))) broadcasts_S1x256_S1056x256 (ix2 j l)) + v22 (ix2 j l) := rfl
  have hq (Q : FVec Ideal S1x256 .f32) : mulf Q (broadcast S1x256 (Named.named κ "scaled_log2e" 0x3E38AA3B#32)) (ix2 0 l) = Q (ix2 0 l) * (((1 / 8) * (Real.log 2)⁻¹ : ℝ) : EReal) := rfl
  have hp (W : FVec Ideal S1056x256 .f32) (X : FVec Ideal S1x256 .f32) : exp2 (subf W (broadcastTo S1056x256 X broadcasts_S1x256_S1056x256)) (ix2 j l)
      = Ideal.exp2 (W (ix2 j l) - broadcastTo S1056x256 X broadcasts_S1x256_S1056x256 (ix2 j l)) := rfl
  have hw (j : Fin 1056) : uAt v6 v8 v11 v16 v22 l j = addf (mulf (mulf (matmul dot_S1056x64_S256x64_S1056x256_1_1_0_0_n_n none (shapeCast S1056x64 v6 shapeCasts_S1x1x1056x64_S1056x64 : FVec Ideal S1056x64 .fp8e4m3)
      (shapeCast S256x64 v8 shapeCasts_S1x1x256x64_S256x64 : FVec Ideal S256x64 .fp8e4m3) (constant S1056x256 .f32 0x00000000#32))
      (broadcastTo S1056x256 (shapeCast S1056x1 v16 shapeCasts_S1x1x1056x1_S1056x1 : FVec Ideal S1056x1 .f32) broadcasts_S1056x1_S1056x256))
      (broadcastTo S1056x256 (mulf (shapeCast S1x256 v11 shapeCasts_S1x1x1x1x256_S1x256 : FVec Ideal S1x256 .f32) (broadcast S1x256 (Named.named κ "scaled_log2e" 0x3E38AA3B#32))) broadcasts_S1x256_S1056x256)) v22 (ix2 j l) := by
    rw [hu, dot1_at, rows, lanes, hq, cut3]
    unfold uAt
    congr 3
    refine Finset.sum_congr rfl fun d _ => ?_
    rw [cut1, cut2]
  unfold k4_pay5
  refine (hp _ _).trans ?_
  rw [lanes, rowMax, ← hw]
  congr 2
  exact Finset.fold_congr fun j _ => (hw j).symm

theorem pay6_at (l : Fin 256) : k4_pay6 v6 v8 v11 v16 v22 (ix2 0 l) = ∑ j : Fin 1056, k4_pay5 v6 v8 v11 v16 v22 (ix2 j l) := by
  unfold k4_pay6
  exact rowSum _ 0 l

variable (v28 : FVec Ideal S1056x256 .f32) (v30 : FVec Ideal S1x256 .f32)

theorem pay7_at (l : Fin 256) : k4_pay7 v30 (Scalar.ofBits .f32 0x3F800000#32 : Ideal .f32) (ix2 0 l) = Ideal.div 1 (v30 (ix2 0 l)) := by
  rw [← c1]
  rfl

theorem pay8_at (j : Fin 1056) (l : Fin 256) : k4_pay8 v28 v34 (ix2 j l) = v28 (ix2 j l) * v34 (ix4 0 0 j 0) := by
  have h (A : FVec Ideal S1056x256 .f32) : mulf v28 A (ix2 j l) = v28 (ix2 j l) * A (ix2 j l) := rfl
  unfold k4_pay8
  rw [h, rows]

theorem pay9_at (l : Fin 256) : k4_pay9 v28 v30 (Scalar.ofBits .f32 0x3F800000#32 : Ideal .f32) v34 (ix2 0 l)
    = (Finset.univ : Finset (Fin 1056)).fold max ⊥ (fun j => v28 (ix2 j l) * v34 (ix4 0 0 j 0)) * Ideal.div 1 (v30 (ix2 0 l)) * Ideal.ofBits .f32 0x3B124925#32 := by
  have h (A B : FVec Ideal S1x256 .f32) : mulf (mulf A B) (broadcast S1x256 (Scalar.ofBits .f32 0x3B124925#32)) (ix2 0 l)
      = A (ix2 0 l) * B (ix2 0 l) * Ideal.ofBits .f32 0x3B124925#32 := rfl
  unfold k4_pay9
  rw [h, rowMax, pay7_at]
  congr 3
  exact funext fun j => pay8_at v34 v28 j l

/-- Clipping every element. -/
def clipV (x : FVec Ideal S1056x256 .f32) : FVec Ideal S1056x256 .fp8e4m3 := fun i => clip (x i)

theorem clipV_at (x : FVec Ideal S1056x256 .f32) (i : S1056x256.Idx) : clipV x i = clip (x i) := rfl

/-- The block the body writes. -/
theorem tileOut_at (l : Fin 256) (d : Fin 64) :
    Cert.KernelIdeal.Attend.tileOut (F := Ideal) (k4_pay5 v6 v8 v11 v16 v22) (k4_pay6 v6 v8 v11 v16 v22) v34 v141 (ix4 0 0 l d)
      = krow (Ideal.ofBits .f32 0x3B124925#32) (uAt v6 v8 v11 v16 v22 l) (fun j => v34 (ix4 0 0 j 0)) (fun j => v141 (ix4 0 0 j d)) := by
  have he (j) := pay5_at v6 v8 v11 v16 v22 j l
  have hs := pay6_at v6 v8 v11 v16 v22 l
  generalize k4_pay5 v6 v8 v11 v16 v22 = v28 at he hs ⊢
  generalize k4_pay6 v6 v8 v11 v16 v22 = v30 at hs ⊢
  have hx (n : IVec S1x256 32) : (select (cmpi .eq n (broadcast S1x256 0#32)) (broadcast S1x256 0#32) (subi n k4_pay15)) = vexp n := rfl
  have ht := pay9_at v34 v28 v30 l
  unfold Cert.KernelIdeal.Attend.tileOut
  unfold k4_pay14
  dsimp only
  rw [srch4]
  generalize k4_pay9 v28 v30 (Scalar.ofBits .f32 0x3F800000#32 : Ideal .f32) v34 = T at ht ⊢
  have h1 (v32 : FVec Ideal S1x256 .f32) (v37 : FVec Ideal S1056x256 .f32) (n : IVec S1x256 32) :
      k4_pay1 v32 v37 n (cmpi .eq n (broadcast S1x256 0#32)) k4_pay15 v141
        = (shapeCast S1x1x256x64 (transpose S256x64 [1, 0] (mulf (φ := .f32) (matmul dot_S1056x64_S1056x256_S64x256_0_0_1_1_n_n none (shapeCast S1056x64 v141 shapeCasts_S1x1x1056x64_S1056x64 : FVec Ideal S1056x64 .fp8e4m3)
            (clipV (mulf v37 (broadcastTo S1056x256 (mulf v32 (bitcastToFloat .f32 (shli (subi (broadcast S1x256 127#32) (vexp n)) (broadcast S1x256 23#32)))) broadcasts_S1x256_S1056x256)))
            (constant S64x256 .f32 0x00000000#32))
            (broadcastTo S64x256 (bitcastToFloat .f32 (shli (addi (broadcast S1x256 127#32) (vexp n)) (broadcast S1x256 23#32)) : FVec Ideal S1x256 .f32) broadcasts_S1x256_S64x256))
          transposes_S64x256_p1_0_S256x64) shapeCasts_S256x64_S1x1x256x64 : FVec Ideal S1x1x256x64 .bf16) := by
    rw [← hx]
    unfold clipV clip
    rfl
  rw [h1, paste]
  have hm (A B : FVec Ideal S64x256 .f32) : mulf A B (ix2 d l) = A (ix2 d l) * B (ix2 d l) := rfl
  have hm1 (A B : FVec Ideal S1056x256 .f32) (j : Fin 1056) : mulf A B (ix2 j l) = A (ix2 j l) * B (ix2 j l) := rfl
  have hm2 (A B : FVec Ideal S1x256 .f32) : mulf A B (ix2 0 l) = A (ix2 0 l) * B (ix2 0 l) := rfl
  rw [hm, dot2_at, lanes', scale_apply]
  have hT : T (ix2 0 l) = (Finset.univ : Finset (Fin 1056)).fold max ⊥ (fun j => Ideal.exp2 (uAt v6 v8 v11 v16 v22 l j - (Finset.univ : Finset (Fin 1056)).fold max ⊥ (uAt v6 v8 v11 v16 v22 l)) * v34 (ix4 0 0 j 0))
      * Ideal.div 1 (∑ j : Fin 1056, Ideal.exp2 (uAt v6 v8 v11 v16 v22 l j - (Finset.univ : Finset (Fin 1056)).fold max ⊥ (uAt v6 v8 v11 v16 v22 l))) * Ideal.ofBits .f32 0x3B124925#32 := by
    rw [ht, hs]
    simp only [he]
  unfold krow
  dsimp only
  rw [← hT]
  congr 1
  refine Finset.sum_congr rfl fun j _ => ?_
  rw [cut1, clipV_at, hm1, lanes, hm2, inv_apply, pay8_at, pay7_at, hs, he]
  simp only [he]

end Cert.Value

end
-- ==== Proof.Value.KAttend.lean ====
/- The attention call's result array, read at an index: one row of the kernel's attention over the arrays of its operands. -/
module

public import proofs.«01_k».proof.Proof.Value.KBlock
public import proofs.«01_k».proof.Proof.KernelIdeal.Run
public import Idealize.ShloMosaic.Lib.Pipeline.ValueKit
public import Idealize.ShloMosaic.Lib.Pipeline.Covers

@[expose] public section

noncomputable section

namespace Cert.Value

open Idealize Idealize.ShloMosaic.TcCoe Idealize.ShloMosaic.ValueIdx
open Idealize.ShloMosaic hiding ix1 ix2 ix3 ix4 ix5 eq_ix1 eq_ix2 eq_ix3 eq_ix4 eq_ix5
open Cert.KernelIdeal Cert.KernelIdeal.Gen Cert.KernelIdeal.Attend
open Idealize.SL.Sem

attribute [local irreducible] Ideal.ofBits Finset.fold Ideal.div Ideal.exp2 pw clip kinv kscale krow

/-- A row of the window of block `i`, in the arrays of the keys and values. -/
def wrow (i : Fin 256) (j : Fin 1056) : Fin 9216 := ⟨32 * i.val + j.val, by omega⟩
/-- A lane of block `i`, in the array of the queries. -/
def wlane (i l : Fin 256) : Fin 65536 := ⟨i.val * 256 + l.val, by omega⟩

theorem ld_w (φ : EltTy) (n k : ℕ) (x : (⟨4, ![1, 1, 9216, n]⟩ : Shape).Idx → Elt Ideal φ) (i : Fin 256) (off : Fin 4 → ℕ)
    (inb : ∀ a, off a + (![1, 1, 1056, k] : Fin 4 → ℕ) a ≤ (⟨4, ![1, 1, 9216, n]⟩ : Shape).size a) (ho : off = ![0, 0, 32 * i.val, 0]) (j : Fin 1056) (d : Fin k) (d' : Fin n)
    (hd : d'.val = d.val) :
    View.ld (Val := Elt Ideal) x (Rect.unit (s := ⟨4, ![1, 1, 9216, n]⟩) off ![1, 1, 1056, k] inb) (ix4 (0 : Fin 1) (0 : Fin 1) j d) = x (ix4 (0 : Fin 1) (0 : Fin 1) (wrow i j) d') := by
  subst ho
  refine congrArg x (funext fun a => Fin.ext ?_)
  match a with
  | ⟨0, _⟩ => rfl
  | ⟨1, _⟩ => rfl
  | ⟨2, _⟩ => show 32 * i.val + 1 * j.val = 32 * i.val + j.val; omega
  | ⟨3, _⟩ => show 0 + 1 * d.val = d'.val; omega

theorem ld_q (x : Vec Ideal S1x1x256x64 .fp8e4m3) (l : Fin 256) (d : Fin 64) :
    View.ld (Val := Elt Ideal) x (Rect.unit (s := S1x1x256x64) ![0, 0, 0, 0] S1x1x256x64.size inb_S1x1x256x64_S1x1x256x64_0_0_0_0) (ix4 0 0 l d) = x (ix4 0 0 l d) := by
  refine congrArg x (funext fun a => Fin.ext ?_)
  match a with
  | ⟨0, _⟩ => rfl
  | ⟨1, _⟩ => rfl
  | ⟨2, _⟩ => show 0 + 1 * l.val = l.val; omega
  | ⟨3, _⟩ => show 0 + 1 * d.val = d.val; omega

theorem ld_c (x : Vec Ideal S1x1x1x1x256 .f32) (l : Fin 256) :
    View.ld (Val := Elt Ideal) x (Rect.unit (s := S1x1x1x1x256) ![0, 0, 0, 0, 0] S1x1x1x1x256.size inb_S1x1x1x1x256_S1x1x1x1x256_0_0_0_0_0) (ix5 0 0 0 0 l) = x (ix5 0 0 0 0 l) := by
  refine congrArg x (funext fun a => Fin.ext ?_)
  match a with
  | ⟨0, _⟩ => rfl
  | ⟨1, _⟩ => rfl
  | ⟨2, _⟩ => rfl
  | ⟨3, _⟩ => rfl
  | ⟨4, _⟩ => show 0 + 1 * l.val = l.val; omega

theorem ld_b (x : Vec Ideal S1056x256 .f32) (j : Fin 1056) (l : Fin 256) :
    View.ld (Val := Elt Ideal) x (Rect.unit (s := S1056x256) ![0, 0] S1056x256.size inb_S1056x256_S1056x256_0_0) (ix2 j l) = x (ix2 j l) := by
  refine congrArg x (funext fun a => Fin.ext ?_)
  match a with
  | ⟨0, _⟩ => show 0 + 1 * j.val = j.val; omega
  | ⟨1, _⟩ => show 0 + 1 * l.val = l.val; omega

/-- One element of the result, from the arrays of the operands. -/
def attAt (Q : S4x4x65536x64.Idx → EReal) (CQ : S4x4x256x1x256.Idx → EReal) (K : S4x4x9216x64.Idx → EReal) (KS : S4x4x9216x128.Idx → EReal)
    (W : S4x4x9216x64.Idx → EReal) (WS : S4x4x9216x128.Idx → EReal) (B : S4x1056x256.Idx → EReal) (b h : Fin 4) (i l : Fin 256) (d : Fin 64) : EReal :=
  krow (Ideal.ofBits .f32 0x3B124925#32)
    (fun j => (∑ d : Fin 64, K (ix4 b h (wrow i j) d) * Q (ix4 b h (wlane i l) d)) * KS (ix4 b h (wrow i j) 0) * (CQ (ix5 b h i 0 l) * (((1 / 8) * (Real.log 2)⁻¹ : ℝ) : EReal))
      + if 1024 - 32 * i.val ≤ j.val then B (ix3 h j l) * (((Real.log 2)⁻¹ : ℝ) : EReal) else ⊥)
    (fun j => WS (ix4 b h (wrow i j) 0)) (fun j => W (ix4 b h (wrow i j) d))

theorem small (n : ℕ) (h : n < 256) : (BitVec.ofNat 32 n).toNat = n := by
  rw [BitVec.toNat_ofNat, Nat.mod_eq_of_lt (by omega)]

def pb (t : Fin cfg4.N) : Fin 4 := ⟨(grid4.coords t 0).val, (grid4.coords t 0).isLt⟩
def ph (t : Fin cfg4.N) : Fin 4 := ⟨(grid4.coords t 1).val, (grid4.coords t 1).isLt⟩
def pi_ (t : Fin cfg4.N) : Fin 256 := ⟨(grid4.coords t 2).val, (grid4.coords t 2).isLt⟩

theorem pb_w (t : Fin cfg4.N) : (BitVec.ofNat 32 (grid4.coords t 0).val).toNat = (pb t).val := small _ (Nat.lt_of_lt_of_le (pb t).isLt (by decide))
theorem ph_w (t : Fin cfg4.N) : (BitVec.ofNat 32 (grid4.coords t 1).val).toNat = (ph t).val := small _ (Nat.lt_of_lt_of_le (ph t).isLt (by decide))
theorem pi_w (t : Fin cfg4.N) : (BitVec.ofNat 32 (grid4.coords t 2).val).toNat = (pi_ t).val := small _ (pi_ t).isLt

variable (V : (c : Dev nD) → (b : Ref sig .tc) → Buf (Elt Ideal) ((c : Thread nD τ).loc b)) (c : Dev nD) (t : Fin cfg4.N)

theorem blk0 (l : Fin 256) (d : Fin 64) : iblk V c 0 t (ix4 0 0 l d) = V c main_v8 (ix4 (pb t) (ph t) (wlane (pi_ t) l) d) := by
  refine congrArg (V c main_v8) (funext fun a => Fin.ext ?_)
  match a with
  | ⟨0, _⟩ => show (BitVec.ofNat 32 (grid4.coords t 0).val).toNat * 1 + 1 * 0 = (pb t).val; rw [pb_w]; omega
  | ⟨1, _⟩ => show (BitVec.ofNat 32 (grid4.coords t 1).val).toNat * 1 + 1 * 0 = (ph t).val; rw [ph_w]; omega
  | ⟨2, _⟩ => show (BitVec.ofNat 32 (grid4.coords t 2).val).toNat * 256 + 1 * l.val = (pi_ t).val * 256 + l.val; rw [pi_w]; omega
  | ⟨3, _⟩ => show 0 * 64 + 1 * d.val = d.val; omega

theorem blk1 (l : Fin 256) : iblk V c 1 t (ix5 0 0 0 0 l) = V c main_v11 (ix5 (pb t) (ph t) (pi_ t) 0 l) := by
  refine congrArg (V c main_v11) (funext fun a => Fin.ext ?_)
  match a with
  | ⟨0, _⟩ => show (BitVec.ofNat 32 (grid4.coords t 0).val).toNat * 1 + 1 * 0 = (pb t).val; rw [pb_w]; omega
  | ⟨1, _⟩ => show (BitVec.ofNat 32 (grid4.coords t 1).val).toNat * 1 + 1 * 0 = (ph t).val; rw [ph_w]; omega
  | ⟨2, _⟩ => show (BitVec.ofNat 32 (grid4.coords t 2).val).toNat * 1 + 1 * 0 = (pi_ t).val; rw [pi_w]; omega
  | ⟨3, _⟩ => rfl
  | ⟨4, _⟩ => show 0 * 256 + 1 * l.val = l.val; omega

theorem blk2 (r : Fin 9216) (d : Fin 64) : iblk V c 2 t (ix4 0 0 r d) = V c main_v15 (ix4 (pb t) (ph t) r d) := by
  refine congrArg (V c main_v15) (funext fun a => Fin.ext ?_)
  match a with
  | ⟨0, _⟩ => show (BitVec.ofNat 32 (grid4.coords t 0).val).toNat * 1 + 1 * 0 = (pb t).val; rw [pb_w]; omega
  | ⟨1, _⟩ => show (BitVec.ofNat 32 (grid4.coords t 1).val).toNat * 1 + 1 * 0 = (ph t).val; rw [ph_w]; omega
  | ⟨2, _⟩ => show 0 * 9216 + 1 * r.val = r.val; omega
  | ⟨3, _⟩ => show 0 * 64 + 1 * d.val = d.val; omega

theorem blk3 (r : Fin 9216) (d : Fin 128) : iblk V c 3 t (ix4 0 0 r d) = V c main_v22 (ix4 (pb t) (ph t) r d) := by
  refine congrArg (V c main_v22) (funext fun a => Fin.ext ?_)
  match a with
  | ⟨0, _⟩ => show (BitVec.ofNat 32 (grid4.coords t 0).val).toNat * 1 + 1 * 0 = (pb t).val; rw [pb_w]; omega
  | ⟨1, _⟩ => show (BitVec.ofNat 32 (grid4.coords t 1).val).toNat * 1 + 1 * 0 = (ph t).val; rw [ph_w]; omega
  | ⟨2, _⟩ => show 0 * 9216 + 1 * r.val = r.val; omega
  | ⟨3, _⟩ => show 0 * 128 + 1 * d.val = d.val; omega

theorem blk4 (r : Fin 9216) (d : Fin 64) : iblk V c 4 t (ix4 0 0 r d) = V c main_v18 (ix4 (pb t) (ph t) r d) := by
  refine congrArg (V c main_v18) (funext fun a => Fin.ext ?_)
  match a with
  | ⟨0, _⟩ => show (BitVec.ofNat 32 (grid4.coords t 0).val).toNat * 1 + 1 * 0 = (pb t).val; rw [pb_w]; omega
  | ⟨1, _⟩ => show (BitVec.ofNat 32 (grid4.coords t 1).val).toNat * 1 + 1 * 0 = (ph t).val; rw [ph_w]; omega
  | ⟨2, _⟩ => show 0 * 9216 + 1 * r.val = r.val; omega
  | ⟨3, _⟩ => show 0 * 64 + 1 * d.val = d.val; omega

theorem blk5 (r : Fin 9216) (d : Fin 128) : iblk V c 5 t (ix4 0 0 r d) = V c main_v26 (ix4 (pb t) (ph t) r d) := by
  refine congrArg (V c main_v26) (funext fun a => Fin.ext ?_)
  match a with
  | ⟨0, _⟩ => show (BitVec.ofNat 32 (grid4.coords t 0).val).toNat * 1 + 1 * 0 = (pb t).val; rw [pb_w]; omega
  | ⟨1, _⟩ => show (BitVec.ofNat 32 (grid4.coords t 1).val).toNat * 1 + 1 * 0 = (ph t).val; rw [ph_w]; omega
  | ⟨2, _⟩ => show 0 * 9216 + 1 * r.val = r.val; omega
  | ⟨3, _⟩ => show 0 * 128 + 1 * d.val = d.val; omega

theorem blk6 (j : Fin 1056) (l : Fin 256) : iblk V c 6 t (ix3 0 j l) = V c main_v60 (ix3 (ph t) j l) := by
  refine congrArg (V c main_v60) (funext fun a => Fin.ext ?_)
  match a with
  | ⟨0, _⟩ => show (BitVec.ofNat 32 (grid4.coords t 1).val).toNat * 1 + 1 * 0 = (ph t).val; rw [ph_w]; omega
  | ⟨1, _⟩ => show 0 * 1056 + 1 * j.val = j.val; omega
  | ⟨2, _⟩ => show 0 * 256 + 1 * l.val = l.val; omega

theorem emb7 (l : Fin 256) (d : Fin 64) : ((cfg4.win 7).blk t).view.emb (ix4 0 0 l d) = ix4 (pb t) (ph t) (wlane (pi_ t) l) d := by
  refine funext fun a => Fin.ext ?_
  match a with
  | ⟨0, _⟩ => show (BitVec.ofNat 32 (grid4.coords t 0).val).toNat * 1 + 1 * 0 = (pb t).val; rw [pb_w]; omega
  | ⟨1, _⟩ => show (BitVec.ofNat 32 (grid4.coords t 1).val).toNat * 1 + 1 * 0 = (ph t).val; rw [ph_w]; omega
  | ⟨2, _⟩ => show (BitVec.ofNat 32 (grid4.coords t 2).val).toNat * 256 + 1 * l.val = (pi_ t).val * 256 + l.val; rw [pi_w]; omega
  | ⟨3, _⟩ => show 0 * 64 + 1 * d.val = d.val; omega

/-- The block a point writes. -/
theorem outBlk_at (i : grid4.Coords) (s : Fin 256) (hs : step i = s.val) (x3 : Vec Ideal S1x1x256x64 .fp8e4m3) (x4 : Vec Ideal S1x1x1x1x256 .f32) (x5 : Vec Ideal S1x1x9216x64 .fp8e4m3) (x6 : Vec Ideal S1x1x9216x128 .f32)
    (x7 : Vec Ideal S1x1x9216x64 .fp8e4m3) (x8 : Vec Ideal S1x1x9216x128 .f32) (w : Vec Ideal S1056x256 .f32) (l : Fin 256) (d : Fin 64) :
    outBlk (F := Ideal) i x3 x4 x5 x6 x7 x8 w (ix4 0 0 l d)
      = krow (Ideal.ofBits .f32 0x3B124925#32)
        (fun j => (∑ d : Fin 64, x5 (ix4 0 0 (wrow s j) d) * x3 (ix4 0 0 l d)) * x6 (ix4 0 0 (wrow s j) 0) * (x4 (ix5 0 0 0 0 l) * (((1 / 8) * (Real.log 2)⁻¹ : ℝ) : EReal)) + w (ix2 j l))
        (fun j => x8 (ix4 0 0 (wrow s j) 0)) (fun j => x7 (ix4 0 0 (wrow s j) d)) := by
  unfold outBlk
  dsimp only
  rw [tileOut_at]
  have e1 (x : Vec Ideal S1x1x9216x64 .fp8e4m3) (j : Fin 1056) (d : Fin 64) : View.ld (Val := Elt Ideal) x (rows1 i) (ix4 0 0 j d) = x (ix4 0 0 (wrow s j) d) :=
    ld_w _ 64 64 x s _ _ ((off1_eq i).trans (by rw [hs])) j d d rfl
  have e2 (x : Vec Ideal S1x1x9216x128 .f32) (j : Fin 1056) : View.ld (Val := Elt Ideal) x (rows2 i) (ix4 0 0 j 0) = x (ix4 0 0 (wrow s j) 0) :=
    ld_w _ 128 1 x s _ _ ((off2_eq i).trans (by rw [hs])) j 0 0 rfl
  have eu : uAt (View.ld (Val := Elt Ideal) x5 (rows1 i)) (View.ld (Val := Elt Ideal) x3 (Rect.unit (s := S1x1x256x64) ![0, 0, 0, 0] S1x1x256x64.size inb_S1x1x256x64_S1x1x256x64_0_0_0_0))
      (View.ld (Val := Elt Ideal) x4 (Rect.unit (s := S1x1x1x1x256) ![0, 0, 0, 0, 0] S1x1x1x1x256.size inb_S1x1x1x1x256_S1x1x1x1x256_0_0_0_0_0)) (View.ld (Val := Elt Ideal) x6 (rows2 i))
      (View.ld (Val := Elt Ideal) w (Rect.unit (s := S1056x256) ![0, 0] S1056x256.size inb_S1056x256_S1056x256_0_0)) l
      = fun j => (∑ d : Fin 64, x5 (ix4 0 0 (wrow s j) d) * x3 (ix4 0 0 l d)) * x6 (ix4 0 0 (wrow s j) 0) * (x4 (ix5 0 0 0 0 l) * (((1 / 8) * (Real.log 2)⁻¹ : ℝ) : EReal)) + w (ix2 j l) := by
    funext j
    unfold uAt
    rw [e2, ld_c, ld_b]
    congr 3
    exact Finset.sum_congr rfl fun d _ => by rw [e1, ld_q]
  have ev : (fun j => View.ld (Val := Elt Ideal) x8 (rows2 i) (ix4 0 0 j 0)) = fun j => x8 (ix4 0 0 (wrow s j) 0) := funext fun j => e2 x8 j
  have ew : (fun j => View.ld (Val := Elt Ideal) x7 (rows1 i) (ix4 0 0 j d)) = fun j => x7 (ix4 0 0 (wrow s j) d) := funext fun j => e1 x7 j d
  rw [eu, ev, ew]

theorem scr_at (x9 : Vec Ideal S1x1056x256 .f32) (n : ℕ) (j : Fin 1056) (l : Fin 256) :
    scrAt (F := Ideal) x9 n (ix2 j l) = if 1024 - 32 * n ≤ j.val then x9 (ix3 0 j l) * (((Real.log 2)⁻¹ : ℝ) : EReal) else ⊥ := by
  unfold scrAt
  refine if_congr Iff.rfl rfl ?_
  refine Eq.trans ?_ cninf
  unfold k4_pay3
  rw [shapeCast_self]
  rfl

/-- A block's row is the arrays' row, where the blocks read the arrays. -/
theorem att_eq (s : Fin 256) (x3 : S1x1x256x64.Idx → EReal) (x4 : S1x1x1x1x256.Idx → EReal) (x5 : S1x1x9216x64.Idx → EReal) (x6 : S1x1x9216x128.Idx → EReal)
    (x7 : S1x1x9216x64.Idx → EReal) (x8 : S1x1x9216x128.Idx → EReal) (w : S1056x256.Idx → EReal)
    (Q : S4x4x65536x64.Idx → EReal) (CQ : S4x4x256x1x256.Idx → EReal) (K : S4x4x9216x64.Idx → EReal) (KS : S4x4x9216x128.Idx → EReal)
    (W : S4x4x9216x64.Idx → EReal) (WS : S4x4x9216x128.Idx → EReal) (B : S4x1056x256.Idx → EReal) (b h : Fin 4) (l : Fin 256) (d : Fin 64)
    (h3 : ∀ l d, x3 (ix4 0 0 l d) = Q (ix4 b h (wlane s l) d)) (h4 : ∀ l, x4 (ix5 0 0 0 0 l) = CQ (ix5 b h s 0 l))
    (h5 : ∀ r d, x5 (ix4 0 0 r d) = K (ix4 b h r d)) (h6 : ∀ r d, x6 (ix4 0 0 r d) = KS (ix4 b h r d))
    (h7 : ∀ r d, x7 (ix4 0 0 r d) = W (ix4 b h r d)) (h8 : ∀ r d, x8 (ix4 0 0 r d) = WS (ix4 b h r d))
    (hw : ∀ j l, w (ix2 j l) = if 1024 - 32 * s.val ≤ j.val then B (ix3 h j l) * (((Real.log 2)⁻¹ : ℝ) : EReal) else ⊥) :
    krow (Ideal.ofBits .f32 0x3B124925#32)
        (fun j => (∑ d : Fin 64, x5 (ix4 0 0 (wrow s j) d) * x3 (ix4 0 0 l d)) * x6 (ix4 0 0 (wrow s j) 0) * (x4 (ix5 0 0 0 0 l) * (((1 / 8) * (Real.log 2)⁻¹ : ℝ) : EReal)) + w (ix2 j l))
        (fun j => x8 (ix4 0 0 (wrow s j) 0)) (fun j => x7 (ix4 0 0 (wrow s j) d))
      = attAt Q CQ K KS W WS B b h s l d := by
  unfold attAt
  simp only [h3, h4, h5, h6, h7, h8, hw]

theorem outAt_at (l : Fin 256) (d : Fin 64) : outAt V c t (ix4 0 0 l d)
    = attAt (V c main_v8) (V c main_v11) (V c main_v15) (V c main_v22) (V c main_v18) (V c main_v26) (V c main_v60) (pb t) (ph t) (pi_ t) l d := by
  unfold outAt
  rw [outBlk_at _ (pi_ t) rfl]
  refine att_eq (pi_ t) _ _ _ _ _ _ _ (V c main_v8) (V c main_v11) (V c main_v15) (V c main_v22) (V c main_v18) (V c main_v26) (V c main_v60) (pb t) (ph t) l d
    (blk0 V c t) (blk1 V c t) (blk2 V c t) (blk3 V c t) (blk4 V c t) (blk5 V c t) (fun j l => ?_)
  refine (scr_at _ _ j l).trans ?_
  rw [← blk6 V c t j l]
  rfl

theorem covers7 : (cfg4.win 7).Covers :=
  (cfg4.win 7).covers_of_indexMap_surj rfl (by decide) fun β => by
    have h0 : (β 0).val < 4 := (β 0).isLt
    have h1 : (β 1).val < 4 := (β 1).isLt
    have h2 : (β 2).val < 256 := (β 2).isLt
    have h3 : (β 3).val < 1 := (β 3).isLt
    refine ⟨fun a => match a with
      | ⟨0, _⟩ => ⟨(β 0).val, h0⟩
      | ⟨1, _⟩ => ⟨(β 1).val, h1⟩
      | ⟨2, _⟩ => ⟨(β 2).val, h2⟩, fun a => ?_⟩
    match a with
    | ⟨0, _⟩ => exact small _ (lt_trans h0 (by decide))
    | ⟨1, _⟩ => exact small _ (lt_trans h1 (by decide))
    | ⟨2, _⟩ => exact small _ h2
    | ⟨3, _⟩ => show 0 = (β 3).val; omega

/-- The whole result array as a function of its index. -/
def attArr (Q : S4x4x65536x64.Idx → EReal) (CQ : S4x4x256x1x256.Idx → EReal) (K : S4x4x9216x64.Idx → EReal) (KS : S4x4x9216x128.Idx → EReal)
    (W : S4x4x9216x64.Idx → EReal) (WS : S4x4x9216x128.Idx → EReal) (B : S4x1056x256.Idx → EReal) (I : S4x4x65536x64.Idx) : EReal :=
  attAt Q CQ K KS W WS B (I 0) (I 1) ⟨(I 2).val / 256, Nat.div_lt_of_lt_mul (I 2).isLt⟩ ⟨(I 2).val % 256, Nat.mod_lt _ (by decide)⟩ (I 3)

theorem attArr_at (Q : S4x4x65536x64.Idx → EReal) (CQ : S4x4x256x1x256.Idx → EReal) (K : S4x4x9216x64.Idx → EReal) (KS : S4x4x9216x128.Idx → EReal)
    (W : S4x4x9216x64.Idx → EReal) (WS : S4x4x9216x128.Idx → EReal) (B : S4x1056x256.Idx → EReal) (b h : Fin 4) (i l : Fin 256) (d : Fin 64) :
    attArr Q CQ K KS W WS B (ix4 b h (wlane i l) d) = attAt Q CQ K KS W WS B b h i l d := by
  have e1 : (⟨(wlane i l).val / 256, Nat.div_lt_of_lt_mul (wlane i l).isLt⟩ : Fin 256) = i := Fin.ext (by show (i.val * 256 + l.val) / 256 = i.val; omega)
  have e2 : (⟨(wlane i l).val % 256, Nat.mod_lt _ (by decide)⟩ : Fin 256) = l := Fin.ext (by show (i.val * 256 + l.val) % 256 = l.val; omega)
  show attAt Q CQ K KS W WS B b h ⟨(wlane i l).val / 256, Nat.div_lt_of_lt_mul (wlane i l).isLt⟩ ⟨(wlane i l).val % 256, Nat.mod_lt _ (by decide)⟩ d = _
  rw [e1, e2]

theorem attendArr {Ix : Type} [DecidableEq Ix] {U : Type} [Idealize.SL.RA.URA U] {Lvl : Type} [Preorder Lvl] (D : Dev nD → CellTallies nD τ sig Ix) :
    (Attend.dat (U := U) (Lvl := Lvl) V D c).arrAt 7 cfg4.N
    = attArr (V c main_v8) (V c main_v11) (V c main_v15) (V c main_v22) (V c main_v18) (V c main_v26) (V c main_v60) := by
  refine Pipeline.Dat.arrAt_eq_of_covers _ 7 _ covers7 fun t hf y => ?_
  blk_simp
  rw [after_7]
  have hy : y = ix4 (0 : Fin 1) (0 : Fin 1) (y 2 : Fin 256) (y 3 : Fin 64) := by
    refine (eq_ix4 (n0 := 1) (n1 := 1) (n2 := 256) (n3 := 64) y).trans ?_
    congr 1 <;> exact Subsingleton.elim (α := Fin 1) _ _
  refine (congrArg (outAt V c t) hy).trans ((outAt_at V c t _ _).trans ?_)
  refine (attArr_at _ _ _ _ _ _ _ _ _ _ _ _).symm.trans ?_
  refine congrArg _ ((emb7 t _ _).symm.trans ?_)
  exact congrArg ((cfg4.win 7).blk t).view.emb hy.symm

end Cert.Value

end
-- ==== Proof.Value.RefAttn.lean ====
/- The reference's result read at an index: one row of attention. -/
module

public import proofs.«01_k».proof.Proof.Value.RefBase
public import proofs.«01_k».proof.Proof.Value.Row

@[expose] public section

noncomputable section

namespace Cert.Value.Ref

open Idealize Idealize.ShloMosaic Idealize.ShloMosaic.ValueIdx
open Cert.ReferenceIdeal Cert.ReferenceIdeal.Gen Cert.ReferenceIdeal.Read Cert.Value

attribute [local irreducible] Ideal.ofBits Finset.fold Ideal.div pw rscale clip Ideal.exp

variable (x0 : (⟨S4x8192x2048, .bf16⟩ : BufTy).Contents (Elt Ideal)) (x1 x2 : (⟨S4x8192x256, .bf16⟩ : BufTy).Contents (Elt Ideal))
  (b : Fin 4) (h : Fin 4) (g : Fin 8) (q : Fin 8192)

theorem redA : S4x4x8x8192x8192.Reduces [4] S4x4x8x8192 := by decide
theorem redAp : S4x4x8x8192x253.Reduces [4] S4x4x8x8192 := by decide

theorem liftA (k : Fin 8192) : redA.lift (ix4 b h g q) k = ix5 b h g q k := by
  funext a; fin_cases a <;> rfl

/-- The scores of a query, masked. -/
def score : Fin 8192 → EReal := fun k => val_main_v123 (F := Ideal) x0 x1 (ix5 b h g q k)

/-- The largest score. -/
def smax : EReal := max ⊥ ((Finset.univ : Finset (Fin 8192)).fold max ⊥ (score x0 x1 b h g q))

theorem v126_at : val_main_v126 (F := Ideal) x0 x1 (ix4 b h g q) = smax x0 x1 b h g q := by
  have e : val_main_v124 (F := Ideal) x0 x1 (ix4 b h g q) = (Finset.univ : Finset (Fin 8192)).fold max ⊥ (score x0 x1 b h g q) := by
    unfold val_main_v124 val_main_cst_36
    refine (host_max _ _ cninf _ redA _ (ix4 b h g q)).trans (Finset.fold_congr fun k _ => ?_)
    exact congrArg _ (liftA b h g q k)
  have e2 : val_main_v125 (F := Ideal) (ix4 b h g q) = ⊥ := by rw [val_main_v125_apply, ← cninf]; rfl
  rw [val_main_v126_apply, e, e2]; rfl

theorem v130_at (k : Fin 8192) : val_main_v130 (F := Ideal) x0 x1 (ix5 b h g q k) = Ideal.exp (score x0 x1 b h g q k - smax x0 x1 b h g q) := by
  have e3 : idx_main_v127 (idx_main_v128 (ix5 b h g q k)) = ix4 b h g q := by funext a; fin_cases a <;> rfl
  rw [val_main_v130_apply, val_main_v129_apply, val_main_v128_apply, val_main_v127_apply, e3, v126_at]; rfl

theorem v131_at : val_main_v131 (F := Ideal) x0 x1 (ix4 b h g q) = 0 + ∑ k, Ideal.exp (score x0 x1 b h g q k - smax x0 x1 b h g q) := by
  have e (k) : idx_main_v131 (ix4 b h g q) k = ix5 b h g q k := by funext a; fin_cases a <;> rfl
  rw [val_main_v131_apply]
  refine congrArg₂ (· + ·) ?_ (Finset.sum_congr rfl fun k _ => ?_)
  · exact Ideal.ofBits_zero_f32
  · rw [e, v130_at]

/-- The probability of a key times the scale of its value. -/
def prob (k : Fin 8192) : EReal :=
  Ideal.div (Ideal.exp (score x0 x1 b h g q k - smax x0 x1 b h g q)) (0 + ∑ k, Ideal.exp (score x0 x1 b h g q k - smax x0 x1 b h g q))
    * val_main_v73 (F := Ideal) x2 (ix3 b k h)

theorem v138_at (k : Fin 8192) : val_main_v138 (F := Ideal) x0 x1 x2 (ix5 b h g q k) = prob x0 x1 x2 b h g q k := by
  have e1 : idx_main_v132 (idx_main_v133 (ix5 b h g q k)) = ix4 b h g q := by funext a; fin_cases a <;> rfl
  have e2 : idx_main_v135 (idx_main_v136 (idx_main_v137 (ix5 b h g q k))) = ix3 b k h := by funext a; fin_cases a <;> rfl
  rw [val_main_v138_apply, val_main_v134_apply, val_main_v133_apply, val_main_v132_apply, val_main_v137_apply, val_main_v136_apply, val_main_v135_apply,
    e1, e2, v130_at, v131_at]; rfl

/-- The largest magnitude of the row times the quantiser's constant. -/
def ptop : EReal := (Finset.univ : Finset (Fin 8192)).fold max ⊥ (fun k => max (prob x0 x1 x2 b h g q k) (-(prob x0 x1 x2 b h g q k))) * Ideal.ofBits .f32 0x3B124925#32

theorem v142_at : val_main_v142 (F := Ideal) x0 x1 x2 (ix4 b h g q) = ptop x0 x1 x2 b h g q := by
  have es (k : Fin 8192) : val_main_v139 (F := Ideal) x0 x1 x2 (redA.lift (ix4 b h g q) k) = max (prob x0 x1 x2 b h g q k) (-(prob x0 x1 x2 b h g q k)) := by
    rw [liftA, val_main_v139_apply, v138_at]; rfl
  have e : val_main_v140 (F := Ideal) x0 x1 x2 (ix4 b h g q) = (Finset.univ : Finset (Fin 8192)).fold max ⊥ (fun k => max (prob x0 x1 x2 b h g q k) (-(prob x0 x1 x2 b h g q k))) := by
    unfold val_main_v140 val_main_cst_39
    exact (host_max _ _ cninf _ redA _ (ix4 b h g q)).trans (Finset.fold_congr fun k _ => es k)
  have e2 : val_main_v141 (F := Ideal) (ix4 b h g q) = Ideal.ofBits .f32 0x3B124925#32 := by rw [val_main_v141_apply]; rfl
  rw [val_main_v142_apply, e, e2]; rfl

attribute [local semireducible] rscale in
theorem v158_at' (i : S4x4x8x8192.Idx) : val_main_v158 (F := Ideal) x0 x1 x2 i = rscale (val_main_v142 (F := Ideal) x0 x1 x2 i) := by
  have e1 : val_main_v156 (F := Ideal) i = pw 1 := by rw [val_main_v156_apply, ← ctiny]; rfl
  have e2 : val_main_call11_v1 (F := Ideal) i = 1 := by rw [val_main_call11_v1_apply, ← c1]; rfl
  have e3 (n : Fin 253) : idx_main_v149 (idx_main_v152 (redAp.lift i n)) = i := by funext a; fin_cases a <;> rfl
  have e4 (j) : val_main_call10_v2 (F := Ideal) j = ⊤ := by rw [val_main_call10_v2_apply, ← cinf]; rfl
  have e5 (j) : val_main_v148 (F := Ideal) j = pw (2 + (j 0).val) := pow2_at j
  have es (n : Fin 253) : val_main_v154 (F := Ideal) x0 x1 x2 (redAp.lift i n) = if val_main_v142 (F := Ideal) x0 x1 x2 i < pw (2 + n.val) then pw (2 + n.val) else ⊤ := by
    rw [val_main_v154_apply, val_main_v153_apply, val_main_v151_apply, val_main_v150_apply, val_main_v152_apply, val_main_v149_apply, val_main_call10_v1_apply, e3, e4, e5]
    exact select_gt _ _ _ _
  have em : val_main_v155 (F := Ideal) x0 x1 x2 i = (Finset.univ : Finset (Fin 253)).fold min ⊤ (fun n => if val_main_v142 (F := Ideal) x0 x1 x2 i < pw (2 + n.val) then pw (2 + n.val) else ⊤) := by
    unfold val_main_v155 val_main_cst_44
    exact (host_min _ _ cinf _ redAp _ i).trans (Finset.fold_congr fun n _ => es n)
  rw [val_main_v158_apply, val_main_v157_apply, e1, e2, em]
  exact select_lt _ _ _ _

theorem v158_at : val_main_v158 (F := Ideal) x0 x1 x2 (ix4 b h g q) = rscale (ptop x0 x1 x2 b h g q) := by rw [v158_at', v142_at]

attribute [local semireducible] clip in
theorem v162_at (k : Fin 8192) : val_main_v162 (F := Ideal) x0 x1 x2 (ix5 b h g q k)
    = clip (Ideal.div (prob x0 x1 x2 b h g q k) (rscale (ptop x0 x1 x2 b h g q))) := by
  have e1 : val_main_call12_v4 (F := Ideal) (ix5 b h g q k) = Ideal.ofBits .f32 0x43E00000#32 := by rw [val_main_call12_v4_apply]; rfl
  have e2 : val_main_call12_v1 (F := Ideal) (ix5 b h g q k) = Ideal.ofBits .f32 0xC3E00000#32 := by rw [val_main_call12_v1_apply]; rfl
  have e3 : idx_main_v159 (idx_main_v160 (ix5 b h g q k)) = ix4 b h g q := by funext a; fin_cases a <;> rfl
  rw [val_main_v162_apply, val_main_call12_v2_apply, val_main_v161_apply, val_main_v160_apply, val_main_v159_apply, e1, e2, e3, v158_at, v138_at]; rfl

/-- The result before its last reshape: the row of the query's scores with the value's scales and codes. -/
theorem v168_at (d : Fin 64) : val_main_v168 (F := Ideal) x0 x1 x2 (ix5 b q h g d)
    = rrow (Ideal.ofBits .f32 0x3B124925#32) (score x0 x1 b h g q) (fun k => val_main_v73 (F := Ideal) x2 (ix3 b k h)) (fun k => val_main_v77 (F := Ideal) x2 (ix4 b k h d)) := by
  have e1 : idx_main_v165 (idx_main_v166 (idx_main_v167 (ix5 b q h g d))) = ix4 b h g q := by funext a; fin_cases a <;> rfl
  have e2 (k) : lidx_main_v163 (idx_main_v164 (ix5 b q h g d)) k = ix4 b k h d := by funext a; fin_cases a <;> rfl
  have e3 (k) : ridx_main_v163 (idx_main_v164 (ix5 b q h g d)) k = ix5 b h g q k := by funext a; fin_cases a <;> rfl
  rw [val_main_v168_apply, val_main_v167_apply, val_main_v166_apply, val_main_v165_apply, e1, v158_at, val_main_v164_apply, val_main_v163_apply]
  refine congrArg (· * rscale (ptop x0 x1 x2 b h g q)) (Finset.sum_congr rfl fun k _ => ?_)
  rw [e2, e3, v162_at]; rfl

end Cert.Value.Ref

end
-- ==== Proof.Value.RefScore.lean ====
/- The reference's scores read at an index. -/
module

public import proofs.«01_k».proof.Proof.Value.RefAttn
public import proofs.«01_k».proof.Proof.Value.Bias

@[expose] public section

noncomputable section

namespace Cert.Value.Ref

open Idealize Idealize.ShloMosaic Idealize.ShloMosaic.ValueIdx
open Cert.ReferenceIdeal Cert.ReferenceIdeal.Gen Cert.ReferenceIdeal.Read Cert.Value

attribute [local irreducible] Ideal.ofBits Ideal.div pw Ideal.exp

variable (x0 : (⟨S4x8192x2048, .bf16⟩ : BufTy).Contents (Elt Ideal)) (x1 : (⟨S4x8192x256, .bf16⟩ : BufTy).Contents (Elt Ideal))
  (b : Fin 4) (h : Fin 4) (g : Fin 8) (q k : Fin 8192)

theorem v87_at (n : Fin 32) : val_main_v87 (F := Ideal) (ix1 n) = slope n.val := by
  rw [val_main_v87_apply, val_main_v86_apply, val_main_v84_apply, val_main_v82_apply, val_main_v80_apply, val_main_v85_apply, val_main_v83_apply, val_main_v81_apply, val_main_v79_apply]
  rfl

theorem v102_at : val_main_v102 (F := Ideal) (ix4 h g q k) = biasE (h.val * 8 + g.val) (BitVec.ofNat 32 q.val - BitVec.ofNat 32 k.val) := by
  have e : idx_main_v88 (idx_main_v96 (idx_main_v100 (ix4 h g q k))) = ix1 ⟨h.val * 8 + g.val, by omega⟩ := by funext a; fin_cases a; rfl
  rw [val_main_v102_apply, val_main_v100_apply, val_main_v97_apply, val_main_v96_apply, val_main_v88_apply, e, v87_at,
    val_main_v101_apply, val_main_v99_apply, val_main_v98_apply, val_main_v95_apply, val_main_v93_apply, val_main_v90_apply, val_main_v94_apply, val_main_v92_apply]
  rfl

theorem v122_at : val_main_v122 (F := Ideal) (ix2 q k) = ok (BitVec.ofNat 32 q.val - BitVec.ofNat 32 k.val) := by
  rw [val_main_v122_apply, val_main_v119_apply, val_main_v121_apply, val_main_v95_apply, val_main_v93_apply, val_main_v90_apply, val_main_v94_apply, val_main_v92_apply, val_main_v118_apply, val_main_v120_apply]
  rfl

/-- The reference's product of codes, scaled and biased, where the key counts. -/
theorem score_at : score x0 x1 b h g q k
    = if ok (BitVec.ofNat 32 q.val - BitVec.ofNat 32 k.val) = 1#1 then
        (∑ d : Fin 64, val_main_v51 (F := Ideal) x1 (ix4 b k h d) * val_main_v25 (F := Ideal) x0 (ix5 b q h g d)) * val_main_v21 (F := Ideal) x0 (ix4 b q h g)
          * val_main_v47 (F := Ideal) x1 (ix3 b k h) * Ideal.ofBits .f32 0x3E000000#32 + biasE (h.val * 8 + g.val) (BitVec.ofNat 32 q.val - BitVec.ofNat 32 k.val)
      else ⊥ := by
  have e1 : idx_main_call9_v1 (ix5 b h g q k) = ix2 q k := by funext a; fin_cases a <;> rfl
  have e2 : idx_main_v105 (idx_main_v106 (idx_main_v109 (ix5 b h g q k))) = ix4 b q h g := by funext a; fin_cases a <;> rfl
  have e3 : idx_main_v107 (idx_main_v108 (idx_main_v111 (ix5 b h g q k))) = ix3 b k h := by funext a; fin_cases a <;> rfl
  have e4 : idx_main_v115 (idx_main_v116 (ix5 b h g q k)) = ix4 h g q k := by funext a; fin_cases a <;> rfl
  have e5 (d) : lidx_main_v103 (idx_main_v104 (ix5 b h g q k)) d = ix4 b k h d := by funext a; fin_cases a <;> rfl
  have e6 (d) : ridx_main_v103 (idx_main_v104 (ix5 b h g q k)) d = ix5 b q h g d := by funext a; fin_cases a <;> rfl
  have e7 : val_main_call9_v2 (F := Ideal) (ix5 b h g q k) = ⊥ := by rw [val_main_call9_v2_apply, ← cninf]; rfl
  have e8 : val_main_v113 (F := Ideal) (ix5 b h g q k) = Ideal.ofBits .f32 0x3E000000#32 := by rw [val_main_v113_apply]; rfl
  have e9 : val_main_v103 (F := Ideal) x0 x1 (idx_main_v104 (ix5 b h g q k)) = ∑ d : Fin 64, val_main_v51 (F := Ideal) x1 (ix4 b k h d) * val_main_v25 (F := Ideal) x0 (ix5 b q h g d) := by
    rw [val_main_v103_apply]
    refine Finset.sum_congr rfl fun d _ => ?_
    rw [e5, e6]
  unfold score
  rw [val_main_v123_apply, val_main_call9_v1_apply, e1, v122_at, e7, val_main_v117_apply, val_main_v116_apply, val_main_v115_apply, e4, v102_at,
    val_main_v114_apply, e8, val_main_v112_apply, val_main_v111_apply, val_main_v108_apply, val_main_v107_apply, e3, val_main_v110_apply, val_main_v109_apply, val_main_v106_apply, val_main_v105_apply, e2,
    val_main_v104_apply, e9]
  rfl

end Cert.Value.Ref

end
-- ==== Proof.Value.KFinal.lean ====
/- The kernel's row of attention is the reference's, wherever the operands hold the codes and scales of the arguments' rows. -/
module

public import proofs.«01_k».proof.Proof.Value.KAttend
public import proofs.«01_k».proof.Proof.Value.KLayout
public import proofs.«01_k».proof.Proof.Value.RefScore
public import proofs.«01_k».proof.Proof.Value.RefQ
public import proofs.«01_k».proof.Proof.Value.RefK
public import proofs.«01_k».proof.Proof.Value.QuantRow

@[expose] public section

noncomputable section

namespace Cert.Value

open Idealize Idealize.ShloMosaic.ValueIdx
open Idealize.ShloMosaic hiding ix1 ix2 ix3 ix4 ix5 eq_ix1 eq_ix2 eq_ix3 eq_ix4 eq_ix5
open Cert.KernelIdeal Cert.KernelIdeal.Gen
open Cert.ReferenceIdeal.Read (val_main_v47 val_main_v51 val_main_v21 val_main_v25 val_main_v73 val_main_v77 val_main_v168)

attribute [local irreducible] Ideal.ofBits Finset.fold Ideal.div Ideal.exp2 Ideal.exp pw clip kinv kscale rscale qtop krow rrow biasE

theorem rowTop_lt {K : Type} {V : Finset K} (hV : V.Nonempty) (z w : K → ℝ) (hw : ∀ k, 0 < w k) (hw' : ∀ k, w k ≤ (2 : ℝ) ^ (121 : ℤ)) :
    rowTop qc V hV z w < (2 : ℝ) ^ (126 : ℤ) := by
  have hT := total_pos hV z
  have h1 : V.sup' hV (fun k => expo V hV z k * w k) ≤ total V hV z * (2 : ℝ) ^ (121 : ℤ) :=
    Finset.sup'_le hV _ fun k hk => mul_le_mul (expo_le hV z hk) (hw' k) (hw k).le hT.le
  have h2 : V.sup' hV (fun k => expo V hV z k * w k) * (total V hV z)⁻¹ ≤ (2 : ℝ) ^ (121 : ℤ) := by
    rw [← div_eq_mul_inv, div_le_iff₀ hT, mul_comm]
    exact h1
  unfold rowTop
  have h3 : V.sup' hV (fun k => expo V hV z k * w k) * (total V hV z)⁻¹ * qc ≤ (2 : ℝ) ^ (121 : ℤ) * (2 : ℝ) ^ (-8 : ℤ) :=
    mul_le_mul h2 qc_le qc_pos.le (by positivity)
  exact h3.trans_lt (by norm_num)

/-- The key a row of block `i`'s window holds. -/
def wkey (i : Fin 256) (j : Fin 1056) : Fin 8192 := ⟨32 * i.val + j.val - 1024, by omega⟩

/-- The rows of the window that count for token `a` of the block. -/
def counts (i : Fin 256) (a : Fin 32) (j : Fin 1056) : Prop := 1024 ≤ 32 * i.val + j.val ∧ j.val ≤ 1024 + a.val ∧ a.val < j.val

/-- The keys that count for a token. -/
def keys (s : Fin 8192) : Finset (Fin 8192) := Finset.univ.filter fun k => k.val ≤ s.val ∧ s.val < k.val + 1024

theorem mem_keys (s k : Fin 8192) : k ∈ keys s ↔ k.val ≤ s.val ∧ s.val < k.val + 1024 := by
  unfold keys; rw [Finset.mem_filter]; exact ⟨fun h => h.2, fun h => ⟨Finset.mem_univ _, h⟩⟩

theorem keys_nonempty (s : Fin 8192) : (keys s).Nonempty := ⟨s, (mem_keys s s).mpr ⟨le_rfl, by omega⟩⟩

theorem names_ref (s : Fin 8192) : Names (fun k : Fin 8192 => k.val ≤ s.val ∧ s.val < k.val + 1024) id (keys s) where
  inj a b _ _ h := h
  surj k hk := ⟨k, (mem_keys s k).mp hk, rfl⟩
  mem k hk := (mem_keys s k).mpr hk

theorem names_ker (i : Fin 256) (a : Fin 32) : Names (counts i a) (wkey i) (keys (qtok i a)) where
  inj x y hx hy h := by
    have h' : 32 * i.val + x.val - 1024 = 32 * i.val + y.val - 1024 := congrArg Fin.val h
    unfold counts at hx hy
    exact Fin.ext (by omega)
  surj k hk := by
    have hk' : k.val ≤ i.val * 32 + a.val ∧ i.val * 32 + a.val < k.val + 1024 := (mem_keys _ k).mp hk
    refine ⟨⟨k.val + 1024 - 32 * i.val, by omega⟩, ?_, Fin.ext ?_⟩
    · unfold counts
      dsimp only
      omega
    · show 32 * i.val + (k.val + 1024 - 32 * i.val) - 1024 = k.val
      omega
  mem j hj := by
    unfold counts at hj
    refine (mem_keys _ _).mpr ?_
    show 32 * i.val + j.val - 1024 ≤ i.val * 32 + a.val ∧ i.val * 32 + a.val < 32 * i.val + j.val - 1024 + 1024
    omega

theorem wrow_eq (i : Fin 256) (j : Fin 1056) (h : 1024 ≤ 32 * i.val + j.val) : wrow i j = kpos (wkey i j) :=
  Fin.ext (by show 32 * i.val + j.val = 1024 + (32 * i.val + j.val - 1024); omega)

theorem dist_eq (i : Fin 256) (a : Fin 32) (j : Fin 1056) (h : 1024 ≤ 32 * i.val + j.val) :
    BitVec.ofNat 32 (1024 + a.val) - BitVec.ofNat 32 j.val = BitVec.ofNat 32 (qtok i a).val - BitVec.ofNat 32 (wkey i j).val := by
  have h1 : (qtok i a).val = i.val * 32 + a.val := rfl
  have h2 : (wkey i j).val = 32 * i.val + j.val - 1024 := rfl
  apply BitVec.eq_of_toInt_eq
  rw [dist_toInt _ _ (by omega) (by omega), dist_toInt _ _ (by omega) (by omega)]
  omega

theorem coe_dot (x y : Fin 64 → ℝ) : ∑ d, ((x d : ℝ) : EReal) * ((y d : ℝ) : EReal) = ((∑ d, x d * y d : ℝ) : EReal) := by
  rw [coe_sum]
  exact Finset.sum_congr rfl fun d _ => (EReal.coe_mul _ _).symm

variable (x0 : S4x8192x2048.Idx → EReal) (x1 x2 : S4x8192x256.Idx → EReal)

theorem ref_row (b h : Fin 4) (s : Fin 8192) (g : Fin 8) (d : Fin 64) (sq : ℝ) (qq : Fin 64 → ℝ) (sk : Fin 8192 → ℝ) (qk : Fin 8192 → Fin 64 → ℝ)
    (sv : Fin 8192 → ℝ) (qv : Fin 8192 → Fin 64 → ℝ) (bz : Fin 8192 → ℝ)
    (Hq : RowQ (Ref.qrow x0 b s h g) sq qq) (Hk : ∀ k, RowQ (Ref.krow_ x1 b k h) (sk k) (qk k)) (Hv : ∀ k, RowQ (Ref.krow_ x2 b k h) (sv k) (qv k))
    (Hb : ∀ k : Fin 8192, biasE (h.val * 8 + g.val) (BitVec.ofNat 32 s.val - BitVec.ofNat 32 k.val) = (bz k : EReal)) :
    val_main_v168 (F := Ideal) x0 x1 x2 (ix5 b s h g d)
      = core qc (keys s) (keys_nonempty s) (fun k => (∑ d, qk k d * qq d) * sq * sk k * (1 / 8) + bz k) sv (fun k => (qv k d : EReal)) := by
  rw [Ref.v168_at, qc_eq]
  refine rrow_eq qc_pos.le (names_ref s) (keys_nonempty s) _ sv (fun k => (Hv k).pos) _ (rowTop_lt _ _ _ (fun k => (Hv k).pos) fun k => (Hv k).le) _ _ _
    (fun k hk => ?_) (fun k hk => ?_) (fun k hk => ?_) (fun k hk => ?_)
  · have e1 (d) : val_main_v51 (F := Ideal) x1 (ix4 b k h d) = (qk k d : EReal) := by rw [Ref.code_k, (Hk k).rscale, (Hk k).rcode]
    have e2 (d) : val_main_v25 (F := Ideal) x0 (ix5 b s h g d) = (qq d : EReal) := by rw [Ref.code_q, Hq.rscale, Hq.rcode]
    have e3 : val_main_v21 (F := Ideal) x0 (ix4 b s h g) = (sq : EReal) := by rw [Ref.scale_q, Ref.top_q, Hq.rscale]
    have e4 : val_main_v47 (F := Ideal) x1 (ix3 b k h) = (sk k : EReal) := by rw [Ref.scale_k, Ref.top_k, (Hk k).rscale]
    rw [Ref.score_at, if_pos ((ok_iff _ _ (by omega) (by omega)).mpr hk), Hb, e3, e4, c8th]
    simp only [e1, e2]
    rw [coe_dot, ← EReal.coe_mul, ← EReal.coe_mul, ← EReal.coe_mul, ← EReal.coe_add]
    rfl
  · rw [Ref.score_at, if_neg (fun h' => hk ((ok_iff _ _ (by omega) (by omega)).mp h'))]
  · show val_main_v73 (F := Ideal) x2 (ix3 b k h) = (sv k : EReal)
    rw [Ref.scale_v, Ref.scale_k, Ref.top_k, (Hv k).rscale]
  · show val_main_v77 (F := Ideal) x2 (ix4 b k h d) = (qv k d : EReal)
    rw [Ref.code_v, Ref.code_k, (Hv k).rscale, (Hv k).rcode]

theorem ker_row (Q : S4x4x65536x64.Idx → EReal) (CQ : S4x4x256x1x256.Idx → EReal) (K : S4x4x9216x64.Idx → EReal) (KS : S4x4x9216x128.Idx → EReal)
    (W : S4x4x9216x64.Idx → EReal) (WS : S4x4x9216x128.Idx → EReal) (B : S4x1056x256.Idx → EReal) (b h : Fin 4) (i : Fin 256) (a : Fin 32) (g : Fin 8) (d : Fin 64)
    (sq : ℝ) (qq : Fin 64 → ℝ) (sk : Fin 8192 → ℝ) (qk : Fin 8192 → Fin 64 → ℝ)
    (sv : Fin 8192 → ℝ) (qv : Fin 8192 → Fin 64 → ℝ) (bz : Fin 8192 → ℝ) (hw : ∀ k, 0 < sv k) (hw' : ∀ k, sv k ≤ (2 : ℝ) ^ (121 : ℤ))
    (hQ : ∀ d, Q (ix4 b h (wlane i (lane a g)) d) = (qq d : EReal)) (hCQ : CQ (ix5 b h i 0 (lane a g)) = (sq : EReal))
    (hK : ∀ k d, K (ix4 b h (kpos k) d) = (qk k d : EReal)) (hKS : ∀ k, KS (ix4 b h (kpos k) 0) = (sk k : EReal))
    (hW : ∀ k d, W (ix4 b h (kpos k) d) = (qv k d : EReal)) (hWS : ∀ k, WS (ix4 b h (kpos k) 0) = (sv k : EReal))
    (hB : ∀ j : Fin 1056, B (ix3 h j (lane a g)) = if ok (BitVec.ofNat 32 (1024 + a.val) - BitVec.ofNat 32 j.val) = 1#1 then
      biasE (h.val * 8 + g.val) (BitVec.ofNat 32 (1024 + a.val) - BitVec.ofNat 32 j.val) else ⊥)
    (Hb : ∀ k : Fin 8192, biasE (h.val * 8 + g.val) (BitVec.ofNat 32 (qtok i a).val - BitVec.ofNat 32 k.val) = (bz k : EReal)) :
    attAt Q CQ K KS W WS B b h i (lane a g) d
      = core qc (keys (qtok i a)) (keys_nonempty _) (fun k => (∑ d, qk k d * qq d) * sq * sk k * (1 / 8) + bz k) sv (fun k => (qv k d : EReal)) := by
  unfold attAt
  rw [qc_eq]
  refine krow_eq qc_pos.le (names_ker i a) (keys_nonempty _) _ sv hw _ (rowTop_lt _ _ _ hw hw') _ _ _
    (fun j hj => ?_) (fun j hj => ?_) (fun j hj => ?_) (fun j hj => ?_)
  · obtain ⟨h1, h2, h3⟩ := hj
    have hok : ok (BitVec.ofNat 32 (1024 + a.val) - BitVec.ofNat 32 j.val) = 1#1 := (ok_iff _ _ (by omega) (by omega)).mpr ⟨by omega, by omega⟩
    rw [wrow_eq i j h1, hKS, hCQ, if_pos (by omega), hB, if_pos hok, dist_eq i a j h1, Hb]
    simp only [hK, hQ]
    rw [coe_dot, ← EReal.coe_mul, ← EReal.coe_mul, ← EReal.coe_mul, ← EReal.coe_mul, ← EReal.coe_add]
    congr 1
    ring
  · have hbot : (if 1024 - 32 * i.val ≤ j.val then B (ix3 h j (lane a g)) * (((Real.log 2)⁻¹ : ℝ) : EReal) else ⊥) = ⊥ := by
      by_cases h1 : 1024 - 32 * i.val ≤ j.val
      · have hok : ¬ ok (BitVec.ofNat 32 (1024 + a.val) - BitVec.ofNat 32 j.val) = 1#1 := by
          rw [ok_iff _ _ (by omega) (by omega)]
          unfold counts at hj
          omega
        rw [if_pos h1, hB, if_neg hok]
        exact EReal.bot_mul_coe_of_pos (inv_pos.mpr (Real.log_pos (by norm_num)))
      · rw [if_neg h1]
    rw [hbot, EReal.add_bot]
  · rw [wrow_eq i j hj.1, hWS]
  · rw [wrow_eq i j hj.1, hW]

end Cert.Value

end
-- ==== Proof.Value.KValue.lean ====
/- The kernel's result is the reference's, element by element, for bounded arguments. -/
module

public import proofs.«01_k».proof.Proof.Value.KHost
public import proofs.«01_k».proof.Proof.Value.KBias
public import proofs.«01_k».proof.Proof.Value.KFinal

@[expose] public section

noncomputable section

namespace Cert.Value

open Idealize Idealize.ShloMosaic.TcCoe Idealize.ShloMosaic.ValueIdx
open Idealize.ShloMosaic hiding ix1 ix2 ix3 ix4 ix5 eq_ix1 eq_ix2 eq_ix3 eq_ix4 eq_ix5
open Cert.KernelIdeal Cert.KernelIdeal.Gen Cert.KernelIdeal.Own Cert.KernelIdeal.Run
open Idealize.SL.Sem
open Cert.ReferenceIdeal.Read (val_main_v168 val_main_v169 val_main_v170 val_main_v170_apply val_main_v169_apply)

attribute [local irreducible] Ideal.ofBits Finset.fold Ideal.div Ideal.exp2 Ideal.exp pw clip kinv kscale rscale qtop krow rrow biasE

/-- Every element of an argument is at most the largest finite bfloat16, in magnitude. -/
def Bounded {s : Shape} (x : s.Idx → EReal) : Prop := ∀ i, max (x i) (-(x i)) ≤ Ideal.ofBits .f32 0x7F7F0000#32

variable (m : (ℓ : Loc nD τ sig) → Buf (Elt Ideal) ℓ) (c : Dev nD)

theorem att_row (hq : Bounded (xq m c)) (hk : Bounded (xk m c)) (hv : Bounded (xv m c)) (b h : Fin 4) (i : Fin 256) (a : Fin 32) (g : Fin 8) (d : Fin 64) :
    attAt (V15 m (outs m) c (Proc.devRef .tc main_v8)) (V15 m (outs m) c (Proc.devRef .tc main_v11)) (V15 m (outs m) c (Proc.devRef .tc main_v15))
        (V15 m (outs m) c (Proc.devRef .tc main_v22)) (V15 m (outs m) c (Proc.devRef .tc main_v18)) (V15 m (outs m) c (Proc.devRef .tc main_v26))
        (V15 m (outs m) c (Proc.devRef .tc main_v60)) b h i (lane a g) d
      = val_main_v168 (F := Ideal) (xq m c) (xk m c) (xv m c) (ix5 b (qtok i a) h g d) := by
  obtain ⟨sq, qq, Hq⟩ := exists_rowQ (Ref.qrow (xq m c) b (qtok i a) h g) (fun d => by rw [qrow_eq]; exact hq _)
  have Hk (k : Fin 8192) : ∃ s q, RowQ (Ref.krow_ (xk m c) b k h) s q := exists_rowQ _ (fun d => by rw [krow_eq_]; exact hk _)
  have Hv (k : Fin 8192) : ∃ s q, RowQ (Ref.krow_ (xv m c) b k h) s q := exists_rowQ _ (fun d => by rw [krow_eq_]; exact hv _)
  have Hb (k : Fin 8192) := biasE_real (h.val * 8 + g.val) (BitVec.ofNat 32 (qtok i a).val - BitVec.ofNat 32 k.val)
  choose sk qk Hk using Hk
  choose sv qv Hv using Hv
  choose bz Hb using Hb
  have hpos : wlane i (lane a g) = qpos (qtok i a) g :=
    Fin.ext (by show i.val * 256 + (a.val * 8 + g.val) = (i.val * 32 + a.val) * 8 + g.val; omega)
  refine (ker_row _ _ _ _ _ _ _ b h i a g d sq qq sk qk sv qv bz (fun k => (Hv k).pos) (fun k => (Hv k).le)
    (fun d => ?_) ?_ (fun k d => ?_) (fun k => ?_) (fun k d => ?_) (fun k => ?_) (fun j => op_bias m (outs m) c h j a g) Hb).trans
    (ref_row (xq m c) (xk m c) (xv m c) b h (qtok i a) g d sq qq sk qk sv qv bz Hq Hk Hv Hb).symm
  · rw [hpos]; exact (op_q m c b h (qtok i a) g d).trans (Hq.kcode d)
  · exact (op_cq m c b h i a g 0).trans Hq.kscale
  · exact (op_k m c b h k d).trans ((Hk k).kcode d)
  · exact (op_ks m c b h k 0).trans (Hk k).kscale
  · exact (op_v m c b h k d).trans ((Hv k).kcode d)
  · exact (op_vs m c b h k 0).trans (Hv k).kscale

theorem out_row (hq : Bounded (xq m c)) (hk : Bounded (xk m c)) (hv : Bounded (xv m c)) (b h : Fin 4) (i : Fin 256) (a : Fin 32) (g : Fin 8) (d : Fin 64) :
    V17 m (outs m) c (Proc.devRef .tc main_v64) (ix3 b (qtok i a) (col32 (head h g) d))
      = val_main_v168 (F := Ideal) (xq m c) (xk m c) (xv m c) (ix5 b (qtok i a) h g d) := by
  have hpos : qpos (qtok i a) g = wlane i (lane a g) :=
    Fin.ext (by show (i.val * 32 + a.val) * 8 + g.val = i.val * 256 + (a.val * 8 + g.val); omega)
  refine (congrFun (host_v64 m (outs m) c) _).trans ?_
  refine (lay_out _ b h (qtok i a) g d).trans ?_
  rw [hout4 m c, hpos]
  refine (congrFun (attendArr _ c D0) _).trans ?_
  refine (attArr_at _ _ _ _ _ _ _ b h i (lane a g) d).trans ?_
  exact att_row m c hq hk hv b h i a g d

theorem ref_out (x0 : S4x8192x2048.Idx → EReal) (x1 x2 : S4x8192x256.Idx → EReal) (b h : Fin 4) (s : Fin 8192) (g : Fin 8) (d : Fin 64) :
    val_main_v170 (F := Ideal) x0 x1 x2 (ix3 b s (col32 (head h g) d)) = val_main_v168 (F := Ideal) x0 x1 x2 (ix5 b s h g d) := by
  refine (val_main_v170_apply (F := Ideal) x0 x1 x2 _).trans ?_
  refine (val_main_v169_apply (F := Ideal) x0 x1 x2 _).trans (congrArg _ ?_)
  funext a
  have e : ∀ n : ℕ, n = (b.val * 8192 + s.val) * 2048 + ((h.val * 8 + g.val) * 64 + d.val) →
    n / 16777216 = b.val ∧ n / 2048 % 8192 = s.val ∧ n / 512 % 4 = h.val ∧ n / 64 % 8 = g.val ∧ n % 64 = d.val := by
    intro n hn
    refine ⟨?_, ?_, ?_, ?_, ?_⟩ <;> omega
  obtain ⟨e0, e1, e2, e3, e4⟩ := e _ rfl
  match a with
  | ⟨0, _⟩ => exact Fin.ext e0
  | ⟨1, _⟩ => exact Fin.ext e1
  | ⟨2, _⟩ => exact Fin.ext e2
  | ⟨3, _⟩ => exact Fin.ext e3
  | ⟨4, _⟩ => exact Fin.ext e4

/-- The two results are equal. -/
theorem out_eq (hq : Bounded (xq m c)) (hk : Bounded (xk m c)) (hv : Bounded (xv m c)) :
    V17 m (outs m) c (Proc.devRef .tc main_v64) = val_main_v170 (F := Ideal) (xq m c) (xk m c) (xv m c) := by
  funext j
  have h1 : (j 1).val < 8192 := (j 1).isLt
  have h2 : (j 2).val < 2048 := (j 2).isLt
  obtain ⟨b, i, a, h, g, d, rfl⟩ : ∃ (b : Fin 4) (i : Fin 256) (a : Fin 32) (h : Fin 4) (g : Fin 8) (d : Fin 64),
      j = ix3 b (qtok i a) (col32 (head h g) d) := by
    refine ⟨j 0, ⟨(j 1).val / 32, by omega⟩, ⟨(j 1).val % 32, by omega⟩, ⟨(j 2).val / 512, by omega⟩, ⟨(j 2).val / 64 % 8, by omega⟩,
      ⟨(j 2).val % 64, by omega⟩, ?_⟩
    funext a
    match a with
    | ⟨0, _⟩ => rfl
    | ⟨1, _⟩ => exact Fin.ext (by show (j 1).val = (j 1).val / 32 * 32 + (j 1).val % 32; omega)
    | ⟨2, _⟩ => exact Fin.ext (by show (j 2).val = ((j 2).val / 512 * 8 + (j 2).val / 64 % 8) * 64 + (j 2).val % 64; omega)
  exact (out_row m c hq hk hv b h i a g d).trans (ref_out _ _ _ b h (qtok i a) g d).symm

end Cert.Value

end
-- ==== Proof.Value.KScales.lean ====
/- The scales that the kernel returns are the reference's. -/
module

public import proofs.«01_k».proof.Proof.Value.KValue

@[expose] public section

noncomputable section

namespace Cert.Value

open Idealize Idealize.ShloMosaic.TcCoe Idealize.ShloMosaic.ValueIdx
open Idealize.ShloMosaic hiding ix1 ix2 ix3 ix4 ix5 eq_ix1 eq_ix2 eq_ix3 eq_ix4 eq_ix5
open Cert.KernelIdeal Cert.KernelIdeal.Gen Cert.KernelIdeal.Own Cert.KernelIdeal.Run
open Idealize.SL.Sem
open Cert.ReferenceIdeal.Read (val_main_v171 val_main_v171_apply val_main_v47 val_main_v73)

attribute [local irreducible] Ideal.ofBits Finset.fold Ideal.div Ideal.exp2 Ideal.exp pw clip kinv kscale rscale qtop krow rrow biasE

variable (m : (ℓ : Loc nD τ sig) → Buf (Elt Ideal) ℓ) (o : Outs (F := Ideal)) (c : Dev nD)

/-- What the calls before the attention left is still there after it. -/
theorem at16 (r : Ref sig .tc) (h16 : r ∉ ([main_v61] : List (Ref sig .tc))) (h15 : r ∉ hostOps4_6_W) (h14 : r ∉ hostOps4_5_W) (h13 : r ∉ hostOps4_4_W)
    (h12 : r ∉ hostOps4_3_W) (h11 : r ∉ hostOps4_2_W) (h10 : r ∉ hostOps4_1_W) (h9 : r ∉ hostOps4_W) : V16 m o c r = V8 m o c r :=
  (V16_of m o c r h16).trans <| (V15_of m o c r h15).trans <| (V14_of m o c r h14).trans <| (V13_of m o c r h13).trans <|
    (V12_of m o c r h12).trans <| (V11_of m o c r h11).trans <| (V10_of m o c r h10).trans (V9_of m o c r h9)

theorem at8_main_v1_1 : V8 m o c (Proc.devRef .tc main_v1_1) = o 2 main_v1_1 c := by
  rw [V8_of m o c main_v1_1 (by decide), V7_of m o c main_v1_1 (by decide), V6_of m o c main_v1_1 (by decide), V5_of m o c main_v1_1 (by decide),
    V4_of m o c main_v1_1 (by decide), V3_of m o c main_v1_1 (by decide)]
  unfold V2
  rw [Function.update_self]

theorem host_v65 : V17 m o c (Proc.devRef .tc main_v65) = shapeCast S4x8192x32 (o 2 main_v1_1 c) shapeCasts_S32768x32_S4x8192x32 := by
  rw [← (at16 m o c main_v1_1 (by decide) (by decide) (by decide) (by decide) (by decide) (by decide) (by decide) (by decide)).trans (at8_main_v1_1 m o c)]
  unfold V17 hostOps5
  after_reads_simp
  rfl

theorem host_v66 : V17 m o c (Proc.devRef .tc main_v66) = shapeCast S4x8192x4 (o 4 main_v3_1 c) shapeCasts_S32768x4_S4x8192x4 := by
  rw [← (at16 m o c main_v3_1 (by decide) (by decide) (by decide) (by decide) (by decide) (by decide) (by decide) (by decide)).trans (at8_main_v3_1 m o c)]
  unfold V17 hostOps5
  after_reads_simp
  rfl

theorem host_v67 : V17 m o c (Proc.devRef .tc main_v67) = shapeCast S4x8192x4 (o 6 main_v5_1 c) shapeCasts_S32768x4_S4x8192x4 := by
  rw [← (at16 m o c main_v5_1 (by decide) (by decide) (by decide) (by decide) (by decide) (by decide) (by decide) (by decide)).trans (at8_main_v5_1 m o c)]
  unfold V17 hostOps5
  after_reads_simp
  rfl

theorem lay_sq (x : S32768x32.Idx → EReal) (b : Fin 4) (s : Fin 8192) (h : Fin 32) :
    shapeCast S4x8192x32 x shapeCasts_S32768x32_S4x8192x32 (ix3 b s h) = x (ix2 (tok b s) h) :=
  shapeCast_apply _ _ _ _ (by
    rw [Shape.rowMajor_val_two, Shape.rowMajor_val_three]
    show (b.val * 8192 + s.val) * 32 + h.val = (b.val * 8192 + s.val) * 32 + h.val
    rfl)

theorem lay_sk (x : S32768x4.Idx → EReal) (b : Fin 4) (s : Fin 8192) (h : Fin 4) :
    shapeCast S4x8192x4 x shapeCasts_S32768x4_S4x8192x4 (ix3 b s h) = x (ix2 (tok b s) h) :=
  shapeCast_apply _ _ _ _ (by
    rw [Shape.rowMajor_val_two, Shape.rowMajor_val_three]
    show (b.val * 8192 + s.val) * 4 + h.val = (b.val * 8192 + s.val) * 4 + h.val
    rfl)

theorem sq_at (b : Fin 4) (s : Fin 8192) (h : Fin 4) (g : Fin 8) :
    V17 m (outs m) c (Proc.devRef .tc main_v65) (ix3 b s (head h g)) = kscale (qtop (Ref.qrow (xq m c) b s h g)) := by
  refine (congrFun (host_v65 m (outs m) c) _).trans ?_
  refine (lay_sq _ b s (head h g)).trans ?_
  rw [hout0_2 m c, scaleArr0]
  refine rowScale_at _ _ _ _ fun d => ?_
  rw [qrow_eq]
  exact (congrFun (host_v0 m c) _).trans (rows_q _ b _ (head h g) d)

theorem sk_at (b : Fin 4) (s : Fin 8192) (h : Fin 4) :
    V17 m (outs m) c (Proc.devRef .tc main_v66) (ix3 b s h) = kscale (qtop (Ref.krow_ (xk m c) b s h)) := by
  refine (congrFun (host_v66 m (outs m) c) _).trans ?_
  refine (lay_sk _ b s h).trans ?_
  rw [hout1_2 m c, scaleArr1]
  refine rowScale_at _ _ _ _ fun d => ?_
  rw [krow_eq_]
  exact (congrFun (host_v2 m (outs m) c) _).trans (rows_k _ b s h d)

theorem sv_at (b : Fin 4) (s : Fin 8192) (h : Fin 4) :
    V17 m (outs m) c (Proc.devRef .tc main_v67) (ix3 b s h) = kscale (qtop (Ref.krow_ (xv m c) b s h)) := by
  refine (congrFun (host_v67 m (outs m) c) _).trans ?_
  refine (lay_sk _ b s h).trans ?_
  rw [hout2_2 m c, scaleArr2]
  refine rowScale_at _ _ _ _ fun d => ?_
  rw [krow_eq_]
  exact (congrFun (host_v4 m (outs m) c) _).trans (rows_k _ b s h d)

/-- The query scales. -/
theorem sq_eq (hq : Bounded (xq m c)) : V17 m (outs m) c (Proc.devRef .tc main_v65) = val_main_v171 (F := Ideal) (xq m c) := by
  funext j
  have h1 : (j 1).val < 8192 := (j 1).isLt
  have h2 : (j 2).val < 32 := (j 2).isLt
  obtain ⟨b, s, h, g, rfl⟩ : ∃ (b : Fin 4) (s : Fin 8192) (h : Fin 4) (g : Fin 8), j = ix3 b s (head h g) := by
    refine ⟨j 0, j 1, ⟨(j 2).val / 8, by omega⟩, ⟨(j 2).val % 8, by omega⟩, ?_⟩
    funext a
    match a with
    | ⟨0, _⟩ => rfl
    | ⟨1, _⟩ => rfl
    | ⟨2, _⟩ => exact Fin.ext (by show (j 2).val = (j 2).val / 8 * 8 + (j 2).val % 8; omega)
  obtain ⟨z, q, H⟩ := exists_rowQ (Ref.qrow (xq m c) b s h g) (fun d => by rw [qrow_eq]; exact hq _)
  refine (sq_at m c b s h g).trans (H.kscale.trans ?_)
  refine Eq.trans ?_ (val_main_v171_apply (F := Ideal) (xq m c) _).symm
  have e : Cert.ReferenceIdeal.Read.idx_main_v171 (ix3 b s (head h g)) = ix4 b s h g := by
    have e' : ∀ n : ℕ, n = (b.val * 8192 + s.val) * 32 + (h.val * 8 + g.val) →
      n / 262144 = b.val ∧ n / 32 % 8192 = s.val ∧ n / 8 % 4 = h.val ∧ n % 8 = g.val := by
      intro n hn
      refine ⟨?_, ?_, ?_, ?_⟩ <;> omega
    obtain ⟨e0, e1, e2, e3⟩ := e' _ rfl
    funext a
    match a with
    | ⟨0, _⟩ => exact Fin.ext e0
    | ⟨1, _⟩ => exact Fin.ext e1
    | ⟨2, _⟩ => exact Fin.ext e2
    | ⟨3, _⟩ => exact Fin.ext e3
  rw [e, Ref.scale_q, Ref.top_q, H.rscale]

/-- The key scales. -/
theorem sk_eq (hk : Bounded (xk m c)) : V17 m (outs m) c (Proc.devRef .tc main_v66) = val_main_v47 (F := Ideal) (xk m c) := by
  funext j
  obtain ⟨b, s, h, rfl⟩ : ∃ (b : Fin 4) (s : Fin 8192) (h : Fin 4), j = ix3 b s h := ⟨j 0, j 1, j 2, eq_ix3 j⟩
  obtain ⟨z, q, H⟩ := exists_rowQ (Ref.krow_ (xk m c) b s h) (fun d => by rw [krow_eq_]; exact hk _)
  refine (sk_at m c b s h).trans (H.kscale.trans ?_)
  rw [Ref.scale_k, Ref.top_k, H.rscale]

/-- The value scales. -/
theorem sv_eq (hv : Bounded (xv m c)) : V17 m (outs m) c (Proc.devRef .tc main_v67) = val_main_v73 (F := Ideal) (xv m c) := by
  funext j
  obtain ⟨b, s, h, rfl⟩ : ∃ (b : Fin 4) (s : Fin 8192) (h : Fin 4), j = ix3 b s h := ⟨j 0, j 1, j 2, eq_ix3 j⟩
  obtain ⟨z, q, H⟩ := exists_rowQ (Ref.krow_ (xv m c) b s h) (fun d => by rw [krow_eq_]; exact hv _)
  refine (sv_at m c b s h).trans (H.kscale.trans ?_)
  rw [Ref.scale_v, Ref.scale_k, Ref.top_k, H.rscale]

end Cert.Value

end
-- ==== Proof.Value.Final.lean ====
/- Both programs run and leave the same result. -/
module

public import proofs.«01_k».proof.Defs
public import proofs.«01_k».proof.Proof.Gen.ReferenceIdeal.Run
public import proofs.«01_k».proof.Proof.Gen.ReferenceIdeal.Read
public import proofs.«01_k».proof.Proof.Gen.Pre_bounded
public import proofs.«01_k».proof.Proof.Value.KValue
public import proofs.«01_k».proof.Proof.Value.KScales

@[expose] public section

noncomputable section

namespace Cert.Value

open Idealize Idealize.ShloMosaic

attribute [local irreducible] Ideal.ofBits

theorem ole_le {x y : EReal} (h : Ideal.cmp .ole x y = 1#1) : x ≤ y := by
  by_contra hn
  have h0 : Ideal.cmp .ole x y = 0#1 := by simp [Ideal.cmp, hn]
  rw [h0] at h
  exact absurd h (by decide)

theorem bounded_of {s : Shape} (x : s.Idx → EReal) (p : s.Idx → BitVec 1) (h : p = fun _ => 1#1)
    (hp : ∀ i, p i = Ideal.cmp .ole (max (x i) (-(x i))) (Ideal.ofBits .f32 0x7F7F0000#32)) : Bounded x :=
  fun i => ole_le ((hp i).symm.trans (congrFun h i))

theorem algebraic : Cert.algebraic_KernelIdeal_ReferenceIdeal_pre_bounded := by
  intro m g m' g' hpre harg
  have hq (c : Dev Cert.KernelIdeal.nD) : Bounded (xq m c) := bounded_of _ _ (hpre c).1 fun _ => rfl
  have hk (c : Dev Cert.KernelIdeal.nD) : Bounded (xk m c) := bounded_of _ _ (hpre c).2.1 fun _ => rfl
  have hv (c : Dev Cert.KernelIdeal.nD) : Bounded (xv m c) := bounded_of _ _ (hpre c).2.2 fun _ => rfl
  refine ⟨fun c => Cert.KernelIdeal.Gen.V17 m (Cert.KernelIdeal.Run.outs m) c (Proc.devRef .tc Cert.KernelIdeal.main_v64),
    fun c => Cert.KernelIdeal.Gen.V17 m (Cert.KernelIdeal.Run.outs m) c (Proc.devRef .tc Cert.KernelIdeal.main_v65),
    fun c => Cert.KernelIdeal.Gen.V17 m (Cert.KernelIdeal.Run.outs m) c (Proc.devRef .tc Cert.KernelIdeal.main_v66),
    fun c => Cert.KernelIdeal.Gen.V17 m (Cert.KernelIdeal.Run.outs m) c (Proc.devRef .tc Cert.KernelIdeal.main_v67), ?_, ?_⟩
  · exact (θ_run Cert.KernelIdeal.defs _ _).mono
      (fun r h c => ⟨(h.1 c).2.1, (h.1 c).2.2.1, (h.1 c).2.2.2.1, (h.1 c).2.2.2.2, (h.1 c).1⟩)
      (Cert.KernelIdeal.Run.run m g)
  · refine (θ_run Cert.ReferenceIdeal.defs _ _).mono (fun r h c => ⟨?_, ?_, ?_, ?_, (h c).2.2.2.2⟩) (Cert.ReferenceIdeal.Value.run (F := Ideal) m' g')
    · have e : r.2.mem ((c.tc : Thread Cert.ReferenceIdeal.nD Cert.ReferenceIdeal.τ).loc Cert.ReferenceIdeal.main_v170)
          = Cert.ReferenceIdeal.Read.val_main_v170 (F := Ideal)
            (m' ((c.tc : Thread Cert.ReferenceIdeal.nD Cert.ReferenceIdeal.τ).loc Cert.ReferenceIdeal.main_arg0))
            (m' ((c.tc : Thread Cert.ReferenceIdeal.nD Cert.ReferenceIdeal.τ).loc Cert.ReferenceIdeal.main_arg1))
            (m' ((c.tc : Thread Cert.ReferenceIdeal.nD Cert.ReferenceIdeal.τ).loc Cert.ReferenceIdeal.main_arg2)) :=
        (h c).1.trans (Cert.ReferenceIdeal.Read.val_main_v170_eq (F := Ideal) (StableHlo.launchContents m' c))
      rw [(harg c).1, (harg c).2.1, (harg c).2.2] at e
      exact e.trans (out_eq m c (hq c) (hk c) (hv c)).symm
    · have e : r.2.mem ((c.tc : Thread Cert.ReferenceIdeal.nD Cert.ReferenceIdeal.τ).loc Cert.ReferenceIdeal.main_v171)
          = Cert.ReferenceIdeal.Read.val_main_v171 (F := Ideal)
            (m' ((c.tc : Thread Cert.ReferenceIdeal.nD Cert.ReferenceIdeal.τ).loc Cert.ReferenceIdeal.main_arg0)) :=
        (h c).2.1.trans (Cert.ReferenceIdeal.Read.val_main_v171_eq (F := Ideal) (StableHlo.launchContents m' c))
      rw [(harg c).1] at e
      exact e.trans (sq_eq m c (hq c)).symm
    · have e : r.2.mem ((c.tc : Thread Cert.ReferenceIdeal.nD Cert.ReferenceIdeal.τ).loc Cert.ReferenceIdeal.main_v47)
          = Cert.ReferenceIdeal.Read.val_main_v47 (F := Ideal)
            (m' ((c.tc : Thread Cert.ReferenceIdeal.nD Cert.ReferenceIdeal.τ).loc Cert.ReferenceIdeal.main_arg1)) :=
        (h c).2.2.1.trans (Cert.ReferenceIdeal.Read.val_main_v47_eq (F := Ideal) (StableHlo.launchContents m' c))
      rw [(harg c).2.1] at e
      exact e.trans (sk_eq m c (hk c)).symm
    · have e : r.2.mem ((c.tc : Thread Cert.ReferenceIdeal.nD Cert.ReferenceIdeal.τ).loc Cert.ReferenceIdeal.main_v73)
          = Cert.ReferenceIdeal.Read.val_main_v73 (F := Ideal)
            (m' ((c.tc : Thread Cert.ReferenceIdeal.nD Cert.ReferenceIdeal.τ).loc Cert.ReferenceIdeal.main_arg2)) :=
        (h c).2.2.2.1.trans (Cert.ReferenceIdeal.Read.val_main_v73_eq (F := Ideal) (StableHlo.launchContents m' c))
      rw [(harg c).2.2] at e
      exact e.trans (sv_eq m c (hv c)).symm

end Cert.Value

end
-- ==== Proof.lean ====
module

public import proofs.«01_k».proof.Defs
public import proofs.«01_k».proof.Proof.Gen.Kernel
public import proofs.«01_k».proof.Proof.Gen.KernelIdeal
public import proofs.«01_k».proof.Proof.Gen.Kernel.RegionsRQ
public import proofs.«01_k».proof.Proof.Gen.KernelIdeal.RegionsRQ
public import proofs.«01_k».proof.Proof.Gen.ReferenceIdeal
public import proofs.«01_k».proof.Proof.Gen.Own.Kernel.RegionsD
public import proofs.«01_k».proof.Proof.Gen.Own.KernelIdeal.RegionsD
public import proofs.«01_k».proof.Proof.Gen.ReferenceIdeal.Run
public import proofs.«01_k».proof.Proof.Gen.ReferenceIdeal.Read
public import proofs.«01_k».proof.Proof.Gen.Pre_bounded
public import proofs.«01_k».proof.Proof.Kernel.Run
public import proofs.«01_k».proof.Proof.KernelIdeal.Run
public import proofs.«01_k».proof.Proof.Value.Final
public import Idealize.ShloMosaic.Adequacy
public import Idealize.ShloMosaic.Init

@[expose] public section

noncomputable section

namespace Cert.Proof

open Idealize Idealize.ShloMosaic

/-- The kernel ends, keeps its arguments and leaves every counter at zero. -/
theorem frame_kernel : Cert.quiescent_Kernel := fun m g _ => Cert.Kernel.Run.frame m g

/-- The same of the kernel over the extended reals. -/
theorem frame_ideal : Cert.quiescent_KernelIdeal := fun m g _ => Cert.KernelIdeal.Run.frame m g

/-- The same of the reference, which has no counters at all. -/
theorem frame_reference : Cert.quiescent_ReferenceIdeal := by
  intro m g _
  exact (θ_run Cert.ReferenceIdeal.defs _ _).mono
    (fun r h => ⟨fun c => (h c).2.2.2.2, sem_eq_zero_of_no_sems (by decide) r.2⟩)
    (Cert.ReferenceIdeal.Value.run (F := Ideal) m g)

/-- The two named constants of the attention body. -/
theorem preserves : Cert.preserves_Kernel_KernelIdeal :=
  ⟨IdealRules.named_const.statement Cert.KernelIdeal.κ "log2e" .f32 0x3FB8AA3B#32 _ rfl,
    IdealRules.named_const.statement Cert.KernelIdeal.κ "scaled_log2e" .f32 0x3E38AA3B#32 _ rfl⟩

theorem claim : Cert.Claim :=
  ⟨Cert.Kernel.Gen.facts, Cert.KernelIdeal.Gen.facts, Cert.ReferenceIdeal.Gen.facts, Cert.Pre_bounded.Gen.facts, frame_kernel, frame_ideal,
    fun m g _ => Cert.KernelIdeal.Run.frame m g, frame_reference, fun m g _ => frame_reference m g trivial, preserves, Cert.Value.algebraic⟩

end Cert.Proof

end
